-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 4096]⟩ ⟨2, ![8192, 4096]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x512 : Shape := ⟨2, ![8192, 512]⟩
abbrev S512x4096 : Shape := ⟨2, ![512, 4096]⟩
abbrev S16 : Shape := ⟨1, ![16]⟩
abbrev S_ : Shape := ⟨0, ![]⟩
abbrev S1 : Shape := ⟨1, ![1]⟩
abbrev S4 : Shape := ⟨1, ![4]⟩
abbrev S8192x4096 : Shape := ⟨2, ![8192, 4096]⟩
abbrev S2x15x256x4096 : Shape := ⟨4, ![2, 15, 256, 4096]⟩
abbrev S2x2x256x4096 : Shape := ⟨4, ![2, 2, 256, 4096]⟩
abbrev S2x256x4096 : Shape := ⟨3, ![2, 256, 4096]⟩
abbrev S2x15 : Shape := ⟨2, ![2, 15]⟩
abbrev S2x2 : Shape := ⟨2, ![2, 2]⟩
abbrev S2 : Shape := ⟨1, ![2]⟩
abbrev S256x512 : Shape := ⟨2, ![256, 512]⟩
abbrev S256x4096 : Shape := ⟨2, ![256, 4096]⟩
abbrev S1x1x256x4096 : Shape := ⟨4, ![1, 1, 256, 4096]⟩
abbrev S1x1 : Shape := ⟨2, ![1, 1]⟩
abbrev S1x256x4096 : Shape := ⟨3, ![1, 256, 4096]⟩

abbrev nBuf : Space → Nat
  | .hbm => 96
  | .vmem => 5
  | .smem => 1
  | _ => 0

abbrev bufTy : (tb : Table) → Fin (tcTables nBuf tb) → BufTy
  | .hbm, ⟨0, _⟩ => ⟨S8192x512, .bf16⟩
  | .hbm, ⟨1, _⟩ => ⟨S512x4096, .bf16⟩
  | .hbm, ⟨2, _⟩ => ⟨S16, .i32⟩
  | .hbm, ⟨3, _⟩ => ⟨S16, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i1⟩
  | .hbm, ⟨32, _⟩ => ⟨S_, .i1⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i1⟩
  | .hbm, ⟨58, _⟩ => ⟨S_, .i1⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i1⟩
  | .hbm, ⟨80, _⟩ => ⟨S_, .i32⟩
  | .hbm, ⟨81, _⟩ => ⟨S_, .i1⟩
  | .hbm, ⟨82, _⟩ => ⟨S_, .i32⟩
  | .hbm, ⟨83, _⟩ => ⟨S_, .i1⟩
  | .hbm, ⟨84, _⟩ => ⟨S_, .i1⟩
  | .hbm, ⟨85, _⟩ => ⟨S_, .i1⟩
  | .hbm, ⟨86, _⟩ => ⟨S_, .i32⟩
  | .hbm, ⟨87, _⟩ => ⟨S_, .i32⟩
  | .hbm, ⟨88, _⟩ => ⟨S1, .i32⟩
  | .hbm, ⟨89, _⟩ => ⟨S1, .i32⟩
  | .hbm, ⟨90, _⟩ => ⟨S1, .i32⟩
  | .hbm, ⟨91, _⟩ => ⟨S1, .i32⟩
  | .hbm, ⟨92, _⟩ => ⟨S4, .i32⟩
  | .hbm, ⟨93, _⟩ => ⟨S8192x4096, .f32⟩
  | .hbm, ⟨94, _⟩ => ⟨S2x15x256x4096, .bf16⟩
  | .hbm, ⟨95, _⟩ => ⟨S2x15x256x4096, .bf16⟩
  | .local _ .vmem, ⟨0, _⟩ => ⟨S8192x512, .bf16⟩
  | .local _ .vmem, ⟨1, _⟩ => ⟨S512x4096, .bf16⟩
  | .local _ .vmem, ⟨2, _⟩ => ⟨S2x2x256x4096, .bf16⟩
  | .local _ .vmem, ⟨3, _⟩ => ⟨S2x256x4096, .bf16⟩
  | .local _ .vmem, ⟨4, _⟩ => ⟨S2x256x4096, .f32⟩
  | .local _ .smem, ⟨0, _⟩ => ⟨S4, .i32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 1 → Bool
  | ⟨0, _⟩ => false
  | _ => false

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  (ofTc nBuf bufTy 1 75 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_c_1 : Ref sig .tc := ⟨.hbm, 26, rfl⟩
abbrev main_call0_v4 : Ref sig .tc := ⟨.hbm, 27, rfl⟩
abbrev main_call0_c_2 : Ref sig .tc := ⟨.hbm, 28, rfl⟩
abbrev main_call0_v5 : Ref sig .tc := ⟨.hbm, 29, rfl⟩
abbrev main_call0_c_3 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_v11 : Ref sig .tc := ⟨.hbm, 35, rfl⟩
abbrev main_c_7 : Ref sig .tc := ⟨.hbm, 36, rfl⟩
abbrev main_v12 : Ref sig .tc := ⟨.hbm, 37, rfl⟩
abbrev main_c_8 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_9 : Ref sig .tc := ⟨.hbm, 43, rfl⟩
abbrev main_v17 : Ref sig .tc := ⟨.hbm, 44, rfl⟩
abbrev main_c_10 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_c_1 : Ref sig .tc := ⟨.hbm, 52, rfl⟩
abbrev main_call1_v4 : Ref sig .tc := ⟨.hbm, 53, rfl⟩
abbrev main_call1_c_2 : Ref sig .tc := ⟨.hbm, 54, rfl⟩
abbrev main_call1_v5 : Ref sig .tc := ⟨.hbm, 55, rfl⟩
abbrev main_call1_c_3 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_v18 : Ref sig .tc := ⟨.hbm, 61, rfl⟩
abbrev main_c_11 : Ref sig .tc := ⟨.hbm, 62, rfl⟩
abbrev main_v19 : Ref sig .tc := ⟨.hbm, 63, rfl⟩
abbrev main_c_12 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_13 : Ref sig .tc := ⟨.hbm, 69, rfl⟩
abbrev main_v24 : Ref sig .tc := ⟨.hbm, 70, rfl⟩
abbrev main_c_14 : Ref sig .tc := ⟨.hbm, 71, rfl⟩
abbrev main_call2_v0 : Ref sig .tc := ⟨.hbm, 72, rfl⟩
abbrev main_call2_c : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_c_1 : Ref sig .tc := ⟨.hbm, 78, rfl⟩
abbrev main_call2_v4 : Ref sig .tc := ⟨.hbm, 79, rfl⟩
abbrev main_call2_c_2 : Ref sig .tc := ⟨.hbm, 80, rfl⟩
abbrev main_call2_v5 : Ref sig .tc := ⟨.hbm, 81, rfl⟩
abbrev main_call2_c_3 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31_0 : Ref sig .tc := ⟨.hbm, 93, rfl⟩
abbrev main_v31_1 : Ref sig .tc := ⟨.hbm, 94, rfl⟩
abbrev main_v31_2 : Ref sig .tc := ⟨.hbm, 95, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_off1 (v0 : BitVec 32) : Fin 2 → Nat :=
  let c0_i32_0 : BitVec 32 := 0#32
  let c0_i32 : BitVec 32 := 0#32
  let v4 : BitVec 32 := Scalar.subi v0 c0_i32
  let c32_i32 : BitVec 32 := 32#32
  let v5 : BitVec 32 := Scalar.addi v4 c32_i32
  let c16_i32 : BitVec 32 := 16#32
  let v6 : BitVec 32 := Scalar.remsi v5 c16_i32
  let c256_i32 : BitVec 32 := 256#32
  let v7 : BitVec 32 := Scalar.muli v6 c256_i32
  let v8 : BitVec 32 := Scalar.addi c0_i32_0 v7
  let v9 : Index := Scalar.indexCast v8
  let c0_1 : Index := 0#32
  ![v9.toNat, 0]

def k0_off2 (v1 : BitVec 32) : Fin 2 → Nat :=
  let c4096_i32 : BitVec 32 := 4096#32
  let c0_i32_8 : BitVec 32 := 0#32
  let v19 : BitVec 32 := Scalar.subi v1 c0_i32_8
  let c32_i32_9 : BitVec 32 := 32#32
  let v20 : BitVec 32 := Scalar.addi v19 c32_i32_9
  let c16_i32_10 : BitVec 32 := 16#32
  let v21 : BitVec 32 := Scalar.remsi v20 c16_i32_10
  let c256_i32_11 : BitVec 32 := 256#32
  let v22 : BitVec 32 := Scalar.muli v21 c256_i32_11
  let v23 : BitVec 32 := Scalar.addi c4096_i32 v22
  let v24 : Index := Scalar.indexCast v23
  let c0_12 : Index := 0#32
  ![v24.toNat, 0]

def k0_dev1 (v2 : BitVec 32) : Nat :=
  v2.toNat

def k0_dev2 (v3 : BitVec 32) : Nat :=
  v3.toNat

def k0_dev3 (v2 : BitVec 32) : Nat :=
  v2.toNat
def k0_dev4 (v3 : BitVec 32) : Nat :=
  v3.toNat
def k0_off3 (v0 : BitVec 32) (c1_i32_45 : BitVec 32) : Fin 2 → Nat :=
  let c0_i32_49 : BitVec 32 := 0#32
  let v51 : BitVec 32 := Scalar.subi v0 c1_i32_45
  let c32_i32_46 : BitVec 32 := 32#32
  let v52 : BitVec 32 := Scalar.addi v51 c32_i32_46
  let c16_i32_47 : BitVec 32 := 16#32
  let v53 : BitVec 32 := Scalar.remsi v52 c16_i32_47
  let c256_i32_48 : BitVec 32 := 256#32
  let v54 : BitVec 32 := Scalar.muli v53 c256_i32_48
  let v55 : BitVec 32 := Scalar.addi c0_i32_49 v54
  let v56 : Index := Scalar.indexCast v55
  let c0_50 : Index := 0#32
  ![v56.toNat, 0]
def k0_off4 (v1 : BitVec 32) (c1_i32_89 : BitVec 32) : Fin 2 → Nat :=
  let c4096_i32_93 : BitVec 32 := 4096#32
  let v88 : BitVec 32 := Scalar.subi v1 c1_i32_89
  let c32_i32_90 : BitVec 32 := 32#32
  let v89 : BitVec 32 := Scalar.addi v88 c32_i32_90
  let c16_i32_91 : BitVec 32 := 16#32
  let v90 : BitVec 32 := Scalar.remsi v89 c16_i32_91
  let c256_i32_92 : BitVec 32 := 256#32
  let v91 : BitVec 32 := Scalar.muli v90 c256_i32_92
  let v92 : BitVec 32 := Scalar.addi c4096_i32_93 v91
  let v93 : Index := Scalar.indexCast v92
  let c0_94 : Index := 0#32
  ![v93.toNat, 0]
def k0_dev5 (v2 : BitVec 32) : Nat :=
  v2.toNat
def k0_dev6 (v3 : BitVec 32) : Nat :=
  v3.toNat
def k0_dev7 (v2 : BitVec 32) : Nat :=
  v2.toNat
def k0_dev8 (v3 : BitVec 32) : Nat :=
  v3.toNat
def k0_dev9 (v2 : BitVec 32) : Nat :=
  v2.toNat
def k0_dev10 (v3 : BitVec 32) : Nat :=
  v3.toNat
def k0_dev11 (v2 : BitVec 32) : Nat :=
  v2.toNat
def k0_dev12 (v3 : BitVec 32) : Nat :=
  v3.toNat
def k0_dev13 (v2 : BitVec 32) : Nat :=
  v2.toNat
def k0_dev14 (v3 : BitVec 32) : Nat :=
  v3.toNat
def k0_dev15 (v2 : BitVec 32) : Nat :=
  v2.toNat
def k0_dev16 (v3 : BitVec 32) : Nat :=
  v3.toNat
def k0_dev17 (v2 : BitVec 32) : Nat :=
  v2.toNat
def k0_dev18 (v3 : BitVec 32) : Nat :=
  v3.toNat
def k0_dev19 (v2 : BitVec 32) : Nat :=
  v2.toNat
def k0_dev20 (v3 : BitVec 32) : Nat :=
  v3.toNat
def k0_dev21 (v2 : BitVec 32) : Nat :=
  v2.toNat
def k0_dev22 (v3 : BitVec 32) : Nat :=
  v3.toNat
def k0_dev23 (v2 : BitVec 32) : Nat :=
  v2.toNat
def k0_dev24 (v3 : BitVec 32) : Nat :=
  v3.toNat
def k0_dev25 (v2 : BitVec 32) : Nat :=
  v2.toNat
def k0_dev26 (v3 : BitVec 32) : Nat :=
  v3.toNat
def k0_dev27 (v2 : BitVec 32) : Nat :=
  v2.toNat
def k0_dev28 (v3 : BitVec 32) : Nat :=
  v3.toNat
def k0_dev29 (v2 : BitVec 32) : Nat :=
  v2.toNat
def k0_dev30 (v3 : BitVec 32) : Nat :=
  v3.toNat
def k0_dev31 (v2 : BitVec 32) : Nat :=
  v2.toNat
def k0_dev32 (v3 : BitVec 32) : Nat :=
  v3.toNat
def k0_off5 (v0 : BitVec 32) (c15_i32 : BitVec 32) : Fin 2 → Nat :=
  let c0_i32_1982 : BitVec 32 := 0#32
  let v1467 : BitVec 32 := Scalar.subi v0 c15_i32
  let c32_i32_1939 : BitVec 32 := 32#32
  let v1468 : BitVec 32 := Scalar.addi v1467 c32_i32_1939
  let c16_i32_1940 : BitVec 32 := 16#32
  let v1469 : BitVec 32 := Scalar.remsi v1468 c16_i32_1940
  let c256_i32_1981 : BitVec 32 := 256#32
  let v1503 : BitVec 32 := Scalar.muli v1469 c256_i32_1981
  let v1504 : BitVec 32 := Scalar.addi c0_i32_1982 v1503
  let c0_i32_1985 : BitVec 32 := 0#32
  ![v1504.toNat, 0]

def k0_chk1 (v0 : BitVec 32) : Prop :=
  (∀ a, (k0_off1 v0) a + S256x512.size a ≤ S8192x512.size a) ∧
  (∀ (r : Fin 15), ∀ a, (k0_off3 v0 (BitVec.ofNat 32 (1 + r.val))) a + S256x512.size a ≤ S8192x512.size a) ∧
  (∀ (r : Fin 16), ∀ a, (k0_off5 v0 (BitVec.ofNat 32 r.val)) a + S256x4096.size a ≤ S8192x4096.size a)
theorem k0_off1_inb : ∀ (v0 : BitVec 32) (k0_hw1 : k0_chk1 v0), ∀ a, (k0_off1 v0) a + S256x512.size a ≤ S8192x512.size a := fun v0 k0_hw1 => k0_hw1.1
theorem k0_off3_inb : ∀ (v0 : BitVec 32) (k0_hw1 : k0_chk1 v0), ∀ (r : Fin 15), ∀ a, (k0_off3 v0 (BitVec.ofNat 32 (1 + r.val))) a + S256x512.size a ≤ S8192x512.size a := fun v0 k0_hw1 r => k0_hw1.2.1 r
theorem k0_off5_inb : ∀ (v0 : BitVec 32) (k0_hw1 : k0_chk1 v0), ∀ (r : Fin 16), ∀ a, (k0_off5 v0 (BitVec.ofNat 32 r.val)) a + S256x4096.size a ≤ S8192x4096.size a := fun v0 k0_hw1 r => k0_hw1.2.2 r

def k0_off6 (v1 : BitVec 32) (c15_i32_2005 : BitVec 32) : Fin 2 → Nat :=
  let c4096_i32_2049 : BitVec 32 := 4096#32
  let v1520 : BitVec 32 := Scalar.subi v1 c15_i32_2005
  let c32_i32_2006 : BitVec 32 := 32#32
  let v1521 : BitVec 32 := Scalar.addi v1520 c32_i32_2006
  let c16_i32_2007 : BitVec 32 := 16#32
  let v1522 : BitVec 32 := Scalar.remsi v1521 c16_i32_2007
  let c256_i32_2048 : BitVec 32 := 256#32
  let v1556 : BitVec 32 := Scalar.muli v1522 c256_i32_2048
  let v1557 : BitVec 32 := Scalar.addi c4096_i32_2049 v1556
  let c0_i32_2052 : BitVec 32 := 0#32
  ![v1557.toNat, 0]

def k0_chk2 (v1 : BitVec 32) : Prop :=
  (∀ a, (k0_off2 v1) a + S256x512.size a ≤ S8192x512.size a) ∧
  (∀ (r : Fin 15), ∀ a, (k0_off4 v1 (BitVec.ofNat 32 (1 + r.val))) a + S256x512.size a ≤ S8192x512.size a) ∧
  (∀ (r : Fin 16), ∀ a, (k0_off6 v1 (BitVec.ofNat 32 r.val)) a + S256x4096.size a ≤ S8192x4096.size a)
theorem k0_off2_inb : ∀ (v1 : BitVec 32) (k0_hw2 : k0_chk2 v1), ∀ a, (k0_off2 v1) a + S256x512.size a ≤ S8192x512.size a := fun v1 k0_hw2 => k0_hw2.1
theorem k0_off4_inb : ∀ (v1 : BitVec 32) (k0_hw2 : k0_chk2 v1), ∀ (r : Fin 15), ∀ a, (k0_off4 v1 (BitVec.ofNat 32 (1 + r.val))) a + S256x512.size a ≤ S8192x512.size a := fun v1 k0_hw2 r => k0_hw2.2.1 r
theorem k0_off6_inb : ∀ (v1 : BitVec 32) (k0_hw2 : k0_chk2 v1), ∀ (r : Fin 16), ∀ a, (k0_off6 v1 (BitVec.ofNat 32 r.val)) a + S256x4096.size a ≤ S8192x4096.size a := fun v1 k0_hw2 r => k0_hw2.2.2 r

def k0_dev33 (v2 : BitVec 32) : Nat :=
  v2.toNat
def k0_dev34 (v3 : BitVec 32) : Nat :=
  v3.toNat
def k0_dev35 (v2 : BitVec 32) : Nat :=
  v2.toNat
def k0_dev36 (v3 : BitVec 32) : Nat :=
  v3.toNat
def k0_dev37 (v2 : BitVec 32) : Nat :=
  v2.toNat
def k0_dev38 (v3 : BitVec 32) : Nat :=
  v3.toNat
def k0_dev39 (v2 : BitVec 32) : Nat :=
  v2.toNat
def k0_dev40 (v3 : BitVec 32) : Nat :=
  v3.toNat
def k0_dev41 (v2 : BitVec 32) : Nat :=
  v2.toNat
def k0_dev42 (v3 : BitVec 32) : Nat :=
  v3.toNat
def k0_dev43 (v2 : BitVec 32) : Nat :=
  v2.toNat
def k0_dev44 (v3 : BitVec 32) : Nat :=
  v3.toNat
def k0_dev45 (v2 : BitVec 32) : Nat :=
  v2.toNat
def k0_dev46 (v3 : BitVec 32) : Nat :=
  v3.toNat
def k0_dev47 (v2 : BitVec 32) : Nat :=
  v2.toNat
def k0_dev48 (v3 : BitVec 32) : Nat :=
  v3.toNat
def k0_dev49 (v2 : BitVec 32) : Nat :=
  v2.toNat
def k0_dev50 (v3 : BitVec 32) : Nat :=
  v3.toNat
def k0_dev51 (v2 : BitVec 32) : Nat :=
  v2.toNat
def k0_dev52 (v3 : BitVec 32) : Nat :=
  v3.toNat
def k0_dev53 (v2 : BitVec 32) : Nat :=
  v2.toNat
def k0_dev54 (v3 : BitVec 32) : Nat :=
  v3.toNat
def k0_dev55 (v2 : BitVec 32) : Nat :=
  v2.toNat
def k0_dev56 (v3 : BitVec 32) : Nat :=
  v3.toNat
def k0_dev57 (v2 : BitVec 32) : Nat :=
  v2.toNat
def k0_dev58 (v3 : BitVec 32) : Nat :=
  v3.toNat
def k0_dev59 (v2 : BitVec 32) : Nat :=
  v2.toNat
def k0_dev60 (v3 : BitVec 32) : Nat :=
  v3.toNat
def k0_dev61 (v2 : BitVec 32) : Nat :=
  v2.toNat

def k0_chk3 (v2 : BitVec 32) : Prop :=
  ((k0_dev1 v2) < nD) ∧
  ((k0_dev3 v2) < nD) ∧
  ((k0_dev5 v2) < nD) ∧
  ((k0_dev7 v2) < nD) ∧
  ((k0_dev9 v2) < nD) ∧
  ((k0_dev11 v2) < nD) ∧
  ((k0_dev13 v2) < nD) ∧
  ((k0_dev15 v2) < nD) ∧
  ((k0_dev17 v2) < nD) ∧
  ((k0_dev19 v2) < nD) ∧
  ((k0_dev21 v2) < nD) ∧
  ((k0_dev23 v2) < nD) ∧
  ((k0_dev25 v2) < nD) ∧
  ((k0_dev27 v2) < nD) ∧
  ((k0_dev29 v2) < nD) ∧
  ((k0_dev31 v2) < nD) ∧
  ((k0_dev33 v2) < nD) ∧
  ((k0_dev35 v2) < nD) ∧
  ((k0_dev37 v2) < nD) ∧
  ((k0_dev39 v2) < nD) ∧
  ((k0_dev41 v2) < nD) ∧
  ((k0_dev43 v2) < nD) ∧
  ((k0_dev45 v2) < nD) ∧
  ((k0_dev47 v2) < nD) ∧
  ((k0_dev49 v2) < nD) ∧
  ((k0_dev51 v2) < nD) ∧
  ((k0_dev53 v2) < nD) ∧
  ((k0_dev55 v2) < nD) ∧
  ((k0_dev57 v2) < nD) ∧
  ((k0_dev59 v2) < nD) ∧
  ((k0_dev61 v2) < nD)
theorem k0_dev1_lt : ∀ (v2 : BitVec 32) (k0_hw3 : k0_chk3 v2), (k0_dev1 v2) < nD := fun v2 k0_hw3 => k0_hw3.1
theorem k0_dev3_lt : ∀ (v2 : BitVec 32) (k0_hw3 : k0_chk3 v2), (k0_dev3 v2) < nD := fun v2 k0_hw3 => k0_hw3.2.1
theorem k0_dev5_lt : ∀ (v2 : BitVec 32) (k0_hw3 : k0_chk3 v2), (k0_dev5 v2) < nD := fun v2 k0_hw3 => k0_hw3.2.2.1
theorem k0_dev7_lt : ∀ (v2 : BitVec 32) (k0_hw3 : k0_chk3 v2), (k0_dev7 v2) < nD := fun v2 k0_hw3 => k0_hw3.2.2.2.1
theorem k0_dev9_lt : ∀ (v2 : BitVec 32) (k0_hw3 : k0_chk3 v2), (k0_dev9 v2) < nD := fun v2 k0_hw3 => k0_hw3.2.2.2.2.1
theorem k0_dev11_lt : ∀ (v2 : BitVec 32) (k0_hw3 : k0_chk3 v2), (k0_dev11 v2) < nD := fun v2 k0_hw3 => k0_hw3.2.2.2.2.2.1
theorem k0_dev13_lt : ∀ (v2 : BitVec 32) (k0_hw3 : k0_chk3 v2), (k0_dev13 v2) < nD := fun v2 k0_hw3 => k0_hw3.2.2.2.2.2.2.1
theorem k0_dev15_lt : ∀ (v2 : BitVec 32) (k0_hw3 : k0_chk3 v2), (k0_dev15 v2) < nD := fun v2 k0_hw3 => k0_hw3.2.2.2.2.2.2.2.1
theorem k0_dev17_lt : ∀ (v2 : BitVec 32) (k0_hw3 : k0_chk3 v2), (k0_dev17 v2) < nD := fun v2 k0_hw3 => k0_hw3.2.2.2.2.2.2.2.2.1
theorem k0_dev19_lt : ∀ (v2 : BitVec 32) (k0_hw3 : k0_chk3 v2), (k0_dev19 v2) < nD := fun v2 k0_hw3 => k0_hw3.2.2.2.2.2.2.2.2.2.1
theorem k0_dev21_lt : ∀ (v2 : BitVec 32) (k0_hw3 : k0_chk3 v2), (k0_dev21 v2) < nD := fun v2 k0_hw3 => k0_hw3.2.2.2.2.2.2.2.2.2.2.1
theorem k0_dev23_lt : ∀ (v2 : BitVec 32) (k0_hw3 : k0_chk3 v2), (k0_dev23 v2) < nD := fun v2 k0_hw3 => k0_hw3.2.2.2.2.2.2.2.2.2.2.2.1
theorem k0_dev25_lt : ∀ (v2 : BitVec 32) (k0_hw3 : k0_chk3 v2), (k0_dev25 v2) < nD := fun v2 k0_hw3 => k0_hw3.2.2.2.2.2.2.2.2.2.2.2.2.1
theorem k0_dev27_lt : ∀ (v2 : BitVec 32) (k0_hw3 : k0_chk3 v2), (k0_dev27 v2) < nD := fun v2 k0_hw3 => k0_hw3.2.2.2.2.2.2.2.2.2.2.2.2.2.1
theorem k0_dev29_lt : ∀ (v2 : BitVec 32) (k0_hw3 : k0_chk3 v2), (k0_dev29 v2) < nD := fun v2 k0_hw3 => k0_hw3.2.2.2.2.2.2.2.2.2.2.2.2.2.2.1
theorem k0_dev31_lt : ∀ (v2 : BitVec 32) (k0_hw3 : k0_chk3 v2), (k0_dev31 v2) < nD := fun v2 k0_hw3 => k0_hw3.2.2.2.2.2.2.2.2.2.2.2.2.2.2.2.1
theorem k0_dev33_lt : ∀ (v2 : BitVec 32) (k0_hw3 : k0_chk3 v2), (k0_dev33 v2) < nD := fun v2 k0_hw3 => k0_hw3.2.2.2.2.2.2.2.2.2.2.2.2.2.2.2.2.1
theorem k0_dev35_lt : ∀ (v2 : BitVec 32) (k0_hw3 : k0_chk3 v2), (k0_dev35 v2) < nD := fun v2 k0_hw3 => k0_hw3.2.2.2.2.2.2.2.2.2.2.2.2.2.2.2.2.2.1
theorem k0_dev37_lt : ∀ (v2 : BitVec 32) (k0_hw3 : k0_chk3 v2), (k0_dev37 v2) < nD := fun v2 k0_hw3 => k0_hw3.2.2.2.2.2.2.2.2.2.2.2.2.2.2.2.2.2.2.1
theorem k0_dev39_lt : ∀ (v2 : BitVec 32) (k0_hw3 : k0_chk3 v2), (k0_dev39 v2) < nD := fun v2 k0_hw3 => k0_hw3.2.2.2.2.2.2.2.2.2.2.2.2.2.2.2.2.2.2.2.1
theorem k0_dev41_lt : ∀ (v2 : BitVec 32) (k0_hw3 : k0_chk3 v2), (k0_dev41 v2) < nD := fun v2 k0_hw3 => k0_hw3.2.2.2.2.2.2.2.2.2.2.2.2.2.2.2.2.2.2.2.2.1
theorem k0_dev43_lt : ∀ (v2 : BitVec 32) (k0_hw3 : k0_chk3 v2), (k0_dev43 v2) < nD := fun v2 k0_hw3 => k0_hw3.2.2.2.2.2.2.2.2.2.2.2.2.2.2.2.2.2.2.2.2.2.1
theorem k0_dev45_lt : ∀ (v2 : BitVec 32) (k0_hw3 : k0_chk3 v2), (k0_dev45 v2) < nD := fun v2 k0_hw3 => k0_hw3.2.2.2.2.2.2.2.2.2.2.2.2.2.2.2.2.2.2.2.2.2.2.1
theorem k0_dev47_lt : ∀ (v2 : BitVec 32) (k0_hw3 : k0_chk3 v2), (k0_dev47 v2) < nD := fun v2 k0_hw3 => k0_hw3.2.2.2.2.2.2.2.2.2.2.2.2.2.2.2.2.2.2.2.2.2.2.2.1
theorem k0_dev49_lt : ∀ (v2 : BitVec 32) (k0_hw3 : k0_chk3 v2), (k0_dev49 v2) < nD := fun v2 k0_hw3 => k0_hw3.2.2.2.2.2.2.2.2.2.2.2.2.2.2.2.2.2.2.2.2.2.2.2.2.1
theorem k0_dev51_lt : ∀ (v2 : BitVec 32) (k0_hw3 : k0_chk3 v2), (k0_dev51 v2) < nD := fun v2 k0_hw3 => k0_hw3.2.2.2.2.2.2.2.2.2.2.2.2.2.2.2.2.2.2.2.2.2.2.2.2.2.1
theorem k0_dev53_lt : ∀ (v2 : BitVec 32) (k0_hw3 : k0_chk3 v2), (k0_dev53 v2) < nD := fun v2 k0_hw3 => k0_hw3.2.2.2.2.2.2.2.2.2.2.2.2.2.2.2.2.2.2.2.2.2.2.2.2.2.2.1
theorem k0_dev55_lt : ∀ (v2 : BitVec 32) (k0_hw3 : k0_chk3 v2), (k0_dev55 v2) < nD := fun v2 k0_hw3 => k0_hw3.2.2.2.2.2.2.2.2.2.2.2.2.2.2.2.2.2.2.2.2.2.2.2.2.2.2.2.1
theorem k0_dev57_lt : ∀ (v2 : BitVec 32) (k0_hw3 : k0_chk3 v2), (k0_dev57 v2) < nD := fun v2 k0_hw3 => k0_hw3.2.2.2.2.2.2.2.2.2.2.2.2.2.2.2.2.2.2.2.2.2.2.2.2.2.2.2.2.1
theorem k0_dev59_lt : ∀ (v2 : BitVec 32) (k0_hw3 : k0_chk3 v2), (k0_dev59 v2) < nD := fun v2 k0_hw3 => k0_hw3.2.2.2.2.2.2.2.2.2.2.2.2.2.2.2.2.2.2.2.2.2.2.2.2.2.2.2.2.2.1
theorem k0_dev61_lt : ∀ (v2 : BitVec 32) (k0_hw3 : k0_chk3 v2), (k0_dev61 v2) < nD := fun v2 k0_hw3 => k0_hw3.2.2.2.2.2.2.2.2.2.2.2.2.2.2.2.2.2.2.2.2.2.2.2.2.2.2.2.2.2.2

def k0_dev62 (v3 : BitVec 32) : Nat :=
  v3.toNat

def k0_chk4 (v3 : BitVec 32) : Prop :=
  ((k0_dev2 v3) < nD) ∧
  ((k0_dev4 v3) < nD) ∧
  ((k0_dev6 v3) < nD) ∧
  ((k0_dev8 v3) < nD) ∧
  ((k0_dev10 v3) < nD) ∧
  ((k0_dev12 v3) < nD) ∧
  ((k0_dev14 v3) < nD) ∧
  ((k0_dev16 v3) < nD) ∧
  ((k0_dev18 v3) < nD) ∧
  ((k0_dev20 v3) < nD) ∧
  ((k0_dev22 v3) < nD) ∧
  ((k0_dev24 v3) < nD) ∧
  ((k0_dev26 v3) < nD) ∧
  ((k0_dev28 v3) < nD) ∧
  ((k0_dev30 v3) < nD) ∧
  ((k0_dev32 v3) < nD) ∧
  ((k0_dev34 v3) < nD) ∧
  ((k0_dev36 v3) < nD) ∧
  ((k0_dev38 v3) < nD) ∧
  ((k0_dev40 v3) < nD) ∧
  ((k0_dev42 v3) < nD) ∧
  ((k0_dev44 v3) < nD) ∧
  ((k0_dev46 v3) < nD) ∧
  ((k0_dev48 v3) < nD) ∧
  ((k0_dev50 v3) < nD) ∧
  ((k0_dev52 v3) < nD) ∧
  ((k0_dev54 v3) < nD) ∧
  ((k0_dev56 v3) < nD) ∧
  ((k0_dev58 v3) < nD) ∧
  ((k0_dev60 v3) < nD) ∧
  ((k0_dev62 v3) < nD)
theorem k0_dev2_lt : ∀ (v3 : BitVec 32) (k0_hw4 : k0_chk4 v3), (k0_dev2 v3) < nD := fun v3 k0_hw4 => k0_hw4.1
theorem k0_dev4_lt : ∀ (v3 : BitVec 32) (k0_hw4 : k0_chk4 v3), (k0_dev4 v3) < nD := fun v3 k0_hw4 => k0_hw4.2.1
theorem k0_dev6_lt : ∀ (v3 : BitVec 32) (k0_hw4 : k0_chk4 v3), (k0_dev6 v3) < nD := fun v3 k0_hw4 => k0_hw4.2.2.1
theorem k0_dev8_lt : ∀ (v3 : BitVec 32) (k0_hw4 : k0_chk4 v3), (k0_dev8 v3) < nD := fun v3 k0_hw4 => k0_hw4.2.2.2.1
theorem k0_dev10_lt : ∀ (v3 : BitVec 32) (k0_hw4 : k0_chk4 v3), (k0_dev10 v3) < nD := fun v3 k0_hw4 => k0_hw4.2.2.2.2.1
theorem k0_dev12_lt : ∀ (v3 : BitVec 32) (k0_hw4 : k0_chk4 v3), (k0_dev12 v3) < nD := fun v3 k0_hw4 => k0_hw4.2.2.2.2.2.1
theorem k0_dev14_lt : ∀ (v3 : BitVec 32) (k0_hw4 : k0_chk4 v3), (k0_dev14 v3) < nD := fun v3 k0_hw4 => k0_hw4.2.2.2.2.2.2.1
theorem k0_dev16_lt : ∀ (v3 : BitVec 32) (k0_hw4 : k0_chk4 v3), (k0_dev16 v3) < nD := fun v3 k0_hw4 => k0_hw4.2.2.2.2.2.2.2.1
theorem k0_dev18_lt : ∀ (v3 : BitVec 32) (k0_hw4 : k0_chk4 v3), (k0_dev18 v3) < nD := fun v3 k0_hw4 => k0_hw4.2.2.2.2.2.2.2.2.1
theorem k0_dev20_lt : ∀ (v3 : BitVec 32) (k0_hw4 : k0_chk4 v3), (k0_dev20 v3) < nD := fun v3 k0_hw4 => k0_hw4.2.2.2.2.2.2.2.2.2.1
theorem k0_dev22_lt : ∀ (v3 : BitVec 32) (k0_hw4 : k0_chk4 v3), (k0_dev22 v3) < nD := fun v3 k0_hw4 => k0_hw4.2.2.2.2.2.2.2.2.2.2.1
theorem k0_dev24_lt : ∀ (v3 : BitVec 32) (k0_hw4 : k0_chk4 v3), (k0_dev24 v3) < nD := fun v3 k0_hw4 => k0_hw4.2.2.2.2.2.2.2.2.2.2.2.1
theorem k0_dev26_lt : ∀ (v3 : BitVec 32) (k0_hw4 : k0_chk4 v3), (k0_dev26 v3) < nD := fun v3 k0_hw4 => k0_hw4.2.2.2.2.2.2.2.2.2.2.2.2.1
theorem k0_dev28_lt : ∀ (v3 : BitVec 32) (k0_hw4 : k0_chk4 v3), (k0_dev28 v3) < nD := fun v3 k0_hw4 => k0_hw4.2.2.2.2.2.2.2.2.2.2.2.2.2.1
theorem k0_dev30_lt : ∀ (v3 : BitVec 32) (k0_hw4 : k0_chk4 v3), (k0_dev30 v3) < nD := fun v3 k0_hw4 => k0_hw4.2.2.2.2.2.2.2.2.2.2.2.2.2.2.1
theorem k0_dev32_lt : ∀ (v3 : BitVec 32) (k0_hw4 : k0_chk4 v3), (k0_dev32 v3) < nD := fun v3 k0_hw4 => k0_hw4.2.2.2.2.2.2.2.2.2.2.2.2.2.2.2.1
theorem k0_dev34_lt : ∀ (v3 : BitVec 32) (k0_hw4 : k0_chk4 v3), (k0_dev34 v3) < nD := fun v3 k0_hw4 => k0_hw4.2.2.2.2.2.2.2.2.2.2.2.2.2.2.2.2.1
theorem k0_dev36_lt : ∀ (v3 : BitVec 32) (k0_hw4 : k0_chk4 v3), (k0_dev36 v3) < nD := fun v3 k0_hw4 => k0_hw4.2.2.2.2.2.2.2.2.2.2.2.2.2.2.2.2.2.1
theorem k0_dev38_lt : ∀ (v3 : BitVec 32) (k0_hw4 : k0_chk4 v3), (k0_dev38 v3) < nD := fun v3 k0_hw4 => k0_hw4.2.2.2.2.2.2.2.2.2.2.2.2.2.2.2.2.2.2.1
theorem k0_dev40_lt : ∀ (v3 : BitVec 32) (k0_hw4 : k0_chk4 v3), (k0_dev40 v3) < nD := fun v3 k0_hw4 => k0_hw4.2.2.2.2.2.2.2.2.2.2.2.2.2.2.2.2.2.2.2.1
theorem k0_dev42_lt : ∀ (v3 : BitVec 32) (k0_hw4 : k0_chk4 v3), (k0_dev42 v3) < nD := fun v3 k0_hw4 => k0_hw4.2.2.2.2.2.2.2.2.2.2.2.2.2.2.2.2.2.2.2.2.1
theorem k0_dev44_lt : ∀ (v3 : BitVec 32) (k0_hw4 : k0_chk4 v3), (k0_dev44 v3) < nD := fun v3 k0_hw4 => k0_hw4.2.2.2.2.2.2.2.2.2.2.2.2.2.2.2.2.2.2.2.2.2.1
theorem k0_dev46_lt : ∀ (v3 : BitVec 32) (k0_hw4 : k0_chk4 v3), (k0_dev46 v3) < nD := fun v3 k0_hw4 => k0_hw4.2.2.2.2.2.2.2.2.2.2.2.2.2.2.2.2.2.2.2.2.2.2.1
theorem k0_dev48_lt : ∀ (v3 : BitVec 32) (k0_hw4 : k0_chk4 v3), (k0_dev48 v3) < nD := fun v3 k0_hw4 => k0_hw4.2.2.2.2.2.2.2.2.2.2.2.2.2.2.2.2.2.2.2.2.2.2.2.1
theorem k0_dev50_lt : ∀ (v3 : BitVec 32) (k0_hw4 : k0_chk4 v3), (k0_dev50 v3) < nD := fun v3 k0_hw4 => k0_hw4.2.2.2.2.2.2.2.2.2.2.2.2.2.2.2.2.2.2.2.2.2.2.2.2.1
theorem k0_dev52_lt : ∀ (v3 : BitVec 32) (k0_hw4 : k0_chk4 v3), (k0_dev52 v3) < nD := fun v3 k0_hw4 => k0_hw4.2.2.2.2.2.2.2.2.2.2.2.2.2.2.2.2.2.2.2.2.2.2.2.2.2.1
theorem k0_dev54_lt : ∀ (v3 : BitVec 32) (k0_hw4 : k0_chk4 v3), (k0_dev54 v3) < nD := fun v3 k0_hw4 => k0_hw4.2.2.2.2.2.2.2.2.2.2.2.2.2.2.2.2.2.2.2.2.2.2.2.2.2.2.1
theorem k0_dev56_lt : ∀ (v3 : BitVec 32) (k0_hw4 : k0_chk4 v3), (k0_dev56 v3) < nD := fun v3 k0_hw4 => k0_hw4.2.2.2.2.2.2.2.2.2.2.2.2.2.2.2.2.2.2.2.2.2.2.2.2.2.2.2.1
theorem k0_dev58_lt : ∀ (v3 : BitVec 32) (k0_hw4 : k0_chk4 v3), (k0_dev58 v3) < nD := fun v3 k0_hw4 => k0_hw4.2.2.2.2.2.2.2.2.2.2.2.2.2.2.2.2.2.2.2.2.2.2.2.2.2.2.2.2.1
theorem k0_dev60_lt : ∀ (v3 : BitVec 32) (k0_hw4 : k0_chk4 v3), (k0_dev60 v3) < nD := fun v3 k0_hw4 => k0_hw4.2.2.2.2.2.2.2.2.2.2.2.2.2.2.2.2.2.2.2.2.2.2.2.2.2.2.2.2.2.1
theorem k0_dev62_lt : ∀ (v3 : BitVec 32) (k0_hw4 : k0_chk4 v3), (k0_dev62 v3) < nD := fun v3 k0_hw4 => k0_hw4.2.2.2.2.2.2.2.2.2.2.2.2.2.2.2.2.2.2.2.2.2.2.2.2.2.2.2.2.2.2

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x8192, .f32⟩
  | .hbm, ⟨3, _⟩ => ⟨S8192x4096, .f32⟩
  | .hbm, ⟨4, _⟩ => ⟨S8192x4096, .f32⟩
  | .hbm, ⟨5, _⟩ => ⟨S8192x4096, .bf16⟩
  | .hbm, ⟨6, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Prog.lean ====
/-
  The kernel's body, written step by step. The printed body is straight-line code: the reduce-scatter's fifteen steps and the
  all-gather's fifteen, each over both directions of the ring, one after the other. Here each step is one definition over its
  number and its direction, the body is their sequence (`body`), and Proof/BodyEq.lean shows that the printed body is that
  sequence.
-/
module

public import proofs.«01_k».proof.Proof.Gen.KernelIdeal

@[expose] public section

noncomputable section

namespace Cert.Bidir

open Idealize.ShloMosaic Idealize.ShloMosaic.TcCoe Idealize.SL.Sem
open Cert.KernelIdeal Cert.KernelIdeal.Gen

/-! ## Where a slot lies in its buffer -/

theorem inbHbm (d : Fin 2) (s : Fin 15) : ∀ a, (![(d : ℕ), (s : ℕ), 0, 0] : Fin 4 → ℕ) a + S1x1x256x4096.size a ≤ S2x15x256x4096.size a := by
  revert d s; decide
theorem inbSend (d b : Fin 2) : ∀ a, (![(d : ℕ), (b : ℕ), 0, 0] : Fin 4 → ℕ) a + S1x1x256x4096.size a ≤ S2x2x256x4096.size a := by
  revert d b; decide
theorem inbBuf (d : Fin 2) : ∀ a, (![(d : ℕ), 0, 0] : Fin 3 → ℕ) a + S1x256x4096.size a ≤ S2x256x4096.size a := by
  revert d; decide
theorem inbSem15 (d : Fin 2) (s : Fin 15) : ∀ a, (![(d : ℕ), (s : ℕ)] : Fin 2 → ℕ) a + S1x1.size a ≤ S2x15.size a := by
  revert d s; decide
theorem inbSem2 (d b : Fin 2) : ∀ a, (![(d : ℕ), (b : ℕ)] : Fin 2 → ℕ) a + S1x1.size a ≤ S2x2.size a := by revert d b; decide
theorem inbSem1 (d : Fin 2) : ∀ a, (![(d : ℕ)] : Fin 1 → ℕ) a + S1.size a ≤ S2.size a := by revert d; decide

abbrev rectHbm (d : Fin 2) (s : Fin 15) : Rect S2x15x256x4096 := Rect.unit (s := S2x15x256x4096) ![(d : ℕ), (s : ℕ), 0, 0] S1x1x256x4096.size (inbHbm d s)
abbrev rectSend (d b : Fin 2) : Rect S2x2x256x4096 := Rect.unit (s := S2x2x256x4096) ![(d : ℕ), (b : ℕ), 0, 0] S1x1x256x4096.size (inbSend d b)
abbrev rectBuf (d : Fin 2) : Rect S2x256x4096 := Rect.unit (s := S2x256x4096) ![(d : ℕ), 0, 0] S1x256x4096.size (inbBuf d)

theorem wordsHbm (d : Fin 2) (s : Fin 15) : (rectHbm d s).WholeWords (EltTy.packing .bf16) := by revert d s; decide
theorem wordsSend (d b : Fin 2) : (rectSend d b).WholeWords (EltTy.packing .bf16) := by revert d b; decide
theorem packedSend (d b : Fin 2) : (rectSend d b).PackedRows (EltTy.packing .bf16) := by revert d b; decide
theorem wordsBuf (d : Fin 2) : (rectBuf d).WholeWords (EltTy.packing .bf16) := by revert d; decide

/-! ## The slots as memrefs, the semaphores as cells -/

/-- The buffers the body addresses: the staged blocks of `meta`, `x` and `w`, then the call's outputs and scratch. -/
abbrev metaM : Memref sig .tc .smem S4 .i32 := Memref.whole cc0_stg0_0
abbrev xM : Memref sig .tc .vmem S8192x512 .bf16 := Memref.whole cc0_stg1_0
abbrev wM : Memref sig .tc .vmem S512x4096 .bf16 := Memref.whole cc0_stg2_0
abbrev outM : Memref sig .tc .hbm S8192x4096 .f32 := Memref.whole main_v31_0
abbrev rsM : Memref sig .tc .hbm S2x15x256x4096 .bf16 := Memref.whole main_v31_1
abbrev agM : Memref sig .tc .hbm S2x15x256x4096 .bf16 := Memref.whole main_v31_2
abbrev sendM : Memref sig .tc .vmem S2x2x256x4096 .bf16 := Memref.whole cc0_scratch0
abbrev recvM : Memref sig .tc .vmem S2x256x4096 .bf16 := Memref.whole cc0_scratch1
abbrev ovM : Memref sig .tc .vmem S2x256x4096 .f32 := Memref.whole cc0_scratch2

/-- What step `s` of the reduce-scatter receives in direction `d`. -/
def rsSlot (d : Fin 2) (s : Fin 15) : Memref sig .tc .hbm S256x4096 .bf16 :=
  (rsM.slice (rectHbm d s) (fun _ => rfl)).squeeze S256x4096 squeezes_S1x1x256x4096_S256x4096
/-- What step `s` of the all-gather receives in direction `d`. -/
def agSlot (d : Fin 2) (s : Fin 15) : Memref sig .tc .hbm S256x4096 .bf16 :=
  (agM.slice (rectHbm d s) (fun _ => rfl)).squeeze S256x4096 squeezes_S1x1x256x4096_S256x4096
/-- The two send slots of a direction. -/
def sendSlot (d b : Fin 2) : Memref sig .tc .vmem S256x4096 .bf16 :=
  (sendM.slice (rectSend d b) (fun _ => rfl)).squeeze S256x4096 squeezes_S1x1x256x4096_S256x4096
/-- Where a received chunk is read into. -/
def recvSlot (d : Fin 2) : Memref sig .tc .vmem S256x4096 .bf16 :=
  (recvM.slice (rectBuf d) (fun _ => rfl)).squeeze S256x4096 squeezes_S1x256x4096_S256x4096
/-- Where a finished chunk is written from. -/
def ovSlot (d : Fin 2) : Memref sig .tc .vmem S256x4096 .f32 :=
  (ovM.slice (rectBuf d) (fun _ => rfl)).squeeze S256x4096 squeezes_S1x256x4096_S256x4096
/-- Two hundred and fifty-six rows of the result. -/
def outSlot (o : Fin 2 → ℕ) (ho : ∀ a, o a + S256x4096.size a ≤ S8192x4096.size a) : Memref sig .tc .hbm S256x4096 .f32 :=
  outM.slice (Rect.unit (s := S8192x4096) o S256x4096.size ho) (fun _ => rfl)

theorem rsSlot_exact (d : Fin 2) (s : Fin 15) : (rsSlot d s).view.WordExact :=
  ((Memref.isWhole_whole main_v31_1).wordExact_slice rfl _ (wordsHbm d s)).reshape _ _
theorem agSlot_exact (d : Fin 2) (s : Fin 15) : (agSlot d s).view.WordExact :=
  ((Memref.isWhole_whole main_v31_2).wordExact_slice rfl _ (wordsHbm d s)).reshape _ _
theorem sendSlot_exact (d b : Fin 2) : (sendSlot d b).view.WordExact :=
  ((Memref.isWhole_whole cc0_scratch0).wordExact_slice rfl _ (wordsSend d b)).reshape _ _
theorem recvSlot_exact (d : Fin 2) : (recvSlot d).view.WordExact :=
  ((Memref.isWhole_whole cc0_scratch1).wordExact_slice rfl _ (wordsBuf d)).reshape _ _
theorem ovSlot_exact (d : Fin 2) : (ovSlot d).view.WordExact := (View.wordExact_bits rfl).reshape _ _
theorem outSlot_exact (o : Fin 2 → ℕ) (ho : ∀ a, o a + S256x4096.size a ≤ S8192x4096.size a) : (outSlot o ho).view.WordExact :=
  View.wordExact_bits rfl

/-- The semaphores: what a step receives on, what a send frees its source on, the local copies', the copies out. -/
def rsSem (d : Fin 2) (s : Fin 15) : DmaSem sig :=
  ((cc0_scratch3.slice (Rect.unit (s := S2x15) ![(d : ℕ), (s : ℕ)] S1x1.size (inbSem15 d s))).squeeze S_ squeezes_S1x1_S_).sem
def agSem (d : Fin 2) (s : Fin 15) : DmaSem sig :=
  ((cc0_scratch4.slice (Rect.unit (s := S2x15) ![(d : ℕ), (s : ℕ)] S1x1.size (inbSem15 d s))).squeeze S_ squeezes_S1x1_S_).sem
def rsSendSem (d b : Fin 2) : DmaSem sig :=
  ((cc0_scratch5.slice (Rect.unit (s := S2x2) ![(d : ℕ), (b : ℕ)] S1x1.size (inbSem2 d b))).squeeze S_ squeezes_S1x1_S_).sem
def agSendSem (d b : Fin 2) : DmaSem sig :=
  ((cc0_scratch6.slice (Rect.unit (s := S2x2) ![(d : ℕ), (b : ℕ)] S1x1.size (inbSem2 d b))).squeeze S_ squeezes_S1x1_S_).sem
def copySem (d : Fin 2) : DmaSem sig :=
  ((cc0_scratch7.slice (Rect.unit (s := S2) ![(d : ℕ)] S1.size (inbSem1 d))).squeeze S_ squeezes_S1_S_).sem
def outSem (d : Fin 2) : DmaSem sig :=
  ((cc0_scratch8.slice (Rect.unit (s := S2) ![(d : ℕ)] S1.size (inbSem1 d))).squeeze S_ squeezes_S1_S_).sem
abbrev barSem : Sem sig := (SemArray.scalar (sig.barrier 0 rfl) : Sems sig S_).sem

/-- The slot a step's parity names. -/
def par (s : ℕ) : Fin 2 := ⟨s % 2, Nat.mod_lt _ (by decide)⟩

variable {F : FTy → Type} [FloatOps F]

/-! ## The values a step computes -/

/-- A chunk of the device's product: 256 rows of its `x` block, times its `w` block, accumulated from zero. -/
def dotV (xv : Vec F S256x512 .bf16) (wv : Vec F S512x4096 .bf16) : FVec F S256x4096 .f32 :=
  matmul dot_S256x512_S512x4096_S256x4096_1_0_0_1_n_n none (shapeCast S256x512 xv shapeCasts_S256x512_S256x512 : FVec F S256x512 .bf16)
    (shapeCast S512x4096 wv shapeCasts_S512x4096_S512x4096 : FVec F S512x4096 .bf16) (constant S256x4096 .f32 0x00000000#32)
/-- A chunk cut to the send type. -/
abbrev cutV (a : FVec F S256x4096 .f32) : FVec F S256x4096 .bf16 := truncf .bf16 a bitsLt_bf16_f32
/-- A chunk of the send type, widened. -/
abbrev widenV (b : FVec F S256x4096 .bf16) : FVec F S256x4096 .f32 := extf .f32 b bitsLt_bf16_f32
/-- A chunk with what was received added. -/
abbrev accV (a : FVec F S256x4096 .f32) (b : FVec F S256x4096 .bf16) : FVec F S256x4096 .f32 := addf a (widenV b)
/-- What a load of a one-chunk slot read, as a chunk. -/
abbrev flatV (b : Vec F S1x256x4096 .bf16) : FVec F S256x4096 .bf16 := shapeCast S256x4096 b shapeCasts_S1x256x4096_S256x4096
/-- A chunk as a send slot is stored. -/
abbrev asSend (b : FVec F S256x4096 .bf16) : FVec F S1x1x256x4096 .bf16 := shapeCast S1x1x256x4096 b shapeCasts_S256x4096_S1x1x256x4096
/-- A chunk as an output slot is stored. -/
abbrev asOut (a : FVec F S256x4096 .f32) : FVec F S1x256x4096 .f32 := shapeCast S1x256x4096 a shapeCasts_S256x4096_S1x256x4096

/-! ## What the `meta` words fix: the two peers, and the rows each step reads and writes -/

structure Params where
  peer : Fin 2 → Dev nD
  xoff : Fin 2 → ℕ → Fin 2 → ℕ
  xinb : ∀ d s, s < 16 → ∀ a, xoff d s a + S256x512.size a ≤ S8192x512.size a
  ooff : Fin 2 → ℕ → Fin 2 → ℕ
  oinb : ∀ d s, s < 16 → ∀ a, ooff d s a + S256x4096.size a ≤ S8192x4096.size a

theorem xinb0 (v : BitVec 32) (h : k0_chk1 v) (s : ℕ) (hs : s < 16) : ∀ a, k0_off3 v (BitVec.ofNat 32 s) a + S256x512.size a ≤ S8192x512.size a := by
  rcases Nat.eq_zero_or_pos s with rfl | h0
  · exact k0_off1_inb v h
  · have := k0_off3_inb v h ⟨s - 1, by omega⟩
    rwa [show 1 + (s - 1) = s by omega] at this
theorem xinb1 (v : BitVec 32) (h : k0_chk2 v) (s : ℕ) (hs : s < 16) : ∀ a, k0_off4 v (BitVec.ofNat 32 s) a + S256x512.size a ≤ S8192x512.size a := by
  rcases Nat.eq_zero_or_pos s with rfl | h0
  · exact k0_off2_inb v h
  · have := k0_off4_inb v h ⟨s - 1, by omega⟩
    rwa [show 1 + (s - 1) = s by omega] at this

def params (v0 v1 v2 v3 : BitVec 32) (h1 : k0_chk1 v0) (h2 : k0_chk2 v1) (h3 : k0_chk3 v2) (h4 : k0_chk4 v3) : Params where
  peer := ![⟨k0_dev1 v2, k0_dev1_lt v2 h3⟩, ⟨k0_dev2 v3, k0_dev2_lt v3 h4⟩]
  xoff := fun d s => ![k0_off3 v0 (BitVec.ofNat 32 s), k0_off4 v1 (BitVec.ofNat 32 s)] d
  xinb := fun d s hs => match d with | 0 => xinb0 v0 h1 s hs | 1 => xinb1 v1 h2 s hs
  ooff := fun d s => ![k0_off5 v0 (BitVec.ofNat 32 s), k0_off6 v1 (BitVec.ofNat 32 s)] d
  oinb := fun d s hs => match d with | 0 => k0_off5_inb v0 h1 ⟨s, hs⟩ | 1 => k0_off6_inb v1 h2 ⟨s, hs⟩

/-- The rows of the result that the chunk of step `s` covers. -/
abbrev Params.outAt (p : Params) (d : Fin 2) (s : ℕ) (hs : s < 16) : Memref sig .tc .hbm S256x4096 .f32 := outSlot (p.ooff d s) (p.oinb d s hs)

/-! ## The body's pieces -/

abbrev KProg (F : FTy → Type) := Prog (TpuEff nD τ sig (Elt F) Λ₀ .tc)

section Pieces

variable (p : Params) (d : Fin 2)

/-- The chunk of step `s` of the device's own product. -/
def dotP (s : ℕ) (hs : s < 16) : KProg F (FVec F S256x4096 .f32) := do
  let xv ← Prog.lift (.load xM (Rect.unit (s := S8192x512) (p.xoff d s) S256x512.size (p.xinb d s hs)).toLoadRect (View.loadsAt_vmem h_S256x512))
  let wv ← Prog.lift (.load wM (Rect.unit (s := S512x4096) ![0, 0] S512x4096.size inb_S512x4096_S512x4096_0_0).toLoadRect (View.loadsAt_vmem h_S512x4096))
  pure (dotV xv wv)

/-- A chunk stored in a send slot (its previous contents are read first, and not used). -/
def storeSend (b : Fin 2) (a : FVec F S256x4096 .f32) : KProg F PUnit := do
  let _ : Vec F S1x1x256x4096 .bf16 ← Prog.lift (.load sendM (rectSend d b).toLoadRect (View.loadsAt_vmem h_S1x1x256x4096))
  Prog.lift (.store sendM (rectSend d b) (asSend (cutV a)) Finset.univ
    (View.stores_vmem h_S1x1x256x4096 ((Memref.isWhole_whole cc0_scratch0).storeExact_slice rfl _ (packedSend d b)) (fun _ => rfl)) (.inl rfl))

/-- A chunk stored in the output slot (its previous contents are read first, and not used). -/
def storeOut (a : FVec F S256x4096 .f32) : KProg F PUnit := do
  let _ : Vec F S1x256x4096 .f32 ← Prog.lift (.load ovM (rectBuf d).toLoadRect (View.loadsAt_vmem h_S1x256x4096))
  Prog.lift (.store ovM (rectBuf d) (asOut a) Finset.univ (View.stores_vmem_bits_univ h_S1x256x4096 rfl) (.inl rfl))

/-- A landed chunk copied to where the device can load it, and the copy's end. -/
def fetch (m : Memref sig .tc .hbm S256x4096 .bf16) (hm : m.view.WordExact) : KProg F PUnit := do
  Prog.lift (.enqueueDma m (.here (recvSlot d)) (.dma (copySem d)) hm (recvSlot_exact d) ⟨Or.inl rfl, trivial⟩)
  Prog.lift (.waitDma2 (copySem d) m (recvSlot d) hm (recvSlot_exact d))

def loadRecv : KProg F (Vec F S1x256x4096 .bf16) :=
  Prog.lift (.load recvM (rectBuf d).toLoadRect (View.loadsAt_vmem h_S1x256x4096))

/-- The reduce-scatter's send of step `s`. -/
def rsSend (s : Fin 15) : KProg F PUnit :=
  Prog.lift (.enqueueDma (sendSlot d (par s)) (.remote (Dev.tc (p.peer d)) (rsSlot d s) (.dma (rsSendSem d (par s)))) (.dma (rsSem d s))
    (sendSlot_exact d (par s)) (rsSlot_exact d s) ⟨⟨rfl, Or.inl rfl⟩, trivial⟩)
/-- The wait for what step `s` receives. -/
def rsWaitRecv (s : Fin 15) : KProg F PUnit :=
  Prog.lift (.waitDma2 (rsSem d s) (sendSlot d (par s)) (rsSlot d s) (sendSlot_exact d (par s)) (rsSlot_exact d s))
/-- The wait for step `s`'s send to have left its slot. -/
def rsWaitSend (s : Fin 15) : KProg F PUnit :=
  Prog.lift (.waitDma2 (rsSendSem d (par s)) (rsSlot d s) (sendSlot d (par s)) (rsSlot_exact d s) (sendSlot_exact d (par s)))

/-- The all-gather's source slot of step `s`, beyond the first: what the step before received. -/
def agSrc (s : ℕ) (hs : s + 1 < 15) : Memref sig .tc .hbm S256x4096 .bf16 := agSlot d ⟨s, by omega⟩

/-- The all-gather's first send, from the send slot. -/
def agSend0 : KProg F PUnit :=
  Prog.lift (.enqueueDma (sendSlot d 1) (.remote (Dev.tc (p.peer d)) (agSlot d 0) (.dma (agSendSem d 0))) (.dma (agSem d 0))
    (sendSlot_exact d 1) (agSlot_exact d 0) ⟨⟨rfl, Or.inl rfl⟩, trivial⟩)
/-- The send of step `s + 1`: what step `s` received goes on. -/
def agSend (s : ℕ) (hs : s + 1 < 15) : KProg F PUnit :=
  Prog.lift (.enqueueDma (agSlot d ⟨s, by omega⟩) (.remote (Dev.tc (p.peer d)) (agSlot d ⟨s + 1, hs⟩) (.dma (agSendSem d (par (s + 1))))) (.dma (agSem d ⟨s + 1, hs⟩))
    (agSlot_exact d _) (agSlot_exact d _) ⟨⟨rfl, Or.inl rfl⟩, trivial⟩)
def agWaitRecv0 : KProg F PUnit :=
  Prog.lift (.waitDma2 (agSem d 0) (sendSlot d 1) (agSlot d 0) (sendSlot_exact d 1) (agSlot_exact d 0))
def agWaitRecv (s : ℕ) (hs : s + 1 < 15) : KProg F PUnit :=
  Prog.lift (.waitDma2 (agSem d ⟨s + 1, hs⟩) (agSlot d ⟨s, by omega⟩) (agSlot d ⟨s + 1, hs⟩) (agSlot_exact d _) (agSlot_exact d _))
def agWaitSend0 : KProg F PUnit :=
  Prog.lift (.waitDma2 (agSendSem d 0) (agSlot d 0) (sendSlot d 1) (agSlot_exact d 0) (sendSlot_exact d 1))
def agWaitSend (s : ℕ) (hs : s + 1 < 15) : KProg F PUnit :=
  Prog.lift (.waitDma2 (agSendSem d (par (s + 1))) (agSlot d ⟨s + 1, hs⟩) (agSlot d ⟨s, by omega⟩) (agSlot_exact d _) (agSlot_exact d _))

/-- The copy of the output slot to the rows of step `s`'s chunk. -/
def outCopy (s : ℕ) (hs : s < 16) : KProg F PUnit :=
  Prog.lift (.enqueueDma (ovSlot d) (.here (p.outAt d s hs)) (.dma (outSem d)) (ovSlot_exact d) (outSlot_exact _ _) ⟨Or.inl rfl, trivial⟩)
def outWait (s : ℕ) (hs : s < 16) : KProg F PUnit :=
  Prog.lift (.waitDma2 (outSem d) (ovSlot d) (p.outAt d s hs) (ovSlot_exact d) (outSlot_exact _ _))

/-- The first chunk: computed and stored in send slot 0. -/
def rsFirst : KProg F PUnit := do
  let a ← dotP p d 0 (by decide)
  storeSend d 0 a

/-- A reduce-scatter step up to its store, but for the wait for the send before: the chunk of step `s + 1` computed, what step `s`
    received waited for, read and added. -/
def rsAcc (s : ℕ) (hs : s < 15) : KProg F (FVec F S256x4096 .f32) := do
  let a ← dotP p d (s + 1) (by omega)
  rsWaitRecv d ⟨s, hs⟩
  fetch d (rsSlot d ⟨s, hs⟩) (rsSlot_exact d _)
  let b ← loadRecv d
  pure (accV a (flatV b))

def rsIter0 : KProg F PUnit := do
  let a ← rsAcc p d 0 (by decide)
  storeSend d 1 a

def rsIter (s : ℕ) (hs : s + 1 < 14) : KProg F PUnit := do
  let a ← rsAcc p d (s + 1) (by omega)
  rsWaitSend d ⟨s, by omega⟩
  storeSend d (par s) a

def rsLast : KProg F PUnit := do
  let a ← rsAcc p d 14 (by decide)
  storeOut d a
  outCopy p d 15 (by decide)
  rsWaitSend d 13
  storeSend d 1 a

/-- A gathered chunk read, the copy out before it waited for, and its own copy out begun. -/
def agOut (s : ℕ) (hs : s < 15) (t : ℕ) (ht : t < 16) : KProg F PUnit := do
  fetch d (agSlot d ⟨s, hs⟩) (agSlot_exact d _)
  outWait p d t ht
  let b ← loadRecv d
  storeOut d (widenV (flatV b))
  outCopy p d s (by omega)

end Pieces

/-- `f`'s steps `s, s + 1, …`, `n` of them. -/
def steps {N : ℕ} (f : (s : ℕ) → s < N → KProg F PUnit) : (n s : ℕ) → s + n ≤ N → KProg F PUnit
  | 0, _, _ => pure ⟨⟩
  | n + 1, s, h => do
    f s (by omega)
    steps f n (s + 1) (by omega)

/-- The barrier with both neighbours. -/
def barrier (p : Params) : KProg F PUnit := do
  semSignalWord (p.peer 0) barSem 1#32
  semSignalWord (p.peer 1) barSem 1#32
  semWaitWord barSem 2#32

/-- Step `s + 1` of the reduce-scatter: both directions' chunks, then both sends. -/
def rsStep (p : Params) (s : ℕ) (hs : s < 13) : KProg F PUnit := do
  rsIter p 0 s (by omega)
  rsIter p 1 s (by omega)
  rsSend p 0 ⟨s + 2, by omega⟩
  rsSend p 1 ⟨s + 2, by omega⟩

/-- The reduce-scatter. -/
def rsPhase (p : Params) : KProg F PUnit := do
  rsFirst p 0
  rsFirst p 1
  barrier p
  rsSend p 0 0
  rsSend p 1 0
  rsIter0 p 0
  rsIter0 p 1
  rsSend p 0 1
  rsSend p 1 1
  steps (rsStep p) 13 0 (by decide)
  rsLast p 0
  rsLast p 1

/-- Step `s + 2` of the all-gather. -/
def agStep (p : Params) (s : ℕ) (hs : s < 12) : KProg F PUnit := do
  agWaitRecv 0 (s + 1) (by omega)
  agWaitRecv 1 (s + 1) (by omega)
  agWaitSend 0 s (by omega)
  agSend p 0 (s + 2) (by omega)
  agWaitSend 1 s (by omega)
  agSend p 1 (s + 2) (by omega)
  agOut p 0 (s + 2) (by omega) (s + 1) (by omega)
  agOut p 1 (s + 2) (by omega) (s + 1) (by omega)

/-- The all-gather's last step. -/
def agLast (p : Params) : KProg F PUnit := do
  agWaitRecv 0 13 (by decide)
  agWaitRecv 1 13 (by decide)
  agOut p 0 14 (by decide) 13 (by decide)
  outWait p 0 14 (by decide)
  agOut p 1 14 (by decide) 13 (by decide)
  outWait p 1 14 (by decide)

/-- The last sends' ends. -/
def drain (d : Fin 2) : KProg F PUnit := do
  rsWaitSend d 14
  agWaitSend d 13 (by decide)
  agWaitSend d 12 (by decide)

/-- The all-gather. -/
def agPhase (p : Params) : KProg F PUnit := do
  agSend0 p 0
  agSend0 p 1
  agWaitRecv0 0
  agWaitRecv0 1
  agSend p 0 0 (by decide)
  agSend p 1 0 (by decide)
  agOut p 0 0 (by decide) 15 (by decide)
  agOut p 1 0 (by decide) 15 (by decide)
  agWaitRecv 0 0 (by decide)
  agWaitRecv 1 0 (by decide)
  agWaitSend0 0
  agSend p 0 1 (by decide)
  agWaitSend0 1
  agSend p 1 1 (by decide)
  agOut p 0 1 (by decide) 0 (by decide)
  agOut p 1 1 (by decide) 0 (by decide)
  steps (agStep p) 12 0 (by decide)
  agLast p

/-- The whole body, once its four words are read and what it assumes of each holds. -/
def run (p : Params) : KProg F PUnit := do
  rsPhase p
  agPhase p
  drain 0
  drain 1

/-- The body. -/
def body : KProg F PUnit := do
  let v0 : Elt F .i32 ← smemLoad metaM (Rect.unit (s := S4) ![0] S1.size inb_S4_S1_0) numel1_S1 rfl
  have h1 : k0_chk1 v0 := (← Prog.lift (TpuEff.assume (k0_chk1 v0) (k0_chk1.dec v0))).down
  let v1 : Elt F .i32 ← smemLoad metaM (Rect.unit (s := S4) ![1] S1.size inb_S4_S1_1) numel1_S1 rfl
  have h2 : k0_chk2 v1 := (← Prog.lift (TpuEff.assume (k0_chk2 v1) (k0_chk2.dec v1))).down
  let v2 : Elt F .i32 ← smemLoad metaM (Rect.unit (s := S4) ![2] S1.size inb_S4_S1_2) numel1_S1 rfl
  have h3 : k0_chk3 v2 := (← Prog.lift (TpuEff.assume (k0_chk3 v2) (k0_chk3.dec v2))).down
  let v3 : Elt F .i32 ← smemLoad metaM (Rect.unit (s := S4) ![3] S1.size inb_S4_S1_3) numel1_S1 rfl
  have h4 : k0_chk4 v3 := (← Prog.lift (TpuEff.assume (k0_chk4 v3) (k0_chk4.dec v3))).down
  run (params v0 v1 v2 v3 h1 h2 h3 h4)

end Cert.Bidir

end
-- ==== Proof.Base.lean ====
/-
  The protocol's nouns: the ring, the kinds of semaphore cells, the words a device reads, and what each step computes on each
  device (over any reading of the floats).
-/
module

public import proofs.«01_k».proof.Proof.Prog
public import Idealize.ShloMosaic.Lib.Rounds
public import Mathlib.Tactic.DeriveFintype

@[expose] public section

noncomputable section

namespace Cert.Bidir

open Idealize.ShloMosaic Idealize.ShloMosaic.TcCoe
open Idealize.SL Idealize.SL.RA Idealize.SL.BI Idealize.SL.Sem
open Cert.KernelIdeal Cert.KernelIdeal.Gen

/-! ## The ring -/

/-- The neighbour a device sends to in a direction. -/
def nxt (d : Fin 2) (c : Dev nD) : Dev nD := if d = 0 then c + 1 else c - 1
/-- The other direction. -/
def rev (d : Fin 2) : Fin 2 := 1 - d
/-- The neighbour a device receives from in a direction. -/
def prv (d : Fin 2) (c : Dev nD) : Dev nD := nxt (rev d) c

theorem prv_nxt (d : Fin 2) (c : Dev nD) : prv d (nxt d c) = c := by revert d c; decide
theorem nxt_prv (d : Fin 2) (c : Dev nD) : nxt d (prv d c) = c := by revert d c; decide
theorem nxt_rev_nxt (d : Fin 2) (c : Dev nD) : nxt (rev d) (nxt d c) = c := by revert d c; decide
theorem nxt_nxt_rev (d : Fin 2) (c : Dev nD) : nxt d (nxt (rev d) c) = c := by revert d c; decide
theorem rev_rev (d : Fin 2) : rev (rev d) = d := by revert d; decide
/-- Going on in a direction, as a bijection of the devices. -/
def ring (d : Fin 2) : Dev nD ≃ Dev nD := ⟨nxt d, prv d, prv_nxt d, nxt_prv d⟩

/-! ## The kinds of cells -/

/-- The semaphores of a device: the barrier, what a step receives on in either phase, what a send slot is freed on in either
    phase, the local copies in, the copies out. -/
inductive Kd
  | bar
  | rs (d : Fin 2) (s : Fin 15)
  | ag (d : Fin 2) (s : Fin 15)
  | rsS (d b : Fin 2)
  | agS (d b : Fin 2)
  | cp (d : Fin 2)
  | ov (d : Fin 2)
  deriving DecidableEq, Fintype

/-- The semaphore of a kind. -/
def Kd.loc : Kd → SemLoc sig
  | .bar => .reg barSem
  | .rs d s => .dma (rsSem d s)
  | .ag d s => .dma (agSem d s)
  | .rsS d b => .dma (rsSendSem d b)
  | .agS d b => .dma (agSendSem d b)
  | .cp d => .dma (copySem d)
  | .ov d => .dma (outSem d)

/-- The kind of a DMA semaphore, by its number: the first three are the windows' own. -/
def dmaKind (n : ℕ) : Option Kd :=
  if n < 3 then none
  else if n < 33 then some (.rs (Fin.ofNat 2 ((n - 3) / 15)) (Fin.ofNat 15 ((n - 3) % 15)))
  else if n < 63 then some (.ag (Fin.ofNat 2 ((n - 33) / 15)) (Fin.ofNat 15 ((n - 33) % 15)))
  else if n < 67 then some (.rsS (Fin.ofNat 2 ((n - 63) / 2)) (Fin.ofNat 2 ((n - 63) % 2)))
  else if n < 71 then some (.agS (Fin.ofNat 2 ((n - 67) / 2)) (Fin.ofNat 2 ((n - 67) % 2)))
  else if n < 73 then some (.cp (Fin.ofNat 2 (n - 71)))
  else some (.ov (Fin.ofNat 2 (n - 73)))

/-- The kind of a semaphore. -/
def kindOf : SemLoc sig → Option Kd
  | .reg _ => some .bar
  | .dma i => dmaKind i.val

theorem kindOf_loc (k : Kd) : kindOf k.loc = some k := by
  cases k with
  | bar => rfl
  | rs d s => revert d s; decide
  | ag d s => revert d s; decide
  | rsS d b => revert d b; decide
  | agS d b => revert d b; decide
  | cp d => revert d; decide
  | ov d => revert d; decide

theorem loc_inj : Function.Injective Kd.loc := fun k k' h => by
  have := congrArg kindOf h
  rw [kindOf_loc, kindOf_loc] at this
  exact Option.some.inj this

/-- A device's cell of a kind. -/
abbrev cell (c : Dev nD) (k : Kd) : GSem nD τ sig := ((c : Thread nD τ), k.loc)

/-- How many rounds a cell goes through. -/
def Kd.rounds : Kd → ℕ
  | .bar => 1
  | .rs _ _ => 1
  | .ag _ _ => 1
  | .rsS _ b => 8 - b
  | .agS _ b => 8 - b
  | .cp _ => 30
  | .ov _ => 16

/-- What a transfer of a chunk credits: of the send type, and of the result's. -/
def creditB : ℕ := (rsSlot 0 0).view.dmaCredit
def creditF : ℕ := (ovSlot 0).view.dmaCredit
theorem creditB_pos : 0 < creditB := View.dmaCredit_pos _ (by decide)
theorem creditF_pos : 0 < creditF := View.dmaCredit_pos _ (by decide)

theorem credit_rs (d : Fin 2) (s : Fin 15) : (rsSlot d s).view.dmaCredit = creditB := rfl
theorem credit_ag (d : Fin 2) (s : Fin 15) : (agSlot d s).view.dmaCredit = creditB := rfl
theorem credit_send (d b : Fin 2) : (sendSlot d b).view.dmaCredit = creditB := rfl
theorem credit_recv (d : Fin 2) : (recvSlot d).view.dmaCredit = creditB := rfl
theorem credit_out (o : Fin 2 → ℕ) (ho : ∀ a, o a + S256x4096.size a ≤ S8192x4096.size a) : (outSlot o ho).view.dmaCredit = creditF := rfl

/-- What one duty of a cell credits. -/
def Kd.amt : Kd → ℕ
  | .bar => 1
  | .ov _ => creditF
  | _ => creditB
theorem Kd.amt_pos (k : Kd) : 0 < k.amt := by
  cases k <;> first | exact Nat.one_pos | exact creditB_pos | exact creditF_pos

/-! ## What the four words are, and what follows of them -/

/-- The rank a direction counts by. -/
def w0 (c : Dev nD) : BitVec 32 := BitVec.ofNat 32 c.val
def w1 (c : Dev nD) : BitVec 32 := BitVec.ofNat 32 ((16 - c.val) % 16)
def w2 (c : Dev nD) : BitVec 32 := BitVec.ofNat 32 ((c.val + 1) % 16)
def w3 (c : Dev nD) : BitVec 32 := BitVec.ofNat 32 ((c.val + 15) % 16)

theorem chk1 (c : Dev nD) : k0_chk1 (w0 c) := by revert c; decide
theorem chk2 (c : Dev nD) : k0_chk2 (w1 c) := by revert c; decide
theorem chk3 (c : Dev nD) : k0_chk3 (w2 c) := by revert c; decide
theorem chk4 (c : Dev nD) : k0_chk4 (w3 c) := by revert c; decide

/-- The device's peers and rows. -/
def pars (c : Dev nD) : Params := params (w0 c) (w1 c) (w2 c) (w3 c) (chk1 c) (chk2 c) (chk3 c) (chk4 c)

theorem peer_eq (c : Dev nD) (d : Fin 2) : (pars c).peer d = nxt d c := by revert c d; decide

/-- The chunk a device works on at a step: which of a half's sixteen. -/
def chunk (d : Fin 2) (c : Dev nD) (s : ℕ) : ℕ :=
  if d = 0 then (c.val + 32 - s) % 16 else ((16 - c.val) % 16 + 32 - s) % 16

theorem xoff_eq (c : Dev nD) (d : Fin 2) (s : ℕ) (hs : s < 16) : (pars c).xoff d s = ![d.val * 4096 + chunk d c s * 256, 0] := by
  have h : ∀ (s : Fin 16), (pars c).xoff d s.val = ![d.val * 4096 + chunk d c s.val * 256, 0] := by revert c d; decide
  exact h ⟨s, hs⟩
theorem ooff_eq (c : Dev nD) (d : Fin 2) (s : ℕ) (hs : s < 16) : (pars c).ooff d s = ![d.val * 4096 + chunk d c s * 256, 0] := by
  have h : ∀ (s : Fin 16), (pars c).ooff d s.val = ![d.val * 4096 + chunk d c s.val * 256, 0] := by revert c d; decide
  exact h ⟨s, hs⟩

/-! ## What each step computes -/

variable {F : FTy → Type} [FloatOps F]

/-- The blocks of `x` and of `w` that each device holds. -/
structure Blocks (F : FTy → Type) where
  x : Dev nD → Vec F S8192x512 .bf16
  w : Dev nD → Vec F S512x4096 .bf16

variable (B : Blocks F)

abbrev rectX (p : Params) (d : Fin 2) (s : ℕ) (hs : s < 16) : Rect S8192x512 :=
  Rect.unit (s := S8192x512) (p.xoff d s) S256x512.size (p.xinb d s hs)
abbrev rectW : Rect S512x4096 := Rect.unit (s := S512x4096) ![0, 0] S512x4096.size inb_S512x4096_S512x4096_0_0

/-- The device's own product at the chunk of a step. -/
def part (d : Fin 2) (s : ℕ) (c : Dev nD) : FVec F S256x4096 .f32 :=
  if hs : s < 16 then
    dotV (fun i => B.x c ((rectX (pars c) d s hs).emb i)) (fun i => B.w c (rectW.emb i))
  else constant S256x4096 .f32 0x00000000#32

/-- The sum a device has after a step of the reduce-scatter: its own product, and beyond the first step what it received. -/
def acc (d : Fin 2) : ℕ → Dev nD → FVec F S256x4096 .f32
  | 0, c => part B d 0 c
  | s + 1, c => accV (part B d (s + 1) c) (cutV (acc d s (prv d c)))
/-- What it sends then. -/
abbrev snd (d : Fin 2) (s : ℕ) (c : Dev nD) : FVec F S256x4096 .bf16 := cutV (acc B d s c)
/-- What a step of the all-gather receives: the sum of the device so many steps back. -/
def gat (d : Fin 2) : ℕ → Dev nD → FVec F S256x4096 .bf16
  | 0, c => snd B d 15 (prv d c)
  | s + 1, c => gat d s (prv d c)
/-- What the device writes to the rows of step `s`'s chunk. -/
def outV (d : Fin 2) (s : ℕ) (c : Dev nD) : FVec F S256x4096 .f32 := if s = 15 then acc B d 15 c else widenV (gat B d s c)

end Cert.Bidir

end
-- ==== Proof.Sched.lean ====
/-
  The protocol: what each round of each cell is paid with, by whom it is awaited, what every device owes at launch, and in what
  order the waits are allowed.

  The barrier cell of a device has one round of two duties, paid by its two neighbours; each hands over the slots of its own that
  this device will copy into, at any contents. A receive cell has one round, paid by the neighbour's copy: the slot, holding what
  that neighbour computed. A send cell's rounds are the sends from its slots, each giving back the share the copy read. The cell
  of the local copies in and the one of the copies out have a round for each copy, each giving back source and destination.
-/
module

public import proofs.«01_k».proof.Proof.Base
public import Idealize.ShloMosaic.Lib.Memref
public import Idealize.ShloMosaic.Lib.Pipeline.Kit
public import Idealize.ShloMosaic.Lib.Pipeline.Regions
public import Idealize.ShloMosaic.Lib.StableHlo
public import Idealize.ShloMosaic.Lib.Tactic
public import Idealize.ShloMosaic.PureOps
public import Idealize.ShloMosaic.Harness.Basic

@[expose] public section

noncomputable section

namespace Cert.Bidir

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-- The two ghost algebras: the windows' own cells', and the protocol's. -/
abbrev UU : Type := URounds (GSem nD τ sig) Unit × URounds (GSem nD τ sig) (Fin 2)

variable {F : FTy → Type} [FloatOps F]

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) (Fin 2)) (MT nD τ sig Unit (Elt F) ℕ UU ℕ) := embR

/-- A device holds a chunk's slot whole, with these contents. -/
abbrev hasQ (q : PosShare TreeShare) (c : Dev nD) {sp : Space} {sh : Shape} {e : EltTy} (m : Memref sig .tc sp sh e) (X : sh.Idx → Elt F e) : sProp 𝕄 :=
  owns (c : Thread nD τ) m q X
abbrev has (c : Dev nD) {sp : Space} {sh : Shape} {e : EltTy} (m : Memref sig .tc sp sh e) (X : sh.Idx → Elt F e) : sProp 𝕄 :=
  hasQ fullShare c m X
/-- The slot at contents not chosen. -/
def hasAny (c : Dev nD) {sp : Space} {sh : Shape} {e : EltTy} (m : Memref sig .tc sp sh e) : sProp 𝕄 := iprop(∃ X, has (F := F) c m X)
instance hasAny_storable (c : Dev nD) {sp : Space} {sh : Shape} {e : EltTy} (m : Memref sig .tc sp sh e) :
    BI.Storable (upEmb : UEmb _ 𝕄) (hasAny (F := F) c m) := by unfold hasAny; infer_instance

variable (B : Blocks F)

/-- The share a copy onwards reads, and the share a copy in reads. -/
abbrev lq : PosShare TreeShare := fullShare.left
abbrev rq : PosShare TreeShare := fullShare.right

/-- The step of a copy out's round: the last step's chunk is the device's own and goes out first. -/
def ostep (r : ℕ) : ℕ := (r + 15) % 16
theorem ostep_lt (r : ℕ) : ostep r < 16 := Nat.mod_lt _ (by decide)

/-- The number of a step, as the slot's index. -/
abbrev ix (s : ℕ) : Fin 15 := Fin.ofNat 15 s

/-- What a neighbour hands over with its barrier signal: the slots this device sends into. -/
def barPay (c : Dev nD) (e : Fin 2) : sProp 𝕄 :=
  bigSep Finset.univ fun s : Fin 15 =>
    iprop((hasAny (F := F) (nxt e c) (rsSlot e s) ∗ reached ER (cell (nxt e c) (.rs e s)) 0)
      ∗ hasAny (F := F) (nxt e c) (agSlot e s) ∗ reached ER (cell (nxt e c) (.ag e s)) 0)

/-- What comes back with a send of the all-gather. -/
def agBack (d : Fin 2) (n : ℕ) (c : Dev nD) : sProp 𝕄 :=
  if n = 0 then has (F := F) c (sendSlot d 1) (snd B d 15 c) else hasQ lq c (agSlot d (ix (n - 1))) (gat B d (n - 1) c)

/-- What comes back with a local copy in. -/
def cpBack (d : Fin 2) (r : ℕ) (c : Dev nD) : sProp 𝕄 :=
  if r < 15 then iprop(has (F := F) c (recvSlot d) (snd B d r (prv d c)) ∗ has c (rsSlot d (ix r)) (snd B d r (prv d c)))
  else iprop(has (F := F) c (recvSlot d) (gat B d (r - 15) c) ∗ hasQ rq c (agSlot d (ix (r - 15))) (gat B d (r - 15) c))

/-- What comes back with a copy out. -/
def ovBack (d : Fin 2) (r : ℕ) (c : Dev nD) : sProp 𝕄 :=
  iprop(has (F := F) c ((pars c).outAt d (ostep r) (ostep_lt r)) (outV B d (ostep r) c) ∗ has c (ovSlot d) (outV B d (ostep r) c))

/-- A round's duty's payload, by kind. -/
def pay (c : Dev nD) : Kd → ℕ → Fin 2 → sProp 𝕄
  | .bar, _, e => barPay c e
  | .rs d s, _, _ => has (F := F) c (rsSlot d s) (snd B d s (prv d c))
  | .ag d s, _, _ => has (F := F) c (agSlot d s) (gat B d s c)
  | .rsS d b, r, _ => has (F := F) c (sendSlot d b) (snd B d (2 * r + b) c)
  | .agS d b, r, _ => agBack B d (2 * r + b) c
  | .cp d, r, _ => cpBack B d r c
  | .ov d, r, _ => ovBack B d r c

/-- A round's duties, by kind. -/
def dut (k : Kd) (r : ℕ) : Finset (Fin 2) :=
  if r < k.rounds then (match k with | .bar => {0, 1} | _ => {0}) else ∅

instance barPay_storable (c : Dev nD) (e : Fin 2) : BI.Storable (upEmb : UEmb _ 𝕄) (barPay (F := F) c e) := by
  unfold barPay; infer_instance
instance agBack_storable (d : Fin 2) (n : ℕ) (c : Dev nD) : BI.Storable (upEmb : UEmb _ 𝕄) (agBack B d n c) := by
  unfold agBack; split <;> infer_instance
instance cpBack_storable (d : Fin 2) (r : ℕ) (c : Dev nD) : BI.Storable (upEmb : UEmb _ 𝕄) (cpBack B d r c) := by
  unfold cpBack; split <;> infer_instance
instance ovBack_storable (d : Fin 2) (r : ℕ) (c : Dev nD) : BI.Storable (upEmb : UEmb _ 𝕄) (ovBack B d r c) := by
  unfold ovBack; infer_instance
instance pay_storable (c : Dev nD) (k : Kd) (r : ℕ) (e : Fin 2) : BI.Storable (upEmb : UEmb _ 𝕄) (pay B c k r e) := by
  cases k <;> unfold pay <;> infer_instance

/-- The schedule of all cells. -/
def sched : Rounds.Schedule (GSem nD τ sig) (Fin 2) 𝕄 where
  duties g r := if g.1.2 = .tc then (match kindOf g.2 with | some k => dut k r | none => ∅) else ∅
  unitless _ := False
  amount g _ _ := match kindOf g.2 with | some k => k.amt | none => 1
  payload g r e := match kindOf g.2 with | some k => pay B g.1.1 k r e | none => iprop(emp)
  amount_pos g _ _ _ := by
    cases kindOf g.2 with
    | none => exact Nat.one_pos
    | some k => exact k.amt_pos

instance sched_payload_storable (g : GSem nD τ sig) (r : ℕ) (e : Fin 2) : BI.Storable (upEmb : UEmb _ 𝕄) ((sched B).payload g r e) := by
  show BI.Storable upEmb (match kindOf g.2 with | some k => pay B g.1.1 k r e | none => iprop(emp))
  cases kindOf g.2 <;> infer_instance

/-! ## The schedule's tables -/

theorem duties_eq (c : Dev nD) (k : Kd) (r : ℕ) : (sched B).duties (cell c k) r = dut k r := by
  dsimp only [sched]; rw [if_pos rfl, kindOf_loc]
theorem amount_eq (c : Dev nD) (k : Kd) (r : ℕ) (e : Fin 2) : (sched B).amount (cell c k) r e = k.amt := by
  dsimp only [sched]; rw [kindOf_loc]
theorem payload_eq (c : Dev nD) (k : Kd) (r : ℕ) (e : Fin 2) : (sched B).payload (cell c k) r e = pay B c k r e := by
  dsimp only [sched]; rw [kindOf_loc]

theorem dut_one (k : Kd) (hk : k ≠ .bar) (r : ℕ) (hr : r < k.rounds) : dut k r = {0} := by
  unfold dut; rw [if_pos hr]; cases k <;> first | rfl | exact absurd rfl hk
theorem dut_bar : dut .bar 0 = {0, 1} := rfl
theorem dut_done (k : Kd) (r : ℕ) (hr : k.rounds ≤ r) : dut k r = ∅ := if_neg (Nat.not_lt.2 hr)

theorem mem_duties (c : Dev nD) (k : Kd) (hk : k ≠ .bar) (r : ℕ) (hr : r < k.rounds) : (0 : Fin 2) ∈ (sched B).duties (cell c k) r := by
  rw [duties_eq, dut_one k hk r hr]; exact Finset.mem_singleton_self _
theorem mem_duties_bar (c : Dev nD) (e : Fin 2) : e ∈ (sched B).duties (cell c .bar) 0 := by
  rw [duties_eq, dut_bar]; revert e; decide

theorem expect_one (c : Dev nD) (k : Kd) (hk : k ≠ .bar) (r : ℕ) (hr : r < k.rounds) : (sched B).expect (cell c k) r = k.amt := by
  unfold Schedule.expect Schedule.amountOf; rw [duties_eq, dut_one k hk r hr, Finset.sum_singleton, amount_eq]
theorem expect_bar (c : Dev nD) : (sched B).expect (cell c .bar) 0 = 2 := by
  unfold Schedule.expect Schedule.amountOf; rw [duties_eq, dut_bar, Finset.sum_pair (by decide), amount_eq, amount_eq]; rfl

theorem rest_one (c : Dev nD) (k : Kd) (hk : k ≠ .bar) (r : ℕ) (hr : r < k.rounds) :
    bigSep ((sched B).duties (cell c k) r \ ∅) (fun e => (sched B).payload (cell c k) r e) = pay B c k r 0 := by
  rw [Finset.sdiff_empty, duties_eq, dut_one k hk r hr, bigSep_singleton, payload_eq]
theorem rest_bar (c : Dev nD) :
    bigSep ((sched B).duties (cell c .bar) 0 \ ∅) (fun e => (sched B).payload (cell c .bar) 0 e) = iprop(barPay (F := F) c 0 ∗ barPay c 1) := by
  rw [Finset.sdiff_empty, duties_eq, dut_bar, show ({0, 1} : Finset (Fin 2)) = Finset.univ from by decide, bigSep_fin_two, payload_eq, payload_eq]
  rfl

theorem duties_done (c : Dev nD) (k : Kd) (R : ℕ) (h : k.rounds ≤ R) : ∀ r, R ≤ r → (sched B).duties (cell c k) r = ∅ :=
  fun r hr => by rw [duties_eq, dut_done k r (h.trans hr)]

/-! ## What each device owes, and the levels -/

/-- The receive cell of a stage: the reduce-scatter's steps, then the all-gather's. -/
def stg (d : Fin 2) (j : ℕ) : Kd := if j < 15 then .rs d (ix j) else .ag d (ix (j - 15))
/-- The credit of stage `j`'s copy in direction `d`. -/
def tk (c : Dev nD) (d : Fin 2) (j : ℕ) : CellTallies nD τ sig Unit := tallyAt (cell (nxt d c) (stg d j)) () creditB
/-- What the copies of the last `n` stages credit. -/
def owed (c : Dev nD) : ℕ → CellTallies nD τ sig Unit
  | 0 => 0
  | n + 1 => owed c n + tk c 1 (29 - n) + tk c 0 (29 - n)
/-- The barrier unit of a direction. -/
def bk (c : Dev nD) (d : Fin 2) : CellTallies nD τ sig Unit := tallyAt (cell (nxt d c) .bar) () 1
/-- What a device owes at launch. -/
def O₀ (c : Dev nD) : CellTallies nD τ sig Unit := owed c 30 + bk c 1 + bk c 0

def Kd.lev : Kd → ℕ
  | .bar => 1
  | .rs _ s => 2 + s
  | .ag _ s => 17 + s
  | _ => 0

def L (g : GSem nD τ sig) : Finset Unit := if g.1.2 = .tc then {()} else ∅
def lv (g : GSem nD τ sig) (_ : Unit) : ℕ := match kindOf g.2 with | some k => k.lev | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kd) : lv (cell c k) () = k.lev := by unfold lv; rw [kindOf_loc]

/-- Everything owed lies above a level. -/
def Above (l : ℕ) (O : CellTallies nD τ sig Unit) : Prop := ∀ g u, 0 < O g u → g.1.2 = .tc ∧ l < lv g u

theorem above_zero (l : ℕ) : Above l 0 := fun g u h => absurd h (Nat.lt_irrefl 0)
theorem above_add {l : ℕ} {O O' : CellTallies nD τ sig Unit} (h : Above l O) (h' : Above l O') : Above l (O + O') := fun g u hg => by
  have hg : 0 < O g u + O' g u := hg
  rcases Nat.eq_zero_or_pos (O g u) with h0 | h0
  · exact h' g u (by omega)
  · exact h g u h0
theorem above_tally {l : ℕ} (c : Dev nD) (k : Kd) (n : ℕ) (h : l < k.lev) : Above l (tallyAt (cell c k) () n) := fun g u hg => by
  rw [tallyAt_apply] at hg
  by_cases hgu : g = cell c k ∧ u = ()
  · obtain ⟨rfl, rfl⟩ := hgu; exact ⟨rfl, by rw [lv_cell]; exact h⟩
  · rw [if_neg hgu] at hg; exact absurd hg (Nat.lt_irrefl 0)
theorem Above.mono {l l' : ℕ} {O : CellTallies nD τ sig Unit} (h : Above l O) (hl : l' ≤ l) : Above l' O := fun g u hg =>
  ⟨(h g u hg).1, lt_of_le_of_lt hl (h g u hg).2⟩

theorem stg_lev (d : Fin 2) (j : ℕ) (hj : j < 30) : (stg d j).lev = 2 + j := by
  unfold stg
  by_cases h : j < 15
  · rw [if_pos h]; show 2 + j % 15 = 2 + j; rw [Nat.mod_eq_of_lt h]
  · rw [if_neg h]; show 17 + (j - 15) % 15 = 2 + j; rw [Nat.mod_eq_of_lt (by omega)]; omega
theorem above_tk {l : ℕ} (c : Dev nD) (d : Fin 2) (j : ℕ) (hj : j < 30) (h : l < 2 + j) : Above l (tk c d j) :=
  above_tally _ _ _ (by rw [stg_lev d j hj]; exact h)
theorem above_owed {l : ℕ} (c : Dev nD) : (n : ℕ) → n ≤ 30 → l + n < 32 → Above l (owed c n)
  | 0, _, _ => above_zero l
  | n + 1, h, hl => above_add (above_add (above_owed c n (by omega) (by omega)) (above_tk c 1 _ (by omega) (by omega)))
      (above_tk c 0 _ (by omega) (by omega))

/-- A wait on a cell of a level below all that is owed is allowed. -/
theorem mayWait (c : Dev nD) (k : Kd) (O : CellTallies nD τ sig Unit) (h : Above k.lev O) :
    (levAts L lv : sProp 𝕄) ⊢ MayWait (c : Thread nD τ) k.loc () O :=
  MayOwe.of_cut (L := L) (lev := lv) k.lev (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_of_eq (lv_cell c k))
    (fun g u hg => (h g u hg).2)

end Cert.Bidir

end
-- ==== Proof.Rules.lean ====
/-
  What each single operation of the body does to the protocol's resources: a wait, a copy on the device, a copy to a neighbour, a
  load and a store of a slot, a barrier signal.
-/
module

public import proofs.«01_k».proof.Proof.Sched

@[expose] public section

noncomputable section

namespace Cert.Bidir

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- A piece of the body run on device `c`. -/
abbrev WP (c : Dev nD) {α : Type} (p : KProg F α) (Q : α → sProp 𝕄) : sProp 𝕄 :=
  wp frame (wpE (defs₀ (F := F)) 𝒱₀ (c : Thread nD τ) none) Set.univ p Q

/-- A piece that needs `Pre` and leaves `Post`. -/
def Does (c : Dev nD) {α : Type} (Pre : sProp 𝕄) (p : KProg F α) (Post : α → sProp 𝕄) : Prop :=
  ∀ Q : α → sProp 𝕄, Pre ⊢ iprop((∀ a, Post a -∗ Q a) -∗ WP c p Q)

theorem Does.bind {c : Dev nD} {α β : Type} {Pre : sProp 𝕄} {p : KProg F α} {Mid : α → sProp 𝕄} {k : α → KProg F β} {Post : β → sProp 𝕄}
    (h : Does c Pre p Mid) (h' : ∀ a, Does c (Mid a) (k a) Post) : Does c Pre (p >>= k) Post := fun Q => by
  show Pre ⊢ iprop((∀ b, Post b -∗ Q b) -∗ wp frame (wpE (defs₀ (F := F)) 𝒱₀ (c : Thread nD τ) none) Set.univ (p >>= k) Q)
  rw [wp_bind]
  iintro H HQ
  iapply (h _) $$ [H]
  · iexact H
  iintro %a Hm
  iapply (h' a Q) $$ [Hm]
  · iexact Hm
  iexact HQ

theorem Does.pure {c : Dev nD} {α : Type} {Pre : sProp 𝕄} {Post : α → sProp 𝕄} (a : α) (h : Pre ⊢ Post a) :
    Does c Pre (pure a : KProg F α) Post := fun Q => by
  show Pre ⊢ iprop((∀ b, Post b -∗ Q b) -∗ wp frame (wpE (defs₀ (F := F)) 𝒱₀ (c : Thread nD τ) none) Set.univ (.ret a) Q)
  rw [wp_ret]
  iintro H HQ
  imodintro
  iapply HQ
  iapply h; iexact H

theorem Does.conseq {c : Dev nD} {α : Type} {Pre Pre' : sProp 𝕄} {p : KProg F α} {Post Post' : α → sProp 𝕄}
    (h : Does c Pre p Post) (h1 : Pre' ⊢ Pre) (h2 : ∀ a, Post a ⊢ Post' a) : Does c Pre' p Post' := fun Q => by
  iintro H HQ
  iapply (h Q) $$ [H]
  · iapply h1; iexact H
  iintro %a Hp
  iapply HQ
  iapply (h2 a); iexact Hp

/-- What a piece does not touch stays. -/
theorem Does.frame {c : Dev nD} {α : Type} {Pre : sProp 𝕄} {p : KProg F α} {Post : α → sProp 𝕄} (h : Does c Pre p Post) (R : sProp 𝕄) :
    Does c iprop(Pre ∗ R) p (fun a => iprop(Post a ∗ R)) := fun Q => by
  iintro ⟨H, HR⟩ HQ
  iapply (h Q) $$ [H]
  · iexact H
  iintro %a Hp
  iapply HQ
  isplitl [Hp]; · iexact Hp
  iexact HR

variable (B : Blocks F) (K : GSem nD τ sig → ℕ)

/-- What every device may open, and the levels. -/
def ctx : sProp 𝕄 :=
  iprop((bigSep Finset.univ fun p : Dev nD × Kd => cellInv ER (sched B) (K (cell p.1 p.2)) (cell p.1 p.2)) ∗ levAts L lv)
instance ctx_persistent : BI.Persistent (ctx B K) := by unfold ctx; infer_instance

theorem ctx_inv (c : Dev nD) (k : Kd) : ctx B K ⊢ (cellInv ER (sched B) (K (cell c k)) (cell c k) : sProp 𝕄) := by
  unfold ctx
  iintro ⟨H, -⟩
  iapply (show bigSep Finset.univ (fun p : Dev nD × Kd => (cellInv ER (sched B) (K (cell p.1 p.2)) (cell p.1 p.2) : sProp 𝕄)) ⊢ cellInv ER (sched B) (K (cell c k)) (cell c k) from bigSep_elim (Finset.mem_univ (c, k)) (Φ := fun p : Dev nD × Kd => (cellInv ER (sched B) (K (cell p.1 p.2)) (cell p.1 p.2) : sProp 𝕄))); iexact H
theorem ctx_lev : ctx B K ⊢ (levAts L lv : sProp 𝕄) := by
  unfold ctx
  iintro ⟨-, H⟩; iexact H
theorem ctx_mayWait (c : Dev nD) (k : Kd) (O : CellTallies nD τ sig Unit) (h : Above k.lev O) :
    ctx B K ⊢ (MayWait (c : Thread nD τ) k.loc () O : sProp 𝕄) := by
  unfold ctx
  iintro ⟨-, H⟩
  iapply (mayWait (F := F) c k O h); iexact H

/-- A memref whose elements are known to hold `X`. -/
theorem hasQ_of (c : Dev nD) {sp : Space} {s : Shape} {e : EltTy} (m : Memref sig .tc sp s e) (q : PosShare TreeShare) (X : s.Idx → Elt F e)
    (f) (h : m.view.read (Elt F) f = X) : (m.view.loc (c : Thread nD τ) ↦[m.view.set]{q} f : sProp 𝕄) ⊢ hasQ q c m X := by
  unfold hasQ owns
  iintro H
  iexists f; isplitr
  · ipureintro; exact h
  iexact H

/-- A device's debts. -/
def ows (c : Dev nD) (O : CellTallies nD τ sig Unit) : sProp 𝕄 := iprop(∃ W, owes (c : Thread nD τ) O W)
/-- Its place on a cell of its own: the round reached. -/
def pos (c : Dev nD) (k : Kd) (r : ℕ) : sProp 𝕄 := iprop(atPos ER (cell c k) r ∅ 0 ∗ reached ER (cell c k) r)
/-- That a wait for one payment of a cell of its own will end. -/
abbrev crd (c : Dev nD) (k : Kd) : sProp 𝕄 := cred (tallyAt (cell c k) () k.amt)
/-- The right to make a payment. -/
abbrev tok (c : Dev nD) (k : Kd) (r : ℕ) (e : Fin 2) : sProp 𝕄 := dutyTok ER (cell c k) r e
abbrev rch (c : Dev nD) (k : Kd) (r : ℕ) : sProp 𝕄 := reached ER (cell c k) r

/-- A wait for a cell's round. -/
theorem does_wait (c : Dev nD) (k : Kd) (hk : k ≠ .bar) (r : ℕ) (hr : r < k.rounds) {sm : DmaSem sig} (hsm : k.loc = .dma sm)
    {sp sp' : Space} {s s' : Shape} {e e' : EltTy} {src : Memref sig .tc sp' s' e'} {dst : Memref sig .tc sp s e}
    {hsrc : src.view.WordExact} {hdst : dst.view.WordExact} (hc : dst.view.dmaCredit = k.amt) (O : CellTallies nD τ sig Unit) (hO : Above k.lev O) :
    Does c iprop(ctx B K ∗ crd (F := F) c k ∗ ows c O ∗ pos c k r)
      (Prog.lift (.waitDma2 sm src dst hsrc hdst) : KProg F PUnit)
      (fun _ => iprop(ows c O ∗ pos c k (r + 1) ∗ pay B c k r 0)) := fun Q => by
  unfold ows pos crd
  have h1 := expect_one B c k hk r hr
  have h2 := rest_one B c k hk r hr
  have h3 := ctx_inv B K c k
  have h4 := ctx_mayWait B K c k O hO
  simp only [cell, hsm] at h1 h2 h3 h4 ⊢
  iintro ⟨#Hctx, Hc, ⟨%W, HO⟩, Hat, -⟩ HQ
  iapply (Rounds.wp_wait_rest_token 𝒱₀ ER (sched B) (c : Thread nD τ) none (κ := K ((c : Thread nD τ), .dma sm))
      (wpE_waitDma2_eq (src := src) (dst := dst) 𝒱₀ (c : Thread nD τ) none Set.univ) (Set.mem_univ _) () (O := O) (W := W) (R := r) (m := 0) (T := ∅)
      ((Nat.zero_add _).trans (hc.trans h1.symm))) $$ [Hc HO Hat]
  · isplitr; · iapply h3; iexact Hctx
    isplitl [Hc]; · rw [hc]; iexact Hc
    isplitl [HO]; · iexact HO
    isplitr; · iapply h4; iexact Hctx
    iexact Hat
  iintro ⟨HO, Hat, Hr, Hpay⟩
  ihave Hp := (Entails.of_eq h2) $$ Hpay
  rw [wp_ret]
  imodintro
  iapply HQ
  isplitl [HO]; · iexists _; iexact HO
  isplitl [Hat Hr]
  · isplitl [Hat]; · iexact Hat
    iexact Hr
  iexact Hp

/-- A copy on the device: it will give back its source and its destination, holding what the source holds. -/
theorem does_copy (c : Dev nD) (k : Kd) (hk : k ≠ .bar) (r : ℕ) (hr : r < k.rounds) {sm : DmaSem sig} (hsm : k.loc = .dma sm)
    {sp sp' : Space} {s : Shape} {e : EltTy} {src : Memref sig .tc sp s e} {dst : Memref sig .tc sp' s e}
    {hsrc : src.view.WordExact} {hdst : dst.view.WordExact} {hsem : DmaTarget.Typed (nD := nD) (τ := τ) (sig := sig) sp (.dma sm) (.here (p := Proc.tc) dst)} (hc : dst.view.dmaCredit = k.amt)
    (q : PosShare TreeShare) (X : s.Idx → Elt F e)
    (hpay : iprop(has (F := F) c dst X ∗ hasQ q c src X) ⊢ pay B c k r 0) :
    Does c iprop(ctx B K ∗ hasQ q c src X ∗ hasAny c dst ∗ tok c k r 0 ∗ rch c k r)
      (Prog.lift (.enqueueDma src (.here dst) (.dma sm) hsrc hdst hsem) : KProg F PUnit)
      (fun _ => crd (F := F) c k) := fun Q => by
  unfold hasAny has hasQ owns
  have h1 := mem_duties B c k hk r hr
  have h2 := amount_eq B c k r 0
  have h3 := ctx_inv B K c k
  have h4 := payload_eq B c k r 0
  simp only [cell, crd, tok, rch, hsm] at h1 h2 h3 h4 ⊢
  iintro ⟨#Hctx, ⟨%fs, %hX, Hs⟩, ⟨%Y, %fd, -, Hd⟩, Ht, Hr⟩ HQ
  iapply (Rounds.wp_copy_pointsTo 𝒱₀ ER (sched B) (c : Thread nD τ) none (src := src) (dst := dst) (sem := .dma sm) (q := q)
      (fs := fs) (fd := fd) (r := r) (d := 0) (κ := K ((c : Thread nD τ), .dma sm)) h1 () k.amt hc h2 (by
        rw [h4]
        exact BIBase.Entails.trans (BIClass.sep_mono (hasQ_of c dst fullShare X _ (by rw [View.read_write_univ]; exact hX)) (hasQ_of c src q X fs hX)) hpay)) $$ [Hs Hd Ht Hr]
  · isplitr; · iapply h3; iexact Hctx
    isplitl [Hs]; · iexact Hs
    isplitl [Hd]; · iexact Hd
    isplitl [Ht]; · iexact Ht
    iexact Hr
  iintro Hc
  rw [wp_ret]
  imodintro
  iapply HQ
  iexact Hc

/-- A copy to a neighbour: the neighbour's receive cell is paid with the slot it lands in, the device's own send cell with the
    source. -/
theorem does_send (c c' : Dev nD) (k₁ k₂ : Kd) (hk₁ : k₁ ≠ .bar) (hk₂ : k₂ ≠ .bar) (r : ℕ) (hr : r < k₁.rounds) (hr₂ : 0 < k₂.rounds) {sm₁ sm₂ : DmaSem sig}
    (hsm₁ : k₁.loc = .dma sm₁) (hsm₂ : k₂.loc = .dma sm₂)
    {sp sp' : Space} {s : Shape} {e : EltTy} {src : Memref sig .tc sp s e} {dst : Memref sig .tc sp' s e} {hsc : dst.view.ref.isScScratch = false}
    {hsrc : src.view.WordExact} {hdst : dst.view.WordExact} {hsem : DmaTarget.Typed sp (.dma sm₂) (.remote (Dev.tc c' : Thread nD τ) dst (.dma sm₁) hsc)}
    (hc₁ : dst.view.dmaCredit = k₁.amt) (hc₂ : dst.view.dmaCredit = k₂.amt) (q : PosShare TreeShare) (X : s.Idx → Elt F e)
    (O : CellTallies nD τ sig Unit)
    (hpay₁ : hasQ q c src X ⊢ pay B c k₁ r 0) (hpay₂ : has (F := F) c' dst X ⊢ pay B c' k₂ 0 0) :
    Does c iprop(ctx B K ∗ hasQ q c src X ∗ hasAny c' dst ∗ ows c (O + tallyAt (cell c' k₂) () k₂.amt) ∗ (tok c k₁ r 0 ∗ rch c k₁ r) ∗ tok c' k₂ 0 0 ∗ rch c' k₂ 0)
      (Prog.lift (.enqueueDma src (.remote (Dev.tc c' : Thread nD τ) dst (.dma sm₁) hsc) (.dma sm₂) hsrc hdst hsem) : KProg F PUnit)
      (fun _ => iprop(crd (F := F) c k₁ ∗ ows c O)) := fun Q => by
  unfold hasAny has hasQ owns ows
  have h1 := mem_duties B c k₁ hk₁ r hr
  have h2 := amount_eq B c k₁ r 0
  have h3 := ctx_inv B K c k₁
  have h4 := payload_eq B c k₁ r 0
  have g1 := mem_duties B c' k₂ hk₂ 0 hr₂
  have g2 := amount_eq B c' k₂ 0 0
  have g3 := ctx_inv B K c' k₂
  have g4 := payload_eq B c' k₂ 0 0
  have hk : k₁.amt = k₂.amt := hc₁.symm.trans hc₂
  simp only [cell, crd, tok, rch, hsm₁, hsm₂, ← hk] at h1 h2 h3 h4 g1 g2 g3 g4 ⊢
  iintro ⟨#Hctx, ⟨%fs, %hX, Hs⟩, ⟨%Y, %fd, -, Hd⟩, ⟨%W, HO⟩, ⟨Ht, Hr⟩, Ht', Hr'⟩ HQ
  iapply (Rounds.wp_send_pointsTo 𝒱₀ ER (sched B) (c : Thread nD τ) none (c' := (c' : Thread nD τ)) (src := src) (dst := dst)
      (sS := .dma sm₁) (sem := .dma sm₂) (q := q) (fs := fs) (κ₁ := K ((c : Thread nD τ), .dma sm₁)) (κ₂ := K ((c' : Thread nD τ), .dma sm₂))
      (r₁ := r) (r₂ := 0) (d₁ := 0) (d₂ := 0) (fd := fd) h1 g1 () () k₁.amt hc₁ h2 g2 O rfl (W := W)
      (by
        rw [h4]
        exact BIBase.Entails.trans (hasQ_of c src q X fs hX) hpay₁)
      (by
        rw [g4]
        exact BIBase.Entails.trans (hasQ_of c' dst fullShare X _ (by rw [View.read_write_univ]; exact hX)) hpay₂)) $$ [Hs Hd HO Ht Hr Ht' Hr']
  · isplitr; · iapply h3; iexact Hctx
    isplitr; · iapply g3; iexact Hctx
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  rw [wp_ret]
  imodintro
  iapply HQ
  isplitl [Hc]; · iexact Hc
  iexists _; iexact HO

/-- A unit of a neighbour's barrier, and with it the slots the neighbour sends into. -/
theorem does_signal (c c' : Dev nD) (e : Fin 2) (O : CellTallies nD τ sig Unit) :
    Does c iprop(ctx B K ∗ ows c (O + tallyAt (cell c' .bar) () 1) ∗ tok c' .bar 0 e ∗ barPay c' e ∗ rch c' .bar 0)
      (semSignalWord c' barSem 1#32 : KProg F PUnit) (fun _ => ows c O) := fun Q => by
  unfold ows semSignalWord
  have h1 := mem_duties_bar B c' e
  have h2 : (sched B).amount (cell c' .bar) 0 e = 1 := amount_eq B c' .bar 0 e
  have h3 := ctx_inv B K c' .bar
  have h4 : (sched B).payload (cell c' .bar) 0 e = barPay c' e := payload_eq B c' .bar 0 e
  simp only [cell, tok, rch, Kd.loc] at h1 h2 h3 h4 ⊢
  iintro ⟨#Hctx, ⟨%W, HO⟩, Ht, Hpay, Hr⟩ HQ
  iapply (Rounds.wp_signal 𝒱₀ ER (sched B) (c : Thread nD τ) none (dst := (c' : Thread nD τ)) (sem := barSem) (r := 0) (d := e)
      (κ := K ((c' : Thread nD τ), .reg barSem)) h1 h2 () O rfl (W := W)) $$ [HO Ht Hpay Hr]
  · isplitr; · iapply h3; iexact Hctx
    isplitl [HO]; · iexact HO
    isplitl [Ht]; · iexact Ht
    isplitl [Hpay]; · iapply (Entails.of_eq h4.symm); iexact Hpay
    iexact Hr
  iintro HO
  rw [wp_ret]
  imodintro
  iapply HQ
  iexists _; iexact HO

/-- The wait for both units of the device's own barrier. -/
theorem does_wait_bar (c : Dev nD) (O : CellTallies nD τ sig Unit) (hO : Above (Kd.lev .bar) O) :
    Does c iprop(ctx B K ∗ cred (tallyAt (cell c .bar) () 2) ∗ ows c O ∗ pos c .bar 0)
      (semWaitWord barSem 2#32 : KProg F PUnit)
      (fun _ => iprop(ows c O ∗ pos c .bar 1 ∗ barPay c 0 ∗ barPay c 1)) := fun Q => by
  unfold ows pos semWaitWord
  have h1 := expect_bar B c
  have h2 := rest_bar B c
  have h3 := ctx_inv B K c .bar
  have h4 := ctx_mayWait B K c .bar O hO
  simp only [cell, Kd.loc] at h1 h2 h3 h4 ⊢
  iintro ⟨#Hctx, Hc, ⟨%W, HO⟩, Hat, -⟩ HQ
  iapply (Rounds.wp_wait_rest_token 𝒱₀ ER (sched B) (c : Thread nD τ) none (κ := K ((c : Thread nD τ), .reg barSem))
      (wpE_semWait_eq (sem := barSem) (k := 2) 𝒱₀ (c : Thread nD τ) none Set.univ) (Set.mem_univ _) () (O := O) (W := W) (R := 0) (m := 0) (T := ∅)
      ((Nat.zero_add _).trans h1.symm)) $$ [Hc HO Hat]
  · isplitr; · iapply h3; iexact Hctx
    isplitl [Hc]; · iexact Hc
    isplitl [HO]; · iexact HO
    isplitr; · iapply h4; iexact Hctx
    iexact Hat
  iintro ⟨HO, Hat, Hr, Hpay⟩
  ihave Hp := (Entails.of_eq h2) $$ Hpay
  rw [wp_ret]
  imodintro
  iapply HQ
  isplitl [HO]; · iexists _; iexact HO
  isplitl [Hat Hr]
  · isplitl [Hat]; · iexact Hat
    iexact Hr
  iexact Hp

/-- A load through a rectangle of a memref held whole. -/
theorem does_load (c : Dev nD) {cs : CoreSpace} {s : Shape} {e : EltTy} (m : Memref sig .tc cs s e) (r : Rect s) (hl : m.view.LoadsAt r.toLoadRect)
    (q : PosShare TreeShare) (X : s.Idx → Elt F e) :
    Does c (hasQ q c m X) (Prog.lift (.load m r.toLoadRect hl) : KProg F _)
      (fun v => iprop(⌜v = fun i => X (r.emb i)⌝ ∗ hasQ q c m X)) := fun Q => by
  unfold hasQ owns
  iintro ⟨%f, %hX, Hs⟩ HQ
  iapply (wp_load_rect 𝒱₀ (c : Thread nD τ) none Set.univ (View.set_slice_subset m.view r)) $$ [Hs]
  · iexact Hs
  iintro Hs
  rw [wp_ret]
  imodintro
  iapply HQ
  isplitr; · ipureintro; rw [← hX]; rfl
  iexists f; isplitr; · ipureintro; exact hX
  iexact Hs

/-- A load of a slot through its buffer. -/
theorem does_load_slot (c : Dev nD) {cs : CoreSpace} {s s' : Shape} {e : EltTy} (m : Memref sig .tc cs s e) (r : Rect s) (hr : ∀ a, r.stride a = 1)
    (hq : r.shape.Squeezes s') (hc : r.shape.ShapeCasts s') (hl : m.view.LoadsAt r.toLoadRect) (q : PosShare TreeShare) (X : s'.Idx → Elt F e) :
    Does c (hasQ q c ((m.slice r hr).squeeze s' hq) X) (Prog.lift (.load m r.toLoadRect hl) : KProg F _)
      (fun v => iprop(⌜shapeCast s' v hc = X⌝ ∗ hasQ q c ((m.slice r hr).squeeze s' hq) X)) := fun Q => by
  unfold hasQ owns
  iintro ⟨%f, %hX, Hs⟩ HQ
  iapply (wp_load_rect 𝒱₀ (c : Thread nD τ) none Set.univ (m := m) (r := r) (S := ((m.slice r hr).squeeze s' hq).view.set)
    (le_of_eq (View.set_reshape (m.view.slice r) hq.numel_eq).symm)) $$ [Hs]
  · iexact Hs
  iintro Hs
  rw [wp_ret]
  imodintro
  iapply HQ
  isplitr; · ipureintro; rw [← hX]; rfl
  iexists f; isplitr; · ipureintro; exact hX
  iexact Hs

/-- A store of a slot through its buffer. -/
theorem does_store_slot (c : Dev nD) {cs : CoreSpace} {s s' : Shape} {e : EltTy} (m : Memref sig .tc cs s e) (r : Rect s) (hr : ∀ a, r.stride a = 1)
    (hq : r.shape.Squeezes s') (hc : s'.ShapeCasts r.shape) {hx : (m.access r).Stores Finset.univ} {hm : (Finset.univ : Finset r.shape.Idx) = Finset.univ ∨ ∀ a, r.stride a = 1}
    (X : s'.Idx → Elt F e) :
    Does c (hasAny c ((m.slice r hr).squeeze s' hq)) (Prog.lift (.store m r (shapeCast r.shape X hc) Finset.univ hx hm) : KProg F PUnit)
      (fun _ => has (F := F) c ((m.slice r hr).squeeze s' hq) X) := fun Q => by
  unfold hasAny has hasQ owns
  iintro ⟨%Y, %f, -, Hs⟩ HQ
  iapply (wp_store 𝒱₀ (c : Thread nD τ) none Set.univ (m := m) (r := r) (S := ((m.slice r hr).squeeze s' hq).view.set)
    (le_of_eq ((View.setOn_univ _).trans (View.set_reshape (m.view.slice r) hq.numel_eq).symm))) $$ [Hs]
  · iexact Hs
  iintro Hs
  rw [wp_ret]
  imodintro
  iapply HQ
  iexists _
  isplitr; swap; · iexact Hs
  ipureintro
  funext x
  show (m.view.slice r).read (Elt F) ((m.view.slice r).write (Elt F) f (shapeCast r.shape X hc) Finset.univ) (Shape.reshapeEquiv hq.numel_eq x) = X x
  rw [View.read_write_univ]
  show X (Shape.reshapeEquiv _ (Shape.reshapeEquiv _ x)) = X x
  rw [Shape.reshapeEquiv_reshapeEquiv, Shape.reshapeEquiv_self]

end Cert.Bidir

end
-- ==== Proof.Pieces.lean ====
/-
  What each piece of the body needs and leaves, at device `c`, for a symbolic direction and step.
-/
module

public import proofs.«01_k».proof.Proof.Rules
public import Idealize.ShloMosaic.Lib.MemrefSat

@[expose] public section

noncomputable section

namespace Cert.Bidir

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The first piece of a sequence. -/
theorem does_seq {c : Dev nD} {α β : Type} {Pre : sProp 𝕄} {p : KProg F α} {Mid : α → sProp 𝕄} {k : α → KProg F β} {Q : β → sProp 𝕄}
    (h : Does c Pre p Mid) : Pre ⊢ iprop((∀ a, Mid a -∗ WP c (k a) Q) -∗ WP c (p >>= k) Q) := by
  show Pre ⊢ iprop((∀ a, Mid a -∗ WP c (k a) Q) -∗ wp frame (wpE (defs₀ (F := F)) 𝒱₀ (c : Thread nD τ) none) Set.univ (p >>= k) Q)
  rw [wp_bind]
  exact h _

variable (B : Blocks F) (K : GSem nD τ sig → ℕ)

theorem ix_of (s : ℕ) (hs : s < 15) : (⟨s, hs⟩ : Fin 15) = ix s := Fin.ext (Nat.mod_eq_of_lt hs).symm
theorem par_num (s : ℕ) : 2 * (s / 2) + (par s).val = s := by show 2 * (s / 2) + s % 2 = s; omega
theorem par_round (s : ℕ) (hs : s < 15) : s / 2 < 8 - (par s).val := by show s / 2 < 8 - s % 2; omega
theorem par_add (s : ℕ) : par (s + 2) = par s := Fin.ext (by show (s + 2) % 2 = s % 2; omega)

/-- The first product's operands stay with the device throughout. -/
def ins (c : Dev nD) : sProp 𝕄 := iprop(has c xM (B.x c) ∗ has c wM (B.w c))

theorem does_dot (c : Dev nD) (d : Fin 2) (s : ℕ) (hs : s < 16) :
    Does c (ins B c) (dotP (pars c) d s hs) (fun v => iprop(⌜v = part B d s c⌝ ∗ ins B c)) := fun Q => by
  unfold ins
  iintro ⟨Hx, Hw⟩ HQ
  unfold dotP
  iapply (does_seq (does_load c xM (rectX (pars c) d s hs) _ fullShare (B.x c))) $$ [Hx]
  · iexact Hx
  iintro %xv ⟨%hx, Hx⟩
  iapply (does_seq (does_load c wM rectW _ fullShare (B.w c))) $$ [Hw]
  · iexact Hw
  iintro %wv ⟨%hw, Hw⟩
  iapply (Does.pure (c := c) (F := F) (Post := fun v => iprop(⌜v = part B d s c⌝ ∗ has c xM (B.x c) ∗ has c wM (B.w c))) (dotV xv wv) .rfl Q) $$ [Hx Hw]
  · isplitr
    · ipureintro; rw [hx, hw]; unfold part; rw [dif_pos hs]; rfl
    isplitl [Hx]; · iexact Hx
    iexact Hw
  iexact HQ

theorem does_storeSend (c : Dev nD) (d b : Fin 2) (a : FVec F S256x4096 .f32) :
    Does c (hasAny c (sendSlot d b)) (storeSend d b a) (fun _ => has (F := F) c (sendSlot d b) (cutV a)) := fun Q => by
  iintro H HQ
  ihave H' := (show hasAny (F := F) c (sendSlot d b) ⊢ iprop(∃ X, has (F := F) c (sendSlot d b) X) from .rfl) $$ H
  icases H' with ⟨%X, H⟩
  unfold storeSend
  iapply (does_seq (does_load_slot c sendM (rectSend d b) (fun _ => rfl) squeezes_S1x1x256x4096_S256x4096 shapeCasts_S1x1x256x4096_S256x4096 _ fullShare X)) $$ [H]
  · iexact H
  iintro %v ⟨-, H⟩
  iapply (does_store_slot c sendM (rectSend d b) (fun _ => rfl) squeezes_S1x1x256x4096_S256x4096 shapeCasts_S256x4096_S1x1x256x4096 (cutV a) Q) $$ [H]
  · unfold hasAny; iexists X; iexact H
  iexact HQ

theorem does_storeOut (c : Dev nD) (d : Fin 2) (a : FVec F S256x4096 .f32) :
    Does c (hasAny c (ovSlot d)) (storeOut d a) (fun _ => has (F := F) c (ovSlot d) a) := fun Q => by
  iintro H HQ
  ihave H' := (show hasAny (F := F) c (ovSlot d) ⊢ iprop(∃ X, has (F := F) c (ovSlot d) X) from .rfl) $$ H
  icases H' with ⟨%X, H⟩
  unfold storeOut
  iapply (does_seq (does_load_slot c ovM (rectBuf d) (fun _ => rfl) squeezes_S1x256x4096_S256x4096 shapeCasts_S1x256x4096_S256x4096 _ fullShare X)) $$ [H]
  · iexact H
  iintro %v ⟨-, H⟩
  iapply (does_store_slot c ovM (rectBuf d) (fun _ => rfl) squeezes_S1x256x4096_S256x4096 shapeCasts_S256x4096_S1x256x4096 a Q) $$ [H]
  · unfold hasAny; iexists X; iexact H
  iexact HQ

theorem does_loadRecv (c : Dev nD) (d : Fin 2) (X : FVec F S256x4096 .bf16) :
    Does c (has c (recvSlot d) X) (loadRecv d) (fun v => iprop(⌜flatV v = X⌝ ∗ has (F := F) c (recvSlot d) X)) :=
  does_load_slot c recvM (rectBuf d) (fun _ => rfl) squeezes_S1x256x4096_S256x4096 shapeCasts_S1x256x4096_S256x4096 _ fullShare X

/-- A landed chunk fetched: round `r` of the copies in. -/
theorem does_fetch (c : Dev nD) (d : Fin 2) (m : Memref sig .tc .hbm S256x4096 .bf16) (hm : m.view.WordExact) (r : ℕ) (hr : r < 30)
    (q : PosShare TreeShare) (X : FVec F S256x4096 .bf16) (hpay : cpBack B d r c = iprop(has (F := F) c (recvSlot d) X ∗ hasQ q c m X))
    (O : CellTallies nD τ sig Unit) (hO : Above 0 O) :
    Does c iprop(ctx B K ∗ ows c O ∗ hasAny c (recvSlot d) ∗ hasQ q c m X ∗ tok c (.cp d) r 0 ∗ pos c (.cp d) r)
      (fetch d m hm) (fun _ => iprop(ows c O ∗ has (F := F) c (recvSlot d) X ∗ hasQ q c m X ∗ pos c (.cp d) (r + 1))) := fun Q => by
  unfold pos
  iintro ⟨#Hctx, HO, Hr, Hm, Ht, Hat, #Hrch⟩ HQ
  unfold fetch
  iapply (does_seq (does_copy B K c (.cp d) (by simp) r hr rfl (src := m) (dst := recvSlot d) (credit_recv d) q X (Entails.of_eq hpay.symm))) $$ [Hr Hm Ht]
  · isplitr; · iexact Hctx
    isplitl [Hm]; · iexact Hm
    isplitl [Hr]; · iexact Hr
    isplitl [Ht]; · iexact Ht
    iexact Hrch
  iintro %_ Hc
  iapply (does_wait B K c (.cp d) (by simp) r hr rfl (src := m) (dst := recvSlot d) (credit_recv d) O hO Q) $$ [HO Hc Hat]
  · isplitr; · iexact Hctx
    isplitl [Hc]; · iexact Hc
    isplitl [HO]; · iexact HO
    unfold pos
    isplitl [Hat]; · iexact Hat
    iexact Hrch
  iintro %_ ⟨HO, Hp, Hpay⟩
  ihave Hpay := (show pay B c (.cp d) r 0 ⊢ iprop(has (F := F) c (recvSlot d) X ∗ hasQ q c m X) from Entails.of_eq hpay) $$ Hpay
  icases Hpay with ⟨Hr, Hm⟩
  iapply HQ
  isplitl [HO]; · iexact HO
  isplitl [Hr]; · iexact Hr
  isplitl [Hm]; · iexact Hm
  unfold pos
  iexact Hp

/-! ## The reduce-scatter's transfers -/

theorem tk_rs (c : Dev nD) (d : Fin 2) (s : ℕ) (hs : s < 15) : tk c d s = tallyAt (cell (nxt d c) (.rs d (ix s))) () (Kd.amt (.rs d (ix s))) := by
  unfold tk stg; rw [if_pos hs]; rfl
theorem tk_ag (c : Dev nD) (d : Fin 2) (s : ℕ) : tk c d (15 + s) = tallyAt (cell (nxt d c) (.ag d (ix s))) () (Kd.amt (.ag d (ix s))) := by
  unfold tk stg; rw [if_neg (by omega), show 15 + s - 15 = s by omega]; rfl

/-- What a send of the reduce-scatter uses up: the right to pay the neighbour's cell, and the slot it lands in. -/
def rsFuel (c : Dev nD) (d : Fin 2) (s : ℕ) : sProp 𝕄 :=
  iprop(tok (F := F) (nxt d c) (.rs d (ix s)) 0 0 ∗ hasAny (F := F) (nxt d c) (rsSlot d (ix s)) ∗ rch (nxt d c) (.rs d (ix s)) 0)
def agFuel (c : Dev nD) (d : Fin 2) (s : ℕ) : sProp 𝕄 :=
  iprop(tok (F := F) (nxt d c) (.ag d (ix s)) 0 0 ∗ hasAny (F := F) (nxt d c) (agSlot d (ix s)) ∗ rch (nxt d c) (.ag d (ix s)) 0)

/-- A send on its way. -/
def rsFly (c : Dev nD) (d : Fin 2) (s : ℕ) : sProp 𝕄 := iprop(crd (F := F) c (.rsS d (par s)) ∗ pos c (.rsS d (par s)) (s / 2))
def agFly (c : Dev nD) (d : Fin 2) (n : ℕ) : sProp 𝕄 := iprop(crd (F := F) c (.agS d (par n)) ∗ pos c (.agS d (par n)) (n / 2))

theorem does_rsSend (c : Dev nD) (d : Fin 2) (s : ℕ) (hs : s < 15) (O : CellTallies nD τ sig Unit) :
    Does c iprop(ctx B K ∗ ows c (O + tk c d s) ∗ has c (sendSlot d (par s)) (snd B d s c) ∗ tok c (.rsS d (par s)) (s / 2) 0
        ∗ pos c (.rsS d (par s)) (s / 2) ∗ rsFuel c d s)
      (rsSend (pars c) d ⟨s, hs⟩) (fun _ => iprop(ows (F := F) c O ∗ rsFly c d s)) := fun Q => by
  unfold pos rsFuel rsFly rsSend
  rw [tk_rs c d s hs, ← ix_of s hs, ← peer_eq c d]
  iintro ⟨#Hctx, HO, Hs, Ht, ⟨Hat, #Hrch⟩, Ht', Hd, Hrch'⟩ HQ
  iapply (does_send B K c ((pars c).peer d) (.rsS d (par s)) (.rs d ⟨s, hs⟩) (by simp) (by simp) (s / 2) (par_round s hs) Nat.one_pos rfl rfl
    (src := sendSlot d (par s)) (dst := rsSlot d ⟨s, hs⟩) (credit_rs d _) (credit_rs d _) fullShare (snd B d s c) O
    (Entails.of_eq (by show _ = has (F := F) c (sendSlot d (par s)) (snd B d (2 * (s / 2) + (par s).val) c); rw [par_num]))
    (Entails.of_eq (by show _ = has (F := F) ((pars c).peer d) (rsSlot d ⟨s, hs⟩) (snd B d s (prv d ((pars c).peer d))); rw [peer_eq, prv_nxt])) Q) $$ [HO Hs Ht Ht' Hd Hrch']
  · isplitr; · iexact Hctx
    isplitl [Hs]; · iexact Hs
    isplitl [Hd]; · iexact Hd
    isplitl [HO]; · iexact HO
    isplitl [Ht]
    · isplitl [Ht]; · iexact Ht
      iexact Hrch
    isplitl [Ht']; · iexact Ht'
    iexact Hrch'
  iintro %_ ⟨Hc, HO⟩
  iapply HQ
  isplitl [HO]; · iexact HO
  isplitl [Hc]; · iexact Hc
  unfold pos
  isplitl [Hat]; · iexact Hat
  iexact Hrch

/-- The wait for a step's landing. -/
theorem does_rsWaitRecv (c : Dev nD) (d : Fin 2) (s : ℕ) (hs : s < 15) (O : CellTallies nD τ sig Unit) (hO : Above (2 + s) O) :
    Does c iprop(ctx B K ∗ ows c O ∗ crd c (.rs d (ix s)) ∗ pos c (.rs d (ix s)) 0)
      (rsWaitRecv d ⟨s, hs⟩) (fun _ => iprop(ows c O ∗ has (F := F) c (rsSlot d (ix s)) (snd B d s (prv d c)) ∗ pos c (.rs d (ix s)) 1)) := fun Q => by
  unfold rsWaitRecv
  rw [← ix_of s hs]
  iintro ⟨#Hctx, HO, Hc, Hp⟩ HQ
  iapply (does_wait B K c (.rs d ⟨s, hs⟩) (by simp) 0 Nat.one_pos rfl (src := sendSlot d (par s)) (dst := rsSlot d ⟨s, hs⟩) (credit_rs d _) O hO Q) $$ [HO Hc Hp]
  · isplitr; · iexact Hctx
    isplitl [Hc]; · iexact Hc
    isplitl [HO]; · iexact HO
    iexact Hp
  iintro %_ ⟨HO, Hp, Hpay⟩
  ihave Hpay := (show pay B c (.rs d ⟨s, hs⟩) 0 0 ⊢ has (F := F) c (rsSlot d ⟨s, hs⟩) (snd B d s (prv d c)) from .rfl) $$ Hpay
  iapply HQ
  isplitl [HO]; · iexact HO
  isplitl [Hpay]; · iexact Hpay
  iexact Hp

/-- The wait for a send to have left its slot. -/
theorem does_rsWaitSend (c : Dev nD) (d : Fin 2) (s : ℕ) (hs : s < 15) (O : CellTallies nD τ sig Unit) (hO : Above 0 O) :
    Does c iprop(ctx B K ∗ ows c O ∗ rsFly c d s)
      (rsWaitSend d ⟨s, hs⟩) (fun _ => iprop(ows c O ∗ hasAny (F := F) c (sendSlot d (par s)) ∗ pos c (.rsS d (par s)) (s / 2 + 1))) := fun Q => by
  unfold rsWaitSend rsFly
  iintro ⟨#Hctx, HO, Hc, Hp⟩ HQ
  iapply (does_wait B K c (.rsS d (par s)) (by simp) (s / 2) (par_round s hs) rfl (src := rsSlot d ⟨s, hs⟩) (dst := sendSlot d (par s)) (credit_send d _) O hO Q) $$ [HO Hc Hp]
  · isplitr; · iexact Hctx
    isplitl [Hc]; · iexact Hc
    isplitl [HO]; · iexact HO
    iexact Hp
  iintro %_ ⟨HO, Hp, Hpay⟩
  iapply HQ
  isplitl [HO]; · iexact HO
  isplitl [Hpay]
  · unfold hasAny; iexists (snd B d (2 * (s / 2) + (par s).val) c)
    iapply (show pay B c (.rsS d (par s)) (s / 2) 0 ⊢ has (F := F) c (sendSlot d (par s)) (snd B d (2 * (s / 2) + (par s).val) c) from .rfl)
    iexact Hpay
  iexact Hp

/-! ## The all-gather's transfers -/

/-- The onward send of what step `s` received, the `s + 1`-st. -/
theorem does_agSend (c : Dev nD) (d : Fin 2) (s : ℕ) (hs : s + 1 < 15) (O : CellTallies nD τ sig Unit) :
    Does c iprop(ctx B K ∗ ows c (O + tk c d (15 + (s + 1))) ∗ hasQ lq c (agSlot d (ix s)) (gat B d s c) ∗ tok c (.agS d (par (s + 1))) ((s + 1) / 2) 0
        ∗ pos c (.agS d (par (s + 1))) ((s + 1) / 2) ∗ agFuel c d (s + 1))
      (agSend (pars c) d s hs) (fun _ => iprop(ows (F := F) c O ∗ agFly c d (s + 1))) := fun Q => by
  unfold pos agFuel agFly agSend
  rw [tk_ag c d (s + 1), ← ix_of (s + 1) hs, ← ix_of s (by omega), ← peer_eq c d]
  iintro ⟨#Hctx, HO, Hs, Ht, ⟨Hat, #Hrch⟩, Ht', Hd, Hrch'⟩ HQ
  iapply (does_send B K c ((pars c).peer d) (.agS d (par (s + 1))) (.ag d ⟨s + 1, hs⟩) (by simp) (by simp) ((s + 1) / 2) (par_round (s + 1) hs) Nat.one_pos rfl rfl
    (src := agSlot d ⟨s, Nat.lt_of_succ_lt hs⟩) (dst := agSlot d ⟨s + 1, hs⟩) (credit_ag d _) (credit_ag d _) lq (gat B d s c) O
    (Entails.of_eq (by show _ = agBack B d (2 * ((s + 1) / 2) + (par (s + 1)).val) c; rw [par_num]; unfold agBack; rw [if_neg (by omega), ix_of s (by omega)]; try rfl))
    (Entails.of_eq (by
      show _ = has (F := F) ((pars c).peer d) (agSlot d ⟨s + 1, hs⟩) (gat B d s (prv d ((pars c).peer d))); rw [peer_eq, prv_nxt])) Q) $$ [HO Hs Ht Ht' Hd Hrch']
  · isplitr; · iexact Hctx
    isplitl [Hs]; · iexact Hs
    isplitl [Hd]; · iexact Hd
    isplitl [HO]; · iexact HO
    isplitl [Ht]
    · isplitl [Ht]; · iexact Ht
      iexact Hrch
    isplitl [Ht']; · iexact Ht'
    iexact Hrch'
  iintro %_ ⟨Hc, HO⟩
  iapply HQ
  isplitl [HO]; · iexact HO
  isplitl [Hc]; · iexact Hc
  unfold pos
  isplitl [Hat]; · iexact Hat
  iexact Hrch

theorem does_agSend0 (c : Dev nD) (d : Fin 2) (O : CellTallies nD τ sig Unit) :
    Does c iprop(ctx B K ∗ ows c (O + tk c d 15) ∗ has c (sendSlot d 1) (snd B d 15 c) ∗ tok c (.agS d 0) 0 0
        ∗ pos c (.agS d 0) 0 ∗ agFuel c d 0)
      (agSend0 (pars c) d) (fun _ => iprop(ows (F := F) c O ∗ agFly c d 0)) := fun Q => by
  unfold pos agFuel agFly agSend0
  rw [show tk c d 15 = _ from tk_ag c d 0, ← peer_eq c d]
  iintro ⟨#Hctx, HO, Hs, Ht, ⟨Hat, #Hrch⟩, Ht', Hd, Hrch'⟩ HQ
  iapply (does_send B K c ((pars c).peer d) (.agS d 0) (.ag d 0) (by simp) (by simp) 0 (par_round 0 (by decide)) Nat.one_pos rfl rfl
    (src := sendSlot d 1) (dst := agSlot d 0) (credit_ag d _) (credit_ag d _) fullShare (snd B d 15 c) O
    (Entails.of_eq rfl)
    (Entails.of_eq (by show _ = has (F := F) ((pars c).peer d) (agSlot d 0) (snd B d 15 (prv d ((pars c).peer d))); rw [peer_eq, prv_nxt])) Q) $$ [HO Hs Ht Ht' Hd Hrch']
  · isplitr; · iexact Hctx
    isplitl [Hs]; · iexact Hs
    isplitl [Hd]; · iexact Hd
    isplitl [HO]; · iexact HO
    isplitl [Ht]
    · isplitl [Ht]; · iexact Ht
      iexact Hrch
    isplitl [Ht']; · iexact Ht'
    iexact Hrch'
  iintro %_ ⟨Hc, HO⟩
  iapply HQ
  isplitl [HO]; · iexact HO
  isplitl [Hc]; · iexact Hc
  unfold pos
  isplitl [Hat]; · iexact Hat
  iexact Hrch

/-- A landing of the all-gather, in two shares: one for the send onwards, one for the copy in. -/
def agGot (c : Dev nD) (d : Fin 2) (s : ℕ) : sProp 𝕄 :=
  iprop(hasQ lq c (agSlot d (ix s)) (gat B d s c) ∗ hasQ rq c (agSlot d (ix s)) (gat B d s c))

theorem agGot_of (c : Dev nD) (d : Fin 2) (s : ℕ) : has (F := F) c (agSlot d (ix s)) (gat B d s c) ⊢ agGot B c d s :=
  by unfold agGot; exact (owns_halves (Val := Elt F) (c : Thread nD τ) (agSlot d (ix s)) fullShare (gat B d s c)).1
theorem agGot_join (c : Dev nD) (d : Fin 2) (s : ℕ) : agGot B c d s ⊢ hasAny (F := F) c (agSlot d (ix s)) := by
  unfold agGot
  iintro H
  ihave H := (owns_halves (Val := Elt F) (c : Thread nD τ) (agSlot d (ix s)) fullShare (gat B d s c)).2 $$ H
  unfold hasAny
  iexists _; iexact H

theorem does_agWaitRecv0 (c : Dev nD) (d : Fin 2) (O : CellTallies nD τ sig Unit) (hO : Above 17 O) :
    Does c iprop(ctx B K ∗ ows c O ∗ crd c (.ag d (ix 0)) ∗ pos c (.ag d (ix 0)) 0)
      (agWaitRecv0 d) (fun _ => iprop(ows c O ∗ agGot B c d 0 ∗ pos c (.ag d (ix 0)) 1)) := fun Q => by
  unfold agWaitRecv0
  iintro ⟨#Hctx, HO, Hc, Hp⟩ HQ
  iapply (does_wait B K c (.ag d (ix 0)) (by simp) 0 Nat.one_pos rfl (src := sendSlot d 1) (dst := agSlot d (ix 0)) (credit_ag d _) O hO Q) $$ [HO Hc Hp]
  · isplitr; · iexact Hctx
    isplitl [Hc]; · iexact Hc
    isplitl [HO]; · iexact HO
    iexact Hp
  iintro %_ ⟨HO, Hp, Hpay⟩
  iapply HQ
  isplitl [HO]; · iexact HO
  isplitl [Hpay]
  · iapply (agGot_of B c d 0)
    iapply (show pay B c (.ag d (ix 0)) 0 0 ⊢ has (F := F) c (agSlot d (ix 0)) (gat B d 0 c) from .rfl); iexact Hpay
  iexact Hp

theorem does_agWaitRecv (c : Dev nD) (d : Fin 2) (s : ℕ) (hs : s + 1 < 15) (O : CellTallies nD τ sig Unit) (hO : Above (17 + (s + 1)) O) :
    Does c iprop(ctx B K ∗ ows c O ∗ crd c (.ag d (ix (s + 1))) ∗ pos c (.ag d (ix (s + 1))) 0)
      (agWaitRecv d s hs) (fun _ => iprop(ows c O ∗ agGot B c d (s + 1) ∗ pos c (.ag d (ix (s + 1))) 1)) := fun Q => by
  unfold agWaitRecv
  rw [← ix_of (s + 1) hs]
  iintro ⟨#Hctx, HO, Hc, Hp⟩ HQ
  iapply (does_wait B K c (.ag d ⟨s + 1, hs⟩) (by simp) 0 Nat.one_pos rfl (src := agSlot d ⟨s, Nat.lt_of_succ_lt hs⟩) (dst := agSlot d ⟨s + 1, hs⟩) (credit_ag d _) O hO Q) $$ [HO Hc Hp]
  · isplitr; · iexact Hctx
    isplitl [Hc]; · iexact Hc
    isplitl [HO]; · iexact HO
    iexact Hp
  iintro %_ ⟨HO, Hp, Hpay⟩
  iapply HQ
  isplitl [HO]; · iexact HO
  isplitl [Hpay]
  · iapply (agGot_of B c d (s + 1))
    rw [← ix_of (s + 1) hs]
    iapply (show pay B c (.ag d ⟨s + 1, hs⟩) 0 0 ⊢ has (F := F) c (agSlot d ⟨s + 1, hs⟩) (gat B d (s + 1) c) from .rfl)
    iexact Hpay
  iexact Hp

theorem does_agWaitSend0 (c : Dev nD) (d : Fin 2) (O : CellTallies nD τ sig Unit) (hO : Above 0 O) :
    Does c iprop(ctx B K ∗ ows c O ∗ agFly c d 0)
      (agWaitSend0 d) (fun _ => iprop(ows c O ∗ hasAny (F := F) c (sendSlot d 1) ∗ pos c (.agS d 0) 1)) := fun Q => by
  unfold agWaitSend0 agFly
  iintro ⟨#Hctx, HO, Hc, Hp⟩ HQ
  iapply (does_wait B K c (.agS d 0) (by simp) 0 (par_round 0 (by decide)) rfl (src := agSlot d 0) (dst := sendSlot d 1) (credit_send d _) O hO Q) $$ [HO Hc Hp]
  · isplitr; · iexact Hctx
    isplitl [Hc]; · iexact Hc
    isplitl [HO]; · iexact HO
    iexact Hp
  iintro %_ ⟨HO, Hp, Hpay⟩
  iapply HQ
  isplitl [HO]; · iexact HO
  isplitl [Hpay]; · unfold hasAny; iexists (snd B d 15 c); iapply (show pay B c (.agS d 0) 0 0 ⊢ has (F := F) c (sendSlot d 1) (snd B d 15 c) from .rfl); iexact Hpay
  iexact Hp

theorem does_agWaitSend (c : Dev nD) (d : Fin 2) (s : ℕ) (hs : s + 1 < 15) (O : CellTallies nD τ sig Unit) (hO : Above 0 O) :
    Does c iprop(ctx B K ∗ ows c O ∗ agFly c d (s + 1))
      (agWaitSend d s hs) (fun _ => iprop(ows c O ∗ hasQ lq c (agSlot d (ix s)) (gat B d s c) ∗ pos c (.agS d (par (s + 1))) ((s + 1) / 2 + 1))) := fun Q => by
  unfold agWaitSend agFly
  iintro ⟨#Hctx, HO, Hc, Hp⟩ HQ
  iapply (does_wait B K c (.agS d (par (s + 1))) (by simp) ((s + 1) / 2) (par_round (s + 1) hs) rfl (src := agSlot d ⟨s + 1, hs⟩) (dst := agSlot d ⟨s, Nat.lt_of_succ_lt hs⟩) (credit_ag d _) O hO Q) $$ [HO Hc Hp]
  · isplitr; · iexact Hctx
    isplitl [Hc]; · iexact Hc
    isplitl [HO]; · iexact HO
    iexact Hp
  iintro %_ ⟨HO, Hp, Hpay⟩
  iapply HQ
  isplitl [HO]; · iexact HO
  isplitl [Hpay]
  · iapply (show pay B c (.agS d (par (s + 1))) ((s + 1) / 2) 0 ⊢ hasQ lq c (agSlot d (ix s)) (gat B d s c) from Entails.of_eq (by
      show agBack B d (2 * ((s + 1) / 2) + (par (s + 1)).val) c = hasQ lq c (agSlot d (ix s)) (gat B d s c)
      rw [par_num]; unfold agBack; rw [if_neg (by omega)]; try rfl))
    iexact Hpay
  iexact Hp

/-! ## The copies out -/

/-- The rows of the result that round `r` of the copies out writes. -/
abbrev outR (c : Dev nD) (d : Fin 2) (r : ℕ) : Memref sig .tc .hbm S256x4096 .f32 := (pars c).outAt d (ostep r) (ostep_lt r)

/-- A copy out on its way. -/
def ovFly (c : Dev nD) (d : Fin 2) (r : ℕ) : sProp 𝕄 := iprop(crd (F := F) c (.ov d) ∗ pos c (.ov d) r)

theorem does_outCopy (c : Dev nD) (d : Fin 2) (r s : ℕ) (hr : r < 16) (hs : s < 16) (he : s = ostep r) :
    Does c iprop(ctx B K ∗ has (F := F) c (ovSlot d) (outV B d s c) ∗ hasAny c (outR c d r) ∗ tok c (.ov d) r 0 ∗ pos c (.ov d) r)
      (outCopy (pars c) d s hs) (fun _ => ovFly (F := F) c d r) := fun Q => by
  subst he
  unfold ovFly pos outCopy
  iintro ⟨#Hctx, Hs, Hd, Ht, Hat, #Hrch⟩ HQ
  iapply (does_copy B K c (.ov d) (by simp) r hr rfl (src := ovSlot d) (dst := outR c d r) (credit_out _ _) fullShare (outV B d (ostep r) c) .rfl Q) $$ [Hs Hd Ht]
  · isplitr; · iexact Hctx
    isplitl [Hs]; · iexact Hs
    isplitl [Hd]; · iexact Hd
    isplitl [Ht]; · iexact Ht
    iexact Hrch
  iintro %_ Hc
  iapply HQ
  isplitl [Hc]; · iexact Hc
  isplitl [Hat]; · iexact Hat
  iexact Hrch

theorem does_outWait (c : Dev nD) (d : Fin 2) (r s : ℕ) (hr : r < 16) (hs : s < 16) (he : s = ostep r) (O : CellTallies nD τ sig Unit) (hO : Above 0 O) :
    Does c iprop(ctx B K ∗ ows c O ∗ ovFly c d r)
      (outWait (pars c) d s hs) (fun _ => iprop(ows c O ∗ hasAny (F := F) c (ovSlot d) ∗ has c (outR c d r) (outV B d (ostep r) c) ∗ pos c (.ov d) (r + 1))) := fun Q => by
  subst he
  unfold outWait ovFly
  iintro ⟨#Hctx, HO, Hc, Hp⟩ HQ
  iapply (does_wait B K c (.ov d) (by simp) r hr rfl (src := ovSlot d) (dst := outR c d r) (credit_out _ _) O hO Q) $$ [HO Hc Hp]
  · isplitr; · iexact Hctx
    isplitl [Hc]; · iexact Hc
    isplitl [HO]; · iexact HO
    iexact Hp
  iintro %_ ⟨HO, Hp, Hpay⟩
  ihave Hpay := (show pay B c (.ov d) r 0 ⊢ ovBack B d r c from .rfl) $$ Hpay
  unfold ovBack
  icases Hpay with ⟨Ho, Hv⟩
  iapply HQ
  isplitl [HO]; · iexact HO
  isplitl [Hv]; · unfold hasAny; iexists _; iexact Hv
  isplitl [Ho]; · iexact Ho
  iexact Hp

end Cert.Bidir

end
-- ==== Proof.Tail.lean ====
/-
  Families of resources indexed by the steps that are still to come.
-/
module

public import Idealize.ShloMosaic.Lib.Rounds

@[expose] public section

noncomputable section

namespace Cert.Bidir

open Idealize.SL Idealize.SL.RA Idealize.SL.BI
open scoped Idealize.SL.BI
open Idealize.SL.BI.BIBase Idealize.SL.BI.Laws Idealize.SL.ProofMode

universe u
variable {M : Type u} [URA M]

/-- `Φ s ∗ Φ (s + 1) ∗ …`, `n` of them. -/
def rest (Φ : ℕ → sProp M) : ℕ → ℕ → sProp M
  | 0, _ => iprop(emp)
  | n + 1, s => iprop(Φ s ∗ rest Φ n (s + 1))

theorem rest_shift (Φ : ℕ → sProp M) (k : ℕ) : (n s : ℕ) → rest (fun i => Φ (i + k)) n s = rest Φ n (s + k)
  | 0, _ => rfl
  | n + 1, s => by
    show iprop(Φ (s + k) ∗ rest (fun i => Φ (i + k)) n (s + 1)) = iprop(Φ (s + k) ∗ rest Φ n (s + k + 1))
    rw [rest_shift Φ k n (s + 1), Nat.add_right_comm]

theorem rest_mono {Φ Ψ : ℕ → sProp M} : (n s : ℕ) → (∀ i, s ≤ i → i < s + n → Φ i ⊢ Ψ i) → rest Φ n s ⊢ rest Ψ n s
  | 0, _, _ => .rfl
  | n + 1, s, h => by
    show iprop(Φ s ∗ rest Φ n (s + 1)) ⊢ iprop(Ψ s ∗ rest Ψ n (s + 1))
    exact BIClass.sep_mono (h s (le_refl s) (by omega)) (rest_mono n (s + 1) fun i hi hi' => h i (by omega) (by omega))

theorem rest_zip (Φ Ψ : ℕ → sProp M) : (n s : ℕ) → iprop(rest Φ n s ∗ rest Ψ n s) ⊢ rest (fun i => iprop(Φ i ∗ Ψ i)) n s
  | 0, _ => by show iprop(emp ∗ emp) ⊢ (iprop(emp) : sProp M); iintro ⟨-, -⟩; iempintro
  | n + 1, s => by
    show iprop((Φ s ∗ rest Φ n (s + 1)) ∗ (Ψ s ∗ rest Ψ n (s + 1))) ⊢ iprop((Φ s ∗ Ψ s) ∗ rest (fun i => iprop(Φ i ∗ Ψ i)) n (s + 1))
    iintro ⟨⟨H1, H2⟩, ⟨H3, H4⟩⟩
    isplitl [H1 H3]
    · isplitl [H1]; · iexact H1
      iexact H3
    iapply (rest_zip Φ Ψ n (s + 1))
    isplitl [H2]; · iexact H2
    iexact H4

theorem rest_unzip (Φ Ψ : ℕ → sProp M) : (n s : ℕ) → rest (fun i => iprop(Φ i ∗ Ψ i)) n s ⊢ iprop(rest Φ n s ∗ rest Ψ n s)
  | 0, _ => by show (iprop(emp) : sProp M) ⊢ iprop(emp ∗ emp); iintro -; isplitl <;> iempintro
  | n + 1, s => by
    show iprop((Φ s ∗ Ψ s) ∗ rest (fun i => iprop(Φ i ∗ Ψ i)) n (s + 1)) ⊢ iprop((Φ s ∗ rest Φ n (s + 1)) ∗ (Ψ s ∗ rest Ψ n (s + 1)))
    iintro ⟨⟨H1, H3⟩, H⟩
    ihave H := (rest_unzip Φ Ψ n (s + 1)) $$ H
    icases H with ⟨H2, H4⟩
    isplitl [H1 H2]
    · isplitl [H1]; · iexact H1
      iexact H2
    isplitl [H3]; · iexact H3
    iexact H4

/-- The last ones off. -/
theorem rest_app (Φ : ℕ → sProp M) (m : ℕ) : (n s : ℕ) → rest Φ (n + m) s ⊢ iprop(rest Φ n s ∗ rest Φ m (s + n))
  | 0, s => by
    rw [Nat.zero_add, Nat.add_zero]; show rest Φ m s ⊢ iprop(emp ∗ rest Φ m s)
    iintro H; isplitr; · iempintro
    iexact H
  | n + 1, s => by
    rw [show n + 1 + m = (n + m) + 1 by omega, show s + (n + 1) = s + 1 + n by omega]
    show iprop(Φ s ∗ rest Φ (n + m) (s + 1)) ⊢ iprop((Φ s ∗ rest Φ n (s + 1)) ∗ rest Φ m (s + 1 + n))
    iintro ⟨H1, H⟩
    ihave H := (rest_app Φ m n (s + 1)) $$ H
    icases H with ⟨H2, H3⟩
    isplitl [H1 H2]
    · isplitl [H1]; · iexact H1
      iexact H2
    iexact H3
/-- And on. -/
theorem rest_join (Φ : ℕ → sProp M) (m : ℕ) : (n s : ℕ) → iprop(rest Φ n s ∗ rest Φ m (s + n)) ⊢ rest Φ (n + m) s
  | 0, s => by
    rw [Nat.zero_add, Nat.add_zero]; show iprop(emp ∗ rest Φ m s) ⊢ rest Φ m s
    iintro ⟨-, H⟩; iexact H
  | n + 1, s => by
    rw [show n + 1 + m = (n + m) + 1 by omega, show s + (n + 1) = s + 1 + n by omega]
    show iprop((Φ s ∗ rest Φ n (s + 1)) ∗ rest Φ m (s + 1 + n)) ⊢ iprop(Φ s ∗ rest Φ (n + m) (s + 1))
    iintro ⟨⟨H1, H2⟩, H3⟩
    isplitl [H1]; · iexact H1
    iapply (rest_join Φ m n (s + 1))
    isplitl [H2]; · iexact H2
    iexact H3
theorem rest_one_intro (Φ : ℕ → sProp M) (s : ℕ) : Φ s ⊢ rest Φ 1 s := by
  show Φ s ⊢ iprop(Φ s ∗ emp)
  iintro H; isplitl; · iexact H
  iempintro
/-- One more at the end. -/
theorem rest_snoc (Φ : ℕ → sProp M) (n s : ℕ) : iprop(rest Φ n s ∗ Φ (s + n)) ⊢ rest Φ (n + 1) s := by
  refine BIBase.Entails.trans ?_ (rest_join Φ 1 n s)
  exact BIClass.sep_mono .rfl (rest_one_intro Φ (s + n))

/-- Over `Fin n`. -/
theorem bigSep_rest (Φ : ℕ → sProp M) (n : ℕ) : bigSep Finset.univ (fun i : Fin n => Φ i.val) = rest Φ n 0 := by
  have h : ∀ (n s : ℕ), bigSep Finset.univ (fun i : Fin n => Φ (s + i.val)) = rest Φ n s := by
    intro n
    induction n with
    | zero => intro s; rw [Finset.univ_eq_empty, bigSep_empty]; rfl
    | succ n ih =>
      intro s
      rw [Fin.univ_succ, Finset.cons_eq_insert, bigSep_insert (by simp [Fin.succ_ne_zero]), bigSep_map]
      show _ = iprop(Φ s ∗ rest Φ n (s + 1))
      rw [← ih (s + 1)]
      congr 1
      refine bigSep_congr fun i _ => ?_
      show Φ (s + (i.val + 1)) = Φ (s + 1 + i.val)
      rw [show s + (i.val + 1) = s + 1 + i.val by omega]
  have := h n 0
  simp only [Nat.zero_add] at this
  exact this

end Cert.Bidir

end
-- ==== Proof.Steps.lean ====
/-
  The reduce-scatter's steps and the all-gather's, in one direction, and a whole step of either in both.
-/
module

public import proofs.«01_k».proof.Proof.Pieces
public import proofs.«01_k».proof.Proof.Tail

@[expose] public section

noncomputable section

namespace Cert.Bidir

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (B : Blocks F) (K : GSem nD τ sig → ℕ)

/-- A loop: a state that moves on, what each turn uses up and what each leaves behind. -/
theorem does_steps {c : Dev nD} {N : ℕ} (f : (s : ℕ) → s < N → KProg F PUnit) (Core Fuel Ash : ℕ → sProp 𝕄)
    (h : ∀ s hs, Does c iprop(ctx B K ∗ Core s ∗ Fuel s) (f s hs) (fun _ => iprop(Core (s + 1) ∗ Ash s))) :
    (n s : ℕ) → (hn : s + n ≤ N) →
      Does c iprop(ctx B K ∗ Core s ∗ rest Fuel n s) (steps f n s hn) (fun _ => iprop(Core (s + n) ∗ rest Ash n s))
  | 0, s, hn => fun Q => by
    show iprop(ctx B K ∗ Core s ∗ emp) ⊢ iprop((∀ a, (Core s ∗ emp) -∗ Q a) -∗ WP c (pure ⟨⟩) Q)
    iintro ⟨#Hctx, HC, -⟩ HQ
    iapply (Does.pure (c := c) (F := F) (Pre := Core s) (Post := fun _ => Core s) PUnit.unit .rfl Q) $$ [HC]
    · iexact HC
    iintro %_ HC
    iapply HQ
    isplitl; · iexact HC
    iempintro
  | n + 1, s, hn => fun Q => by
    show iprop(ctx B K ∗ Core s ∗ Fuel s ∗ rest Fuel n (s + 1))
      ⊢ iprop((∀ a, (Core (s + (n + 1)) ∗ Ash s ∗ rest Ash n (s + 1)) -∗ Q a) -∗ WP c (f s (by omega) >>= fun _ => steps f n (s + 1) (by omega)) Q)
    iintro ⟨#Hctx, HC, Hf, Hfs⟩ HQ
    iapply (does_seq (h s _)) $$ [HC Hf]
    · isplitr; · iexact Hctx
      isplitl [HC]; · iexact HC
      iexact Hf
    iintro %_ ⟨HC, Ha⟩
    iapply (does_steps f Core Fuel Ash h n (s + 1) _ Q) $$ [HC Hfs]
    · isplitr; · iexact Hctx
      isplitl [HC]; · iexact HC
      iexact Hfs
    iintro %_ ⟨HC, Has⟩
    iapply HQ
    rw [show s + (n + 1) = s + 1 + n by omega]
    isplitl [HC]; · iexact HC
    isplitl [Ha]; · iexact Ha
    iexact Has

/-! ## The reduce-scatter -/

/-- What is owed once the copies of the stages below `j` are under way. -/
abbrev ow (c : Dev nD) (j : ℕ) : CellTallies nD τ sig Unit := owed c (30 - j)
theorem ow_step (c : Dev nD) (j : ℕ) (hj : j < 30) : ow c j = ow c (j + 1) + tk c 1 j + tk c 0 j := by
  show owed c (30 - j) = _
  rw [show 30 - j = (30 - (j + 1)) + 1 by omega]
  show owed c _ + tk c 1 (29 - (30 - (j + 1))) + tk c 0 (29 - (30 - (j + 1))) = _
  rw [show 29 - (30 - (j + 1)) = j by omega]
theorem above_ow {l : ℕ} (c : Dev nD) (j : ℕ) (hl : l < 2 + j) : Above l (ow c j) := by
  by_cases h : j ≤ 30
  · exact above_owed c _ (by omega) (by omega)
  · show Above l (owed c (30 - j)); rw [show 30 - j = 0 by omega]; exact above_zero l

/-- What a step's landing and its copy in use up, and leave. -/
def rsIn (c : Dev nD) (d : Fin 2) (s : ℕ) : sProp 𝕄 :=
  iprop(crd (F := F) c (.rs d (ix s)) ∗ pos c (.rs d (ix s)) 0 ∗ tok c (.cp d) s 0)
def rsOut (c : Dev nD) (d : Fin 2) (s : ℕ) : sProp 𝕄 := iprop(hasAny (F := F) c (rsSlot d (ix s)) ∗ pos c (.rs d (ix s)) 1)
/-- What a send uses up. -/
def rsSendF (c : Dev nD) (d : Fin 2) (s : ℕ) : sProp 𝕄 := iprop(tok (F := F) c (.rsS d (par s)) (s / 2) 0 ∗ rsFuel c d s)

theorem does_rsFirst (c : Dev nD) (d : Fin 2) :
    Does c iprop(ins B c ∗ hasAny c (sendSlot d 0)) (rsFirst (pars c) d) (fun _ => iprop(ins B c ∗ has (F := F) c (sendSlot d 0) (snd B d 0 c))) := fun Q => by
  unfold rsFirst
  iintro ⟨Hi, Hs⟩ HQ
  iapply (does_seq (does_dot B c d 0 _)) $$ [Hi]; · iexact Hi
  iintro %a ⟨%ha, Hi⟩
  subst ha
  iapply (does_storeSend c d 0 (part B d 0 c) Q) $$ [Hs]; · iexact Hs
  iintro %_ Hs
  iapply HQ
  isplitl [Hi]; · iexact Hi
  iexact Hs

theorem does_rsAcc (c : Dev nD) (d : Fin 2) (s : ℕ) (hs : s < 15) (O : CellTallies nD τ sig Unit) (hO : Above (2 + s) O) :
    Does c iprop(ctx B K ∗ ows c O ∗ ins B c ∗ rsIn c d s ∗ hasAny c (recvSlot d) ∗ pos c (.cp d) s) (rsAcc (pars c) d s hs)
      (fun v => iprop(⌜v = acc B d (s + 1) c⌝ ∗ ows (F := F) c O ∗ ins B c ∗ rsOut c d s ∗ hasAny c (recvSlot d) ∗ pos c (.cp d) (s + 1))) := fun Q => by
  unfold rsAcc rsIn
  iintro ⟨#Hctx, HO, Hi, ⟨Hc, Hp, Ht⟩, Hr, Hcp⟩ HQ
  iapply (does_seq (does_dot B c d (s + 1) _)) $$ [Hi]; · iexact Hi
  iintro %a ⟨%ha, Hi⟩
  subst ha
  iapply (does_seq (does_rsWaitRecv B K c d s hs O hO)) $$ [HO Hc Hp]
  · iframe Hctx HO Hc Hp
  iintro %_ ⟨HO, Hs, Hp⟩
  iapply (does_seq (does_fetch B K c d (rsSlot d ⟨s, hs⟩) (rsSlot_exact d _) s (by omega) fullShare (snd B d s (prv d c))
    (by unfold cpBack; rw [if_pos hs, ix_of s hs]) O (hO.mono (Nat.zero_le _)))) $$ [HO Hr Hs Ht Hcp]
  · rw [ix_of s hs]; iframe Hctx HO Hr Hs Ht Hcp
  iintro %_ ⟨HO, Hr, Hs, Hcp⟩
  iapply (does_seq (does_loadRecv c d (snd B d s (prv d c)))) $$ [Hr]; · iexact Hr
  iintro %b ⟨%hb, Hr⟩
  iapply (Does.pure (c := c) (F := F) (Pre := iprop(emp)) (Post := fun v => iprop(⌜v = acc B d (s + 1) c⌝)) (accV (part B d (s + 1) c) (flatV b))
    (by iintro -; ipureintro; rw [hb]; rfl) Q)
  · iempintro
  iintro %v Hv
  iapply HQ
  iframe Hv HO Hi Hcp
  unfold rsOut
  isplitl [Hs Hp]
  · iframe Hp
    rw [← ix_of s hs]; unfold hasAny; iexists (snd B d s (prv d c)); iexact Hs
  unfold hasAny; iexists (snd B d s (prv d c)); iexact Hr

theorem does_rsIter0 (c : Dev nD) (d : Fin 2) (O : CellTallies nD τ sig Unit) (hO : Above 2 O) :
    Does c iprop(ctx B K ∗ ows c O ∗ ins B c ∗ rsIn c d 0 ∗ hasAny c (recvSlot d) ∗ pos c (.cp d) 0 ∗ hasAny c (sendSlot d 1)) (rsIter0 (pars c) d)
      (fun _ => iprop(ows (F := F) c O ∗ ins B c ∗ rsOut c d 0 ∗ hasAny c (recvSlot d) ∗ pos c (.cp d) 1 ∗ has c (sendSlot d 1) (snd B d 1 c))) := fun Q => by
  unfold rsIter0
  iintro ⟨#Hctx, HO, Hi, Hin, Hr, Hcp, Hs⟩ HQ
  iapply (does_seq (does_rsAcc B K c d 0 _ O hO)) $$ [HO Hi Hin Hr Hcp]
  · iframe Hctx HO Hi Hin Hr Hcp
  iintro %a ⟨%ha, HO, Hi, Hout, Hr, Hcp⟩
  subst ha
  iapply (does_storeSend c d 1 (acc B d 1 c) Q) $$ [Hs]; · iexact Hs
  iintro %_ Hs
  iapply HQ
  iframe HO Hi Hout Hr Hcp Hs

theorem does_rsIter (c : Dev nD) (d : Fin 2) (s : ℕ) (hs : s + 1 < 14) (O : CellTallies nD τ sig Unit) (hO : Above (2 + (s + 1)) O) :
    Does c iprop(ctx B K ∗ ows c O ∗ ins B c ∗ rsIn c d (s + 1) ∗ hasAny c (recvSlot d) ∗ pos c (.cp d) (s + 1) ∗ rsFly c d s) (rsIter (pars c) d s hs)
      (fun _ => iprop(ows (F := F) c O ∗ ins B c ∗ rsOut c d (s + 1) ∗ hasAny c (recvSlot d) ∗ pos c (.cp d) (s + 2)
        ∗ has c (sendSlot d (par (s + 2))) (snd B d (s + 2) c) ∗ pos c (.rsS d (par (s + 2))) ((s + 2) / 2))) := fun Q => by
  rw [par_add s, show (s + 2) / 2 = s / 2 + 1 by omega]
  unfold rsIter
  iintro ⟨#Hctx, HO, Hi, Hin, Hr, Hcp, Hf⟩ HQ
  iapply (does_seq (does_rsAcc B K c d (s + 1) _ O hO)) $$ [HO Hi Hin Hr Hcp]
  · iframe Hctx HO Hi Hin Hr Hcp
  iintro %a ⟨%ha, HO, Hi, Hout, Hr, Hcp⟩
  subst ha
  iapply (does_seq (does_rsWaitSend B K c d s _ O (hO.mono (Nat.zero_le _)))) $$ [HO Hf]
  · iframe Hctx HO Hf
  iintro %_ ⟨HO, Hs, Hp⟩
  iapply (does_storeSend c d (par s) (acc B d (s + 2) c) Q) $$ [Hs]; · iexact Hs
  iintro %_ Hs
  iapply HQ
  iframe HO Hi Hout Hr Hcp Hs Hp

/-- A direction's state between steps of the reduce-scatter. -/
def rsCoreD (c : Dev nD) (d : Fin 2) (s : ℕ) : sProp 𝕄 :=
  iprop(rsFly (F := F) c d s ∗ rsFly c d (s + 1) ∗ hasAny c (recvSlot d) ∗ pos c (.cp d) (s + 1))
def rsFuelD (c : Dev nD) (d : Fin 2) (s : ℕ) : sProp 𝕄 := iprop(rsIn (F := F) c d (s + 1) ∗ rsSendF c d (s + 2))
def rsCore (c : Dev nD) (s : ℕ) : sProp 𝕄 := iprop(ows (F := F) c (ow c (s + 2)) ∗ ins B c ∗ rsCoreD c 0 s ∗ rsCoreD c 1 s)

theorem does_rsStep (c : Dev nD) (s : ℕ) (hs : s < 13) :
    Does c iprop(ctx B K ∗ rsCore B c s ∗ (rsFuelD c 0 s ∗ rsFuelD c 1 s)) (rsStep (pars c) s hs)
      (fun _ => iprop(rsCore B c (s + 1) ∗ (rsOut (F := F) c 0 (s + 1) ∗ rsOut c 1 (s + 1)))) := fun Q => by
  unfold rsStep rsCore rsCoreD rsFuelD rsSendF
  iintro ⟨#Hctx, ⟨HO, Hi, ⟨Hf0, Hg0, Hr0, Hcp0⟩, ⟨Hf1, Hg1, Hr1, Hcp1⟩⟩, ⟨Hin0, Ht0, Hu0⟩, ⟨Hin1, Ht1, Hu1⟩⟩ HQ
  iapply (does_seq (does_rsIter B K c 0 s _ (ow c (s + 2)) (above_ow c _ (by omega)))) $$ [HO Hi Hin0 Hr0 Hcp0 Hf0]
  · iframe Hctx HO Hi Hin0 Hr0 Hcp0 Hf0
  iintro %_ ⟨HO, Hi, Hout0, Hr0, Hcp0, Hs0, Hp0⟩
  iapply (does_seq (does_rsIter B K c 1 s _ (ow c (s + 2)) (above_ow c _ (by omega)))) $$ [HO Hi Hin1 Hr1 Hcp1 Hf1]
  · iframe Hctx HO Hi Hin1 Hr1 Hcp1 Hf1
  iintro %_ ⟨HO, Hi, Hout1, Hr1, Hcp1, Hs1, Hp1⟩
  rw [ow_step c (s + 2) (by omega)]
  iapply (does_seq (does_rsSend B K c 0 (s + 2) _ (ow c (s + 3) + tk c 1 (s + 2)))) $$ [HO Hs0 Ht0 Hp0 Hu0]
  · iframe Hctx HO Hs0 Ht0 Hp0 Hu0
  iintro %_ ⟨HO, Hf0⟩
  iapply (does_rsSend B K c 1 (s + 2) _ (ow c (s + 3)) Q) $$ [HO Hs1 Ht1 Hp1 Hu1]
  · iframe Hctx HO Hs1 Ht1 Hp1 Hu1
  iintro %_ ⟨HO, Hf1⟩
  iapply HQ
  rw [show s + 1 + 2 = s + 3 by omega, show s + 1 + 1 = s + 2 by omega]
  iframe HO Hi Hg0 Hf0 Hr0 Hcp0 Hg1 Hf1 Hr1 Hcp1 Hout0 Hout1

/-- What a copy out uses up, and what it leaves. -/
def ovF (c : Dev nD) (d : Fin 2) (r : ℕ) : sProp 𝕄 := iprop(hasAny (F := F) c (outR c d r) ∗ tok c (.ov d) r 0)
def ovDone (c : Dev nD) (d : Fin 2) (r : ℕ) : sProp 𝕄 := has (F := F) c (outR c d r) (outV B d (ostep r) c)

theorem does_rsLast (c : Dev nD) (d : Fin 2) (O : CellTallies nD τ sig Unit) (hO : Above 16 O) :
    Does c iprop(ctx B K ∗ ows c O ∗ ins B c ∗ rsIn c d 14 ∗ hasAny c (recvSlot d) ∗ pos c (.cp d) 14 ∗ rsFly c d 13
        ∗ hasAny c (ovSlot d) ∗ ovF c d 0 ∗ pos c (.ov d) 0) (rsLast (pars c) d)
      (fun _ => iprop(ows (F := F) c O ∗ ins B c ∗ rsOut c d 14 ∗ hasAny c (recvSlot d) ∗ pos c (.cp d) 15 ∗ ovFly c d 0
        ∗ has c (sendSlot d 1) (snd B d 15 c) ∗ pos c (.rsS d 1) 7)) := fun Q => by
  unfold rsLast ovF
  iintro ⟨#Hctx, HO, Hi, Hin, Hr, Hcp, Hf, Hv, ⟨Hw, Ht⟩, Hov⟩ HQ
  iapply (does_seq (does_rsAcc B K c d 14 _ O hO)) $$ [HO Hi Hin Hr Hcp]
  · iframe Hctx HO Hi Hin Hr Hcp
  iintro %a ⟨%ha, HO, Hi, Hout, Hr, Hcp⟩
  subst ha
  iapply (does_seq (does_storeOut c d (acc B d 15 c))) $$ [Hv]; · iexact Hv
  iintro %_ Hv
  iapply (does_seq (does_outCopy B K c d 0 15 (by decide) _ rfl)) $$ [Hv Hw Ht Hov]
  · iframe Hctx Hv Hw Ht Hov
  iintro %_ Hov
  iapply (does_seq (does_rsWaitSend B K c d 13 (by omega) O (hO.mono (Nat.zero_le _)))) $$ [HO Hf]
  · iframe Hctx HO Hf
  iintro %_ ⟨HO, Hs, Hp⟩
  iapply (does_storeSend c d 1 (acc B d 15 c) Q) $$ [Hs]; · iexact Hs
  iintro %_ Hs
  iapply HQ
  iframe HO Hi Hout Hr Hcp Hov Hs Hp

/-! ## The all-gather -/

/-- What a step's landing uses up. -/
def agIn (c : Dev nD) (d : Fin 2) (s : ℕ) : sProp 𝕄 := iprop(crd (F := F) c (.ag d (ix s)) ∗ pos c (.ag d (ix s)) 0)
def agSendF (c : Dev nD) (d : Fin 2) (n : ℕ) : sProp 𝕄 := iprop(tok (F := F) c (.agS d (par n)) (n / 2) 0 ∗ agFuel c d n)
def agR (c : Dev nD) (d : Fin 2) (s : ℕ) : sProp 𝕄 := hasQ rq c (agSlot d (ix s)) (gat B d s c)
def agL (c : Dev nD) (d : Fin 2) (s : ℕ) : sProp 𝕄 := hasQ lq c (agSlot d (ix s)) (gat B d s c)

theorem does_agOut (c : Dev nD) (d : Fin 2) (s : ℕ) (hs : s < 15) (t : ℕ) (ht : t < 16) (he : t = ostep s) (O : CellTallies nD τ sig Unit) (hO : Above 0 O) :
    Does c iprop(ctx B K ∗ ows c O ∗ agR B c d s ∗ hasAny c (recvSlot d) ∗ tok c (.cp d) (15 + s) 0 ∗ pos c (.cp d) (15 + s)
        ∗ ovFly c d s ∗ ovF c d (s + 1)) (agOut (pars c) d s hs t ht)
      (fun _ => iprop(ows (F := F) c O ∗ agR B c d s ∗ hasAny c (recvSlot d) ∗ pos c (.cp d) (15 + (s + 1)) ∗ ovFly c d (s + 1) ∗ ovDone B c d s)) := fun Q => by
  unfold agOut agR ovF ovDone
  have hos : s = ostep (s + 1) := by show s = (s + 1 + 15) % 16; omega
  have hv : outV B d s c = widenV (gat B d s c) := by unfold outV; rw [if_neg (by omega)]
  iintro ⟨#Hctx, HO, Hs, Hr, Ht, Hcp, Hov, ⟨Hw, Hu⟩⟩ HQ
  iapply (does_seq (does_fetch B K c d (agSlot d ⟨s, hs⟩) (agSlot_exact d _) (15 + s) (by omega) rq (gat B d s c)
    (by unfold cpBack; rw [if_neg (by omega), show 15 + s - 15 = s by omega, ix_of s hs]) O hO)) $$ [HO Hr Hs Ht Hcp]
  · rw [ix_of s hs]; iframe Hctx HO Hr Hs Ht Hcp
  iintro %_ ⟨HO, Hr, Hs, Hcp⟩
  iapply (does_seq (does_outWait B K c d s t (by omega) ht he O hO)) $$ [HO Hov]
  · iframe Hctx HO Hov
  iintro %_ ⟨HO, Hv, Hd, Hov⟩
  iapply (does_seq (does_loadRecv c d (gat B d s c))) $$ [Hr]; · iexact Hr
  iintro %b ⟨%hb, Hr⟩
  rw [hb, ← hv]
  iapply (does_seq (does_storeOut c d (outV B d s c))) $$ [Hv]; · iexact Hv
  iintro %_ Hv
  iapply (does_outCopy B K c d (s + 1) s (by omega) _ hos Q) $$ [Hv Hw Hu Hov]
  · iframe Hctx Hv Hw Hu Hov
  iintro %_ Hov
  iapply HQ
  rw [ix_of s hs]
  iframe HO Hs Hcp Hov Hd
  unfold hasAny; iexists (gat B d s c); iexact Hr

/-- A direction's state between steps of the all-gather. -/
def agCoreD (c : Dev nD) (d : Fin 2) (s : ℕ) : sProp 𝕄 :=
  iprop(agFly (F := F) c d (s + 1) ∗ agFly c d (s + 2) ∗ hasAny c (recvSlot d) ∗ pos c (.cp d) (15 + (s + 2)) ∗ ovFly c d (s + 2))
def agFuelD (c : Dev nD) (d : Fin 2) (s : ℕ) : sProp 𝕄 :=
  iprop(agIn (F := F) c d (s + 2) ∗ agSendF c d (s + 3) ∗ tok c (.cp d) (15 + (s + 2)) 0 ∗ ovF c d (s + 3))
def agAshD (c : Dev nD) (d : Fin 2) (s : ℕ) : sProp 𝕄 :=
  iprop(pos (F := F) c (.ag d (ix (s + 2))) 1 ∗ agR B c d (s + 2) ∗ agL B c d s ∗ ovDone B c d (s + 2))
def agCore (c : Dev nD) (s : ℕ) : sProp 𝕄 := iprop(ows (F := F) c (ow c (15 + (s + 3))) ∗ agCoreD c 0 s ∗ agCoreD c 1 s)

theorem does_agStep (c : Dev nD) (s : ℕ) (hs : s < 12) :
    Does c iprop(ctx B K ∗ agCore c s ∗ (agFuelD c 0 s ∗ agFuelD c 1 s)) (agStep (pars c) s hs)
      (fun _ => iprop(agCore (F := F) c (s + 1) ∗ (agAshD B c 0 s ∗ agAshD B c 1 s))) := fun Q => by
  unfold agStep agCore agCoreD agFuelD agAshD agIn agSendF agL
  iintro ⟨#Hctx, ⟨HO, ⟨Hf0, Hg0, Hr0, Hcp0, Hov0⟩, ⟨Hf1, Hg1, Hr1, Hcp1, Hov1⟩⟩, ⟨⟨Hc0, Hp0⟩, ⟨Ht0, Hu0⟩, Hct0, Hof0⟩, ⟨⟨Hc1, Hp1⟩, ⟨Ht1, Hu1⟩, Hct1, Hof1⟩⟩ HQ
  iapply (does_seq (does_agWaitRecv B K c 0 (s + 1) _ (ow c (15 + (s + 3))) (above_ow c _ (by omega)))) $$ [HO Hc0 Hp0]
  · iframe Hctx HO Hc0 Hp0
  iintro %_ ⟨HO, Hgot0, Hp0⟩
  iapply (does_seq (does_agWaitRecv B K c 1 (s + 1) _ (ow c (15 + (s + 3))) (above_ow c _ (by omega)))) $$ [HO Hc1 Hp1]
  · iframe Hctx HO Hc1 Hp1
  iintro %_ ⟨HO, Hgot1, Hp1⟩
  unfold agGot
  icases Hgot0 with ⟨HL0, HR0⟩
  icases Hgot1 with ⟨HL1, HR1⟩
  iapply (does_seq (does_agWaitSend B K c 0 s _ (ow c (15 + (s + 3))) (above_ow c _ (by omega)))) $$ [HO Hf0]
  · iframe Hctx HO Hf0
  iintro %_ ⟨HO, HM0, Hq0⟩
  rw [ow_step c (15 + (s + 3)) (by omega)]
  iapply (does_seq (does_agSend B K c 0 (s + 2) _ (ow c (15 + (s + 3) + 1) + tk c 1 (15 + (s + 3))))) $$ [HO HL0 Ht0 Hq0 Hu0]
  · rw [show s + 2 + 1 = s + 3 by omega, show s + 1 + 1 = s + 2 by omega, show par (s + 3) = par (s + 1) from par_add (s + 1), show (s + 3) / 2 = (s + 1) / 2 + 1 by omega]
    iframe Hctx HO HL0 Ht0 Hq0 Hu0
  iintro %_ ⟨HO, Hf0⟩
  iapply (does_seq (does_agWaitSend B K c 1 s _ (ow c (15 + (s + 3) + 1) + tk c 1 (15 + (s + 3)))
    (above_add (above_ow c _ (by omega)) (above_tk c 1 _ (by omega) (by omega))))) $$ [HO Hf1]
  · iframe Hctx HO Hf1
  iintro %_ ⟨HO, HM1, Hq1⟩
  iapply (does_seq (does_agSend B K c 1 (s + 2) _ (ow c (15 + (s + 3) + 1)))) $$ [HO HL1 Ht1 Hq1 Hu1]
  · rw [show s + 2 + 1 = s + 3 by omega, show s + 1 + 1 = s + 2 by omega, show par (s + 3) = par (s + 1) from par_add (s + 1), show (s + 3) / 2 = (s + 1) / 2 + 1 by omega]
    iframe Hctx HO HL1 Ht1 Hq1 Hu1
  iintro %_ ⟨HO, Hf1⟩
  have hst : s + 1 = ostep (s + 2) := by show s + 1 = (s + 2 + 15) % 16; omega
  iapply (does_seq (does_agOut B K c 0 (s + 2) _ (s + 1) _ hst (ow c (15 + (s + 3) + 1)) (above_ow c _ (by omega)))) $$ [HO HR0 Hr0 Hct0 Hcp0 Hov0 Hof0]
  · unfold agR; iframe Hctx HO HR0 Hr0 Hct0 Hcp0 Hov0 Hof0
  iintro %_ ⟨HO, HR0, Hr0, Hcp0, Hov0, Hd0⟩
  iapply (does_agOut B K c 1 (s + 2) _ (s + 1) _ hst (ow c (15 + (s + 3) + 1)) (above_ow c _ (by omega)) Q) $$ [HO HR1 Hr1 Hct1 Hcp1 Hov1 Hof1]
  · unfold agR; iframe Hctx HO HR1 Hr1 Hct1 Hcp1 Hov1 Hof1
  iintro %_ ⟨HO, HR1, Hr1, Hcp1, Hov1, Hd1⟩
  iapply HQ
  rw [show s + 1 + 2 = s + 3 by omega, show s + 1 + 1 = s + 2 by omega, show s + 2 + 1 = s + 3 by omega, show 15 + (s + 1 + 3) = 15 + (s + 3) + 1 by omega]
  iframe HO Hg0 Hf0 Hr0 Hcp0 Hov0 Hg1 Hf1 Hr1 Hcp1 Hov1 Hp0 HR0 HM0 Hd0 Hp1 HR1 HM1 Hd1

end Cert.Bidir

end
-- ==== Proof.Phases.lean ====
/-
  The reduce-scatter and the all-gather as wholes.
-/
module

public import proofs.«01_k».proof.Proof.Steps

@[expose] public section

noncomputable section

namespace Cert.Bidir

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Families taken apart and put together -/

theorem rest_ends (Φ : ℕ → sProp 𝕄) (n : ℕ) : rest Φ (n + 2) 0 ⊢ iprop(Φ 0 ∗ rest Φ n 1 ∗ Φ (1 + n)) := by
  show iprop(Φ 0 ∗ rest Φ (n + 1) 1) ⊢ _
  iintro ⟨H0, H⟩
  ihave H := (rest_app Φ 1 n 1) $$ H
  icases H with ⟨H1, H2⟩
  ihave H2 := (show rest Φ 1 (1 + n) ⊢ iprop(Φ (1 + n) ∗ emp) from .rfl) $$ H2
  icases H2 with ⟨H2, -⟩
  iframe H0 H1 H2
theorem rest_ends_join (Φ : ℕ → sProp 𝕄) (n : ℕ) : iprop(Φ 0 ∗ rest Φ n 1 ∗ Φ (1 + n)) ⊢ rest Φ (n + 2) 0 := by
  show _ ⊢ iprop(Φ 0 ∗ rest Φ (n + 1) 1)
  iintro ⟨H0, H1, H2⟩
  iframe H0
  iapply (rest_snoc Φ n 1)
  iframe H1 H2

variable (B : Blocks F) (K : GSem nD τ sig → ℕ)

/-- A device's own slot of a step, in either phase. -/
def slotR (c : Dev nD) (d : Fin 2) (s : ℕ) : sProp 𝕄 := iprop(hasAny (F := F) c (rsSlot d (ix s)) ∗ rch c (.rs d (ix s)) 0)
def slotA (c : Dev nD) (d : Fin 2) (s : ℕ) : sProp 𝕄 := iprop(hasAny (F := F) c (agSlot d (ix s)) ∗ rch c (.ag d (ix s)) 0)
def slots (c : Dev nD) (d : Fin 2) : sProp 𝕄 := rest (fun s => iprop(slotR (F := F) c d s ∗ slotA c d s)) 15 0

theorem barPay_eq (c : Dev nD) (e : Fin 2) : barPay (F := F) c e = slots (nxt e c) e := by
  unfold slots
  rw [← bigSep_rest]
  unfold barPay
  refine bigSep_congr fun s _ => ?_
  unfold slotR slotA
  rw [← ix_of s.val s.isLt]

/-- The right to pay a neighbour's barrier. -/
def bt (c : Dev nD) (d : Fin 2) : sProp 𝕄 := iprop(tok (F := F) (nxt d c) .bar 0 (rev d) ∗ rch (nxt d c) .bar 0)

theorem does_barrier (c : Dev nD) :
    Does c iprop(ctx B K ∗ ows c (O₀ c) ∗ (cred (tallyAt (cell c .bar) () 2) ∗ pos c .bar 0) ∗ bt c 0 ∗ bt c 1 ∗ slots c 0 ∗ slots c 1)
      (barrier (pars c)) (fun _ => iprop(ows (F := F) c (ow c 0) ∗ pos c .bar 1 ∗ slots (nxt 0 c) 0 ∗ slots (nxt 1 c) 1)) := fun Q => by
  unfold barrier bt
  rw [peer_eq, peer_eq]
  have h0 : slots (F := F) c 1 = barPay (nxt 0 c) (rev 0) := by rw [barPay_eq, nxt_rev_nxt]; rfl
  have h1 : slots (F := F) c 0 = barPay (nxt 1 c) (rev 1) := by rw [barPay_eq, nxt_rev_nxt]; rfl
  rw [h0, h1]
  iintro ⟨#Hctx, HO, ⟨Hc, Hp⟩, ⟨Ht0, Hb0⟩, ⟨Ht1, Hb1⟩, Hs0, Hs1⟩ HQ
  iapply (does_seq (does_signal B K c (nxt 0 c) (rev 0) (ow c 0 + bk c 1))) $$ [HO Ht0 Hb0 Hs1]
  · isplitr; · iexact Hctx
    isplitl [HO]; · iexact HO
    iframe Ht0 Hb0 Hs1
  iintro %_ HO
  iapply (does_seq (does_signal B K c (nxt 1 c) (rev 1) (ow c 0))) $$ [HO Ht1 Hb1 Hs0]
  · isplitr; · iexact Hctx
    isplitl [HO]; · iexact HO
    iframe Ht1 Hb1 Hs0
  iintro %_ HO
  iapply (does_wait_bar B K c (ow c 0) (above_ow c 0 (by show 1 < 2; decide)) Q) $$ [HO Hc Hp]
  · iframe Hctx HO Hc Hp
  iintro %_ ⟨HO, Hp, Hb0, Hb1⟩
  ihave Hb0 := (Entails.of_eq (barPay_eq (F := F) c 0)) $$ Hb0
  ihave Hb1 := (Entails.of_eq (barPay_eq (F := F) c 1)) $$ Hb1
  iapply HQ
  iframe HO Hp Hb0 Hb1

/-- The rights of a device over the run of the reduce-scatter: to pay its own send cells, to pay its neighbour's. -/
def rsST (c : Dev nD) (d : Fin 2) (s : ℕ) : sProp 𝕄 := tok (F := F) c (.rsS d (par s)) (s / 2) 0
def rsT (c : Dev nD) (d : Fin 2) (s : ℕ) : sProp 𝕄 := tok (F := F) (nxt d c) (.rs d (ix s)) 0 0
def agST (c : Dev nD) (d : Fin 2) (n : ℕ) : sProp 𝕄 := tok (F := F) c (.agS d (par n)) (n / 2) 0
def agT (c : Dev nD) (d : Fin 2) (n : ℕ) : sProp 𝕄 := tok (F := F) (nxt d c) (.ag d (ix n)) 0 0
def cpT (c : Dev nD) (d : Fin 2) (r : ℕ) : sProp 𝕄 := tok (F := F) c (.cp d) r 0

theorem rs_arm (c : Dev nD) (d : Fin 2) :
    iprop(rest (rsST (F := F) c d) 15 0 ∗ rest (rsT c d) 15 0 ∗ rest (slotR (nxt d c) d) 15 0) ⊢ rest (rsSendF c d) 15 0 := by
  refine BIBase.Entails.trans (BIClass.sep_mono .rfl (rest_zip _ _ 15 0)) ?_
  exact rest_zip _ _ 15 0
theorem ag_arm (c : Dev nD) (d : Fin 2) :
    iprop(rest (agST (F := F) c d) 15 0 ∗ rest (agT c d) 15 0 ∗ rest (slotA (nxt d c) d) 15 0) ⊢ rest (agSendF c d) 15 0 := by
  refine BIBase.Entails.trans (BIClass.sep_mono .rfl (rest_zip _ _ 15 0)) ?_
  exact rest_zip _ _ 15 0
theorem rs_fuel (c : Dev nD) (d : Fin 2) : iprop(rest (rsIn (F := F) c d) 13 1 ∗ rest (rsSendF c d) 13 2) ⊢ rest (rsFuelD c d) 13 0 := by
  have h := rest_zip (fun i => rsIn (F := F) c d (i + 1)) (fun i => rsSendF c d (i + 2)) 13 0
  rw [rest_shift (rsIn c d) 1 13 0, rest_shift (rsSendF c d) 2 13 0] at h
  exact h

def rsStartD (c : Dev nD) (d : Fin 2) : sProp 𝕄 :=
  iprop((hasAny (F := F) c (sendSlot d 0) ∗ hasAny c (sendSlot d 1) ∗ hasAny c (recvSlot d) ∗ hasAny c (ovSlot d))
    ∗ (pos c (.cp d) 0 ∗ pos c (.ov d) 0 ∗ pos c (.rsS d 0) 0 ∗ pos c (.rsS d 1) 0)
    ∗ rest (rsIn c d) 15 0 ∗ rest (rsST c d) 15 0 ∗ rest (rsT c d) 15 0 ∗ ovF c d 0)
def rsEndD (c : Dev nD) (d : Fin 2) : sProp 𝕄 :=
  iprop(rest (rsOut (F := F) c d) 15 0 ∗ hasAny c (recvSlot d) ∗ pos c (.cp d) 15 ∗ ovFly c d 0 ∗ has c (sendSlot d 1) (snd B d 15 c)
    ∗ pos c (.rsS d 1) 7 ∗ rsFly c d 14 ∗ rest (slotA (nxt d c) d) 15 0)

set_option maxHeartbeats 1000000 in
theorem does_rsPhase (c : Dev nD) :
    Does c iprop(ctx B K ∗ ows c (O₀ c) ∗ ins B c ∗ ((cred (tallyAt (cell c .bar) () 2) ∗ pos c .bar 0) ∗ bt c 0 ∗ bt c 1 ∗ slots c 0 ∗ slots c 1)
        ∗ rsStartD c 0 ∗ rsStartD c 1)
      (rsPhase (pars c)) (fun _ => iprop(ows (F := F) c (ow c 15) ∗ ins B c ∗ pos c .bar 1 ∗ rsEndD B c 0 ∗ rsEndD B c 1)) := fun Q => by
  unfold rsPhase rsStartD
  iintro ⟨#Hctx, HO, Hi, Hb, ⟨⟨Hs0, Hz0, Hr0, Hv0⟩, ⟨Hcp0, Hov0, Hp0, Hq0⟩, Hin0, Hst0, Ht0, Hof0⟩,
    ⟨⟨Hs1, Hz1, Hr1, Hv1⟩, ⟨Hcp1, Hov1, Hp1, Hq1⟩, Hin1, Hst1, Ht1, Hof1⟩⟩ HQ
  iapply (does_seq (does_rsFirst B c 0)) $$ [Hi Hs0]
  · iframe Hi Hs0
  iintro %_ ⟨Hi, Hs0⟩
  iapply (does_seq (does_rsFirst B c 1)) $$ [Hi Hs1]
  · iframe Hi Hs1
  iintro %_ ⟨Hi, Hs1⟩
  iapply (does_seq (does_barrier B K c)) $$ [HO Hb]
  · isplitr; · iexact Hctx
    isplitl [HO]; · iexact HO
    iexact Hb
  iintro %_ ⟨HO, Hbp, Hl0, Hl1⟩
  unfold slots
  ihave Hl0 := (rest_unzip _ _ 15 0) $$ Hl0
  icases Hl0 with ⟨Hl0, Hla0⟩
  ihave Hl1 := (rest_unzip _ _ 15 0) $$ Hl1
  icases Hl1 with ⟨Hl1, Hla1⟩
  ihave Hf0 := (rs_arm c 0) $$ [Hst0 Ht0 Hl0]
  · iframe Hst0 Ht0 Hl0
  ihave Hf1 := (rs_arm c 1) $$ [Hst1 Ht1 Hl1]
  · iframe Hst1 Ht1 Hl1
  ihave Hf0 := (show rest (rsSendF (F := F) c 0) 15 0 ⊢ iprop(rsSendF c 0 0 ∗ rsSendF c 0 1 ∗ rest (rsSendF c 0) 13 2) from .rfl) $$ Hf0
  ihave Hf1 := (show rest (rsSendF (F := F) c 1) 15 0 ⊢ iprop(rsSendF c 1 0 ∗ rsSendF c 1 1 ∗ rest (rsSendF c 1) 13 2) from .rfl) $$ Hf1
  icases Hf0 with ⟨Ha0, Hb0, Hf0⟩
  icases Hf1 with ⟨Ha1, Hb1, Hf1⟩
  ihave Hin0 := (rest_ends (rsIn (F := F) c 0) 13) $$ Hin0
  ihave Hin1 := (rest_ends (rsIn (F := F) c 1) 13) $$ Hin1
  icases Hin0 with ⟨Hx0, Hin0, Hy0⟩
  icases Hin1 with ⟨Hx1, Hin1, Hy1⟩
  unfold rsSendF
  icases Ha0 with ⟨Hat0, Hau0⟩
  icases Ha1 with ⟨Hat1, Hau1⟩
  icases Hb0 with ⟨Hbt0, Hbu0⟩
  icases Hb1 with ⟨Hbt1, Hbu1⟩
  rw [ow_step c 0 (by decide)]
  iapply (does_seq (show Does c _ (rsSend (pars c) 0 0) _ from does_rsSend B K c 0 0 (by decide) (ow c 1 + tk c 1 0))) $$ [HO Hs0 Hat0 Hp0 Hau0]
  · iframe Hctx HO Hs0 Hat0 Hp0 Hau0
  iintro %_ ⟨HO, Hg0⟩
  iapply (does_seq (show Does c _ (rsSend (pars c) 1 0) _ from does_rsSend B K c 1 0 (by decide) (ow c 1))) $$ [HO Hs1 Hat1 Hp1 Hau1]
  · iframe Hctx HO Hs1 Hat1 Hp1 Hau1
  iintro %_ ⟨HO, Hg1⟩
  iapply (does_seq (does_rsIter0 B K c 0 (ow c 1) (above_ow c 1 (by decide)))) $$ [HO Hi Hx0 Hr0 Hcp0 Hz0]
  · iframe Hctx HO Hi Hx0 Hr0 Hcp0 Hz0
  iintro %_ ⟨HO, Hi, Hout0, Hr0, Hcp0, Hz0⟩
  iapply (does_seq (does_rsIter0 B K c 1 (ow c 1) (above_ow c 1 (by decide)))) $$ [HO Hi Hx1 Hr1 Hcp1 Hz1]
  · iframe Hctx HO Hi Hx1 Hr1 Hcp1 Hz1
  iintro %_ ⟨HO, Hi, Hout1, Hr1, Hcp1, Hz1⟩
  rw [ow_step c 1 (by decide)]
  iapply (does_seq (show Does c _ (rsSend (pars c) 0 1) _ from does_rsSend B K c 0 1 (by decide) (ow c 2 + tk c 1 1))) $$ [HO Hz0 Hbt0 Hq0 Hbu0]
  · isplitr; · iexact Hctx
    isplitl [HO]; · iexact HO
    isplitl [Hz0]; · iexact Hz0
    isplitl [Hbt0]; · iexact Hbt0
    isplitl [Hq0]; · iexact Hq0
    iexact Hbu0
  iintro %_ ⟨HO, Hh0⟩
  iapply (does_seq (show Does c _ (rsSend (pars c) 1 1) _ from does_rsSend B K c 1 1 (by decide) (ow c 2))) $$ [HO Hz1 Hbt1 Hq1 Hbu1]
  · isplitr; · iexact Hctx
    isplitl [HO]; · iexact HO
    isplitl [Hz1]; · iexact Hz1
    isplitl [Hbt1]; · iexact Hbt1
    isplitl [Hq1]; · iexact Hq1
    iexact Hbu1
  iintro %_ ⟨HO, Hh1⟩
  ihave Hf0 := (rs_fuel c 0) $$ [Hin0 Hf0]
  · isplitl [Hin0]; · iexact Hin0
    iexact Hf0
  ihave Hf1 := (rs_fuel c 1) $$ [Hin1 Hf1]
  · isplitl [Hin1]; · iexact Hin1
    iexact Hf1
  iapply (does_seq (does_steps B K (rsStep (pars c)) (rsCore B c) (fun s => iprop(rsFuelD c 0 s ∗ rsFuelD c 1 s))
    (fun s => iprop(rsOut (F := F) c 0 (s + 1) ∗ rsOut c 1 (s + 1))) (does_rsStep B K c) 13 0 _)) $$ [HO Hi Hg0 Hh0 Hr0 Hcp0 Hg1 Hh1 Hr1 Hcp1 Hf0 Hf1]
  · isplitr; · iexact Hctx
    isplitl [HO Hi Hg0 Hh0 Hr0 Hcp0 Hg1 Hh1 Hr1 Hcp1]
    · unfold rsCore rsCoreD
      isplitl [HO]; · iexact HO
      isplitl [Hi]; · iexact Hi
      isplitl [Hg0 Hh0 Hr0 Hcp0]
      · isplitl [Hg0]; · iexact Hg0
        isplitl [Hh0]; · iexact Hh0
        isplitl [Hr0]; · iexact Hr0
        iexact Hcp0
      · isplitl [Hg1]; · iexact Hg1
        isplitl [Hh1]; · iexact Hh1
        isplitl [Hr1]; · iexact Hr1
        iexact Hcp1
    iapply (rest_zip (rsFuelD (F := F) c 0) (rsFuelD c 1) 13 0)
    iframe Hf0 Hf1
  iintro %_ ⟨HC, Ho⟩
  ihave Ho := (rest_unzip (fun s => rsOut (F := F) c 0 (s + 1)) (fun s => rsOut (F := F) c 1 (s + 1)) 13 0) $$ Ho
  rw [rest_shift (rsOut (F := F) c 0) 1 13 0, rest_shift (rsOut (F := F) c 1) 1 13 0]
  icases Ho with ⟨Ho0, Ho1⟩
  unfold rsCore rsCoreD
  icases HC with ⟨HO, Hi, ⟨Hg0, Hh0, Hr0, Hcp0⟩, ⟨Hg1, Hh1, Hr1, Hcp1⟩⟩
  iapply (does_seq (does_rsLast B K c 0 (ow c 15) (above_ow c 15 (by decide)))) $$ [HO Hi Hy0 Hr0 Hcp0 Hg0 Hv0 Hof0 Hov0]
  · isplitr; · iexact Hctx
    isplitl [HO]; · iexact HO
    isplitl [Hi]; · iexact Hi
    isplitl [Hy0]; · iexact Hy0
    isplitl [Hr0]; · iexact Hr0
    isplitl [Hcp0]; · iexact Hcp0
    isplitl [Hg0]; · iexact Hg0
    iframe Hv0 Hof0 Hov0
  iintro %_ ⟨HO, Hi, Hw0, Hr0, Hcp0, Hov0, Hz0, Hq0⟩
  iapply (does_rsLast B K c 1 (ow c 15) (above_ow c 15 (by decide)) Q) $$ [HO Hi Hy1 Hr1 Hcp1 Hg1 Hv1 Hof1 Hov1]
  · isplitr; · iexact Hctx
    isplitl [HO]; · iexact HO
    isplitl [Hi]; · iexact Hi
    isplitl [Hy1]; · iexact Hy1
    isplitl [Hr1]; · iexact Hr1
    isplitl [Hcp1]; · iexact Hcp1
    isplitl [Hg1]; · iexact Hg1
    iframe Hv1 Hof1 Hov1
  iintro %_ ⟨HO, Hi, Hw1, Hr1, Hcp1, Hov1, Hz1, Hq1⟩
  iapply HQ
  unfold rsEndD
  iframe HO Hi Hbp
  isplitl [Hout0 Ho0 Hw0 Hr0 Hcp0 Hov0 Hz0 Hq0 Hh0 Hla0]
  · isplitl [Hout0 Ho0 Hw0]
    · iapply (rest_ends_join (rsOut (F := F) c 0) 13)
      isplitl [Hout0]; · iexact Hout0
      isplitl [Ho0]; · iexact Ho0
      iexact Hw0
    iframe Hr0 Hcp0 Hov0 Hz0 Hq0 Hla0
    iexact Hh0
  · isplitl [Hout1 Ho1 Hw1]
    · iapply (rest_ends_join (rsOut (F := F) c 1) 13)
      isplitl [Hout1]; · iexact Hout1
      isplitl [Ho1]; · iexact Ho1
      iexact Hw1
    iframe Hr1 Hcp1 Hov1 Hz1 Hq1 Hla1
    iexact Hh1

end Cert.Bidir

end
-- ==== Proof.BodyEq.lean ====
/-
  The printed body is the sequence of steps of Proof/Prog.lean: the same operations in the same order, at the call's buffers.
  Both are unfolded to one chain of operations, and the chains are compared.
-/
module

public import proofs.«01_k».proof.Proof.Gen.KernelIdeal.Points
public import proofs.«01_k».proof.Proof.Gen.KernelIdeal.Skeleton
public import proofs.«01_k».proof.Proof.Prog

@[expose] public section

noncomputable section

namespace Cert.Bidir

open Idealize.ShloMosaic Idealize.ShloMosaic.TcCoe Idealize.SL.Sem
open Cert.KernelIdeal Cert.KernelIdeal.Gen

variable {F : FTy → Type} [FloatOps F]

set_option maxRecDepth 1000000 in
set_option maxHeartbeats 40000000 in
/-- What holds of the sequence of steps holds of the printed body. -/
theorem of_body (P : KProg F PUnit → Prop) (h : P body) :
    P (cc0_body (F := F) metaM (Memref.isWhole_whole _) xM (Memref.isWhole_whole _) wM (Memref.isWhole_whole _) outM (Memref.isWhole_whole _)
      rsM (Memref.isWhole_whole _) agM (Memref.isWhole_whole _) sendM (Memref.isWhole_whole _) recvM (Memref.isWhole_whole _)
      ovM (Memref.isWhole_whole _) cc0_scratch3 cc0_scratch4 cc0_scratch5 cc0_scratch6 cc0_scratch7 cc0_scratch8) := by
  rw [cc0_body_eq_skeleton]
  dsimp only [cc0_body_skel, k0_part1_eq_skeleton, k0_part1_skel, k0_part2_eq_skeleton, k0_part2_skel, k0_part3_eq_skeleton,
    k0_part3_skel, k0_part4_eq_skeleton, k0_part4_skel, k0_part5_eq_skeleton, k0_part5_skel, k0_part6_eq_skeleton,
    k0_part6_skel, k0_part7_eq_skeleton, k0_part7_skel, k0_part8_eq_skeleton, k0_part8_skel, k0_part9_eq_skeleton,
    k0_part9_skel, k0_part10_eq_skeleton, k0_part10_skel, k0_part11_eq_skeleton, k0_part11_skel, k0_part12_eq_skeleton,
    k0_part12_skel, k0_part13_eq_skeleton, k0_part13_skel, k0_part14_eq_skeleton, k0_part14_skel, k0_part15_eq_skeleton,
    k0_part15_skel, k0_part16_eq_skeleton, k0_part16_skel, k0_part17_eq_skeleton, k0_part17_skel, k0_part18_eq_skeleton,
    k0_part18_skel, k0_part19_eq_skeleton, k0_part19_skel, k0_part20_eq_skeleton, k0_part20_skel, k0_part21_eq_skeleton,
    k0_part21_skel, k0_part22_eq_skeleton, k0_part22_skel, k0_part23_eq_skeleton, k0_part23_skel, k0_part24_eq_skeleton,
    k0_part24_skel, k0_part25_eq_skeleton, k0_part25_skel, k0_part26_eq_skeleton, k0_part26_skel, k0_part27_eq_skeleton,
    k0_part27_skel, k0_part28_eq_skeleton, k0_part28_skel, k0_part29_eq_skeleton, k0_part29_skel, k0_part30_eq_skeleton,
    k0_part30_skel, k0_part31_eq_skeleton, k0_part31_skel, k0_part32_eq_skeleton, k0_part32_skel, k0_part33_eq_skeleton,
    k0_part33_skel, k0_part34_eq_skeleton, k0_part34_skel, k0_part35_eq_skeleton, k0_part35_skel, k0_part36_eq_skeleton,
    k0_part36_skel, k0_part37_eq_skeleton, k0_part37_skel, k0_part38_eq_skeleton, k0_part38_skel, k0_part39_eq_skeleton,
    k0_part39_skel, k0_part40_eq_skeleton, k0_part40_skel, k0_part41_eq_skeleton, k0_part41_skel, k0_part42_eq_skeleton,
    k0_part42_skel, k0_part43_eq_skeleton, k0_part43_skel, k0_part44_eq_skeleton, k0_part44_skel, k0_part45_eq_skeleton,
    k0_part45_skel, k0_part46_eq_skeleton, k0_part46_skel, k0_part47_eq_skeleton, k0_part47_skel, k0_part48_eq_skeleton,
    k0_part48_skel, k0_part49_eq_skeleton, k0_part49_skel, k0_part50_eq_skeleton, k0_part50_skel, k0_part51_eq_skeleton,
    k0_part51_skel, k0_part52_eq_skeleton, k0_part52_skel, k0_part53_eq_skeleton, k0_part53_skel, k0_part54_eq_skeleton,
    k0_part54_skel, k0_part55_eq_skeleton, k0_part55_skel, k0_part56_eq_skeleton, k0_part56_skel, k0_part57_eq_skeleton,
    k0_part57_skel, k0_part58_eq_skeleton, k0_part58_skel, k0_part59_eq_skeleton, k0_part59_skel, k0_part60_eq_skeleton,
    k0_part60_skel, k0_part61_eq_skeleton, k0_part61_skel, k0_part62_eq_skeleton, k0_part62_skel, k0_part63_eq_skeleton,
    k0_part63_skel, k0_part64_eq_skeleton, k0_part64_skel, k0_part65_eq_skeleton, k0_part65_skel, k0_part66_eq_skeleton,
    k0_part66_skel, k0_part67_eq_skeleton, k0_part67_skel, k0_part68_eq_skeleton, k0_part68_skel, k0_part69_eq_skeleton,
    k0_part69_skel, k0_part70_eq_skeleton, k0_part70_skel, k0_part71_eq_skeleton, k0_part71_skel, k0_part72_eq_skeleton,
    k0_part72_skel, k0_part73_eq_skeleton, k0_part73_skel, k0_part74_eq_skeleton, k0_part74_skel, k0_part75_eq_skeleton,
    k0_part75_skel, k0_part76_eq_skeleton, k0_part76_skel, k0_part77_eq_skeleton, k0_part77_skel, k0_part78_eq_skeleton,
    k0_part78_skel, k0_part79_eq_skeleton, k0_part79_skel, k0_part80_eq_skeleton, k0_part80_skel, k0_part81_eq_skeleton,
    k0_part81_skel, k0_part82_eq_skeleton, k0_part82_skel, k0_part83_eq_skeleton, k0_part83_skel, k0_part84_eq_skeleton,
    k0_part84_skel, k0_part85_eq_skeleton, k0_part85_skel, k0_part86_eq_skeleton, k0_part86_skel, k0_part87_eq_skeleton,
    k0_part87_skel, k0_part88_eq_skeleton, k0_part88_skel, k0_part89_eq_skeleton, k0_part89_skel, k0_part90_eq_skeleton,
    k0_part90_skel, k0_part91_eq_skeleton, k0_part91_skel, k0_part92_eq_skeleton, k0_part92_skel, k0_part93_eq_skeleton,
    k0_part93_skel, k0_part94_eq_skeleton, k0_part94_skel, k0_part95_eq_skeleton, k0_part95_skel, k0_part96_eq_skeleton,
    k0_part96_skel, k0_part97_eq_skeleton, k0_part97_skel, k0_part98_eq_skeleton, k0_part98_skel, k0_part99_eq_skeleton,
    k0_part99_skel, k0_part100_eq_skeleton, k0_part100_skel, k0_part101_eq_skeleton, k0_part101_skel, k0_part102_eq_skeleton,
    k0_part102_skel, k0_part103_eq_skeleton, k0_part103_skel, k0_part104_eq_skeleton, k0_part104_skel, k0_part105_eq_skeleton,
    k0_part105_skel, k0_part106_eq_skeleton, k0_part106_skel, k0_part107_eq_skeleton, k0_part107_skel, k0_part108_eq_skeleton,
    k0_part108_skel, k0_part109_eq_skeleton, k0_part109_skel, k0_part110_eq_skeleton, k0_part110_skel, k0_part111_eq_skeleton,
    k0_part111_skel, k0_part112_eq_skeleton, k0_part112_skel, k0_part113_eq_skeleton, k0_part113_skel, k0_part114_eq_skeleton,
    k0_part114_skel, k0_part115_eq_skeleton, k0_part115_skel, k0_part116_eq_skeleton, k0_part116_skel, k0_part117_eq_skeleton,
    k0_part117_skel, k0_part118_eq_skeleton, k0_part118_skel, k0_part119_eq_skeleton, k0_part119_skel, k0_part120_eq_skeleton,
    k0_part120_skel, k0_part121_eq_skeleton, k0_part121_skel, k0_part122_eq_skeleton, k0_part122_skel, k0_part123_eq_skeleton,
    k0_part123_skel, k0_part124_eq_skeleton, k0_part124_skel, k0_part125_eq_skeleton, k0_part125_skel, k0_part126_eq_skeleton,
    k0_part126_skel, k0_part127_eq_skeleton, k0_part127_skel, k0_part128_eq_skeleton, k0_part128_skel, k0_part129_eq_skeleton,
    k0_part129_skel, k0_part130_eq_skeleton, k0_part130_skel, k0_part131_eq_skeleton, k0_part131_skel, k0_part132_eq_skeleton,
    k0_part132_skel, k0_part133_eq_skeleton, k0_part133_skel, k0_part134_eq_skeleton, k0_part134_skel, k0_part135_eq_skeleton,
    k0_part135_skel, smemLoad, semSignalWord, semWaitWord, Prog.bind_op, Prog.bind_ret, Prog.bind_lift, Prog.lift,
    Prog.pure_eq_ret]
  dsimp only [body, run, rsPhase, agPhase, drain, rsFirst, dotP, storeSend, storeOut, fetch, loadRecv, rsSend, rsWaitRecv,
    rsWaitSend, agSend0, agSend, agWaitRecv0, agWaitRecv, agWaitSend0, agWaitSend, outCopy, outWait, rsAcc, rsIter0, rsIter,
    rsLast, agOut, steps, barrier, rsStep, agStep, agLast, smemLoad, semSignalWord, semWaitWord, Prog.bind_op, Prog.bind_ret,
    Prog.bind_lift, Prog.lift, Prog.pure_eq_ret] at h
  exact h

set_option maxRecDepth 1000000 in
set_option maxHeartbeats 40000000 in
/-- The pipeline's call of the body is the sequence of steps. -/
theorem bodyAt0_eq (t : Fin cfg0.N) : bodyAt0 (F := F) t = body :=
  (show bodyAt0 (F := F) t = cc0_body (F := F) metaM (Memref.isWhole_whole _) xM (Memref.isWhole_whole _) wM (Memref.isWhole_whole _) outM (Memref.isWhole_whole _)
      rsM (Memref.isWhole_whole _) agM (Memref.isWhole_whole _) sendM (Memref.isWhole_whole _) recvM (Memref.isWhole_whole _)
      ovM (Memref.isWhole_whole _) cc0_scratch3 cc0_scratch4 cc0_scratch5 cc0_scratch6 cc0_scratch7 cc0_scratch8 from rfl).trans
    (of_body (fun p => p = body) rfl)

end Cert.Bidir

end
-- ==== Proof.Gather.lean ====
/-
  The all-gather as a whole, and the body's whole run.
-/
module

public import proofs.«01_k».proof.Proof.Phases
public import proofs.«01_k».proof.Proof.BodyEq

@[expose] public section

noncomputable section

namespace Cert.Bidir

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (B : Blocks F) (K : GSem nD τ sig → ℕ)

theorem ag_fuel (c : Dev nD) (d : Fin 2) :
    iprop(rest (agIn (F := F) c d) 12 2 ∗ rest (agSendF c d) 12 3 ∗ rest (cpT c d) 12 17 ∗ rest (ovF c d) 12 3) ⊢ rest (agFuelD c d) 12 0 := by
  have h1 := rest_zip (fun i => cpT (F := F) c d (i + 17)) (fun i => ovF c d (i + 3)) 12 0
  rw [rest_shift (cpT c d) 17 12 0, rest_shift (ovF c d) 3 12 0] at h1
  have h2 := rest_zip (fun i => agSendF (F := F) c d (i + 3)) (fun i => iprop(cpT c d (i + 17) ∗ ovF c d (i + 3))) 12 0
  rw [rest_shift (agSendF c d) 3 12 0] at h2
  have h3 := rest_zip (fun i => agIn (F := F) c d (i + 2)) (fun i => iprop(agSendF c d (i + 3) ∗ cpT c d (i + 17) ∗ ovF c d (i + 3))) 12 0
  rw [rest_shift (agIn c d) 2 12 0] at h3
  refine BIBase.Entails.trans (BIClass.sep_mono .rfl (BIBase.Entails.trans (BIClass.sep_mono .rfl h1) h2)) (BIBase.Entails.trans h3 ?_)
  refine rest_mono 12 0 fun i _ _ => ?_
  unfold agFuelD cpT
  rw [show i + 17 = 15 + (i + 2) by omega]
theorem ag_ash (c : Dev nD) (d : Fin 2) :
    rest (agAshD B c d) 12 0 ⊢ iprop(rest (fun s => pos (F := F) c (.ag d (ix s)) 1) 12 2 ∗ rest (agR B c d) 12 2 ∗ rest (agL B c d) 12 0 ∗ rest (ovDone B c d) 12 2) := by
  have h1 := rest_unzip (agL B c d) (fun i => ovDone B c d (i + 2)) 12 0
  rw [rest_shift (ovDone B c d) 2 12 0] at h1
  have h2 := rest_unzip (fun i => agR B c d (i + 2)) (fun i => iprop(agL B c d i ∗ ovDone B c d (i + 2))) 12 0
  rw [rest_shift (agR B c d) 2 12 0] at h2
  have h3 := rest_unzip (fun i => pos (F := F) c (.ag d (ix (i + 2))) 1) (fun i => iprop(agR B c d (i + 2) ∗ agL B c d i ∗ ovDone B c d (i + 2))) 12 0
  rw [rest_shift (fun i => pos (F := F) c (.ag d (ix i)) 1) 2 12 0] at h3
  exact BIBase.Entails.trans h3 (BIClass.sep_mono .rfl (BIBase.Entails.trans h2 (BIClass.sep_mono .rfl h1)))

def agStartD (c : Dev nD) (d : Fin 2) : sProp 𝕄 :=
  iprop(rest (agIn (F := F) c d) 15 0 ∗ rest (agSendF c d) 15 0 ∗ rest (cpT c d) 15 15 ∗ rest (ovF c d) 15 1
    ∗ (pos c (.agS d 0) 0 ∗ pos c (.agS d 1) 0) ∗ has c (sendSlot d 1) (snd B d 15 c) ∗ hasAny c (recvSlot d) ∗ pos c (.cp d) 15 ∗ ovFly c d 0)
/-- The state after the loop and what it is built of, in one direction. -/
def agEndD (c : Dev nD) (d : Fin 2) : sProp 𝕄 :=
  iprop(rest (fun s => pos (F := F) c (.ag d (ix s)) 1) 15 0 ∗ rest (agR B c d) 15 0 ∗ rest (agL B c d) 12 0 ∗ agL B c d 14
    ∗ agFly c d 13 ∗ agFly c d 14 ∗ hasAny c (sendSlot d 1) ∗ hasAny c (recvSlot d) ∗ pos c (.cp d) 30 ∗ hasAny c (ovSlot d) ∗ pos c (.ov d) 16
    ∗ rest (ovDone B c d) 16 0)

theorem rest_two (Φ : ℕ → sProp 𝕄) (n s : ℕ) : iprop((Φ s ∗ Φ (s + 1)) ∗ rest Φ n (s + 2)) ⊢ rest Φ (n + 2) s := by
  show _ ⊢ iprop(Φ s ∗ Φ (s + 1) ∗ rest Φ n (s + 2))
  iintro ⟨⟨H0, H1⟩, H⟩
  iframe H0 H1 H
theorem rest_two_snoc (Φ : ℕ → sProp 𝕄) (n : ℕ) : iprop(((Φ 0 ∗ Φ 1) ∗ rest Φ n 2) ∗ Φ (n + 2)) ⊢ rest Φ (n + 3) 0 := by
  have h := rest_snoc Φ (n + 2) 0
  rw [Nat.zero_add] at h
  exact BIBase.Entails.trans (BIClass.sep_mono (rest_two Φ n 0) .rfl) h
theorem rest_two_ends (Φ : ℕ → sProp 𝕄) (n s : ℕ) : rest Φ (n + 3) s ⊢ iprop(Φ s ∗ Φ (s + 1) ∗ rest Φ n (s + 2) ∗ Φ (s + 2 + n)) := by
  show iprop(Φ s ∗ Φ (s + 1) ∗ rest Φ (n + 1) (s + 2)) ⊢ _
  iintro ⟨H0, H1, H⟩
  ihave H := (rest_app Φ 1 n (s + 2)) $$ H
  icases H with ⟨H2, H3⟩
  ihave H3 := (show rest Φ 1 (s + 2 + n) ⊢ iprop(Φ (s + 2 + n) ∗ emp) from .rfl) $$ H3
  icases H3 with ⟨H3, -⟩
  iframe H0 H1 H2 H3

/-- The state before the loop. -/
def agMidD (c : Dev nD) (d : Fin 2) : sProp 𝕄 :=
  iprop(agCoreD (F := F) c d 0 ∗ rest (agFuelD c d) 12 0
    ∗ (agIn c d 14 ∗ cpT c d 29 ∗ ovF c d 15)
    ∗ (pos c (.ag d (ix 0)) 1 ∗ pos c (.ag d (ix 1)) 1) ∗ (agR B c d 0 ∗ agR B c d 1) ∗ (ovDone B c d 0 ∗ ovDone B c d 1) ∗ hasAny c (sendSlot d 1))

/-- The all-gather up to its loop. -/
def agHead (p : Params) : KProg F PUnit := do
  agSend0 p 0
  agSend0 p 1
  agWaitRecv0 0
  agWaitRecv0 1
  agSend p 0 0 (by decide)
  agSend p 1 0 (by decide)
  agOut p 0 0 (by decide) 15 (by decide)
  agOut p 1 0 (by decide) 15 (by decide)
  agWaitRecv 0 0 (by decide)
  agWaitRecv 1 0 (by decide)
  agWaitSend0 0
  agSend p 0 1 (by decide)
  agWaitSend0 1
  agSend p 1 1 (by decide)
  agOut p 0 1 (by decide) 0 (by decide)
  agOut p 1 1 (by decide) 0 (by decide)

theorem agPhase_eq (p : Params) : agPhase (F := F) p = (agHead p >>= fun _ => (steps (agStep p) 12 0 (by decide) >>= fun _ => agLast p)) := by
  unfold agPhase agHead
  simp only [bind_assoc]

set_option maxHeartbeats 2000000 in
theorem does_agHead (c : Dev nD) :
    Does c iprop(ctx B K ∗ ows c (ow c 15) ∗ agStartD B c 0 ∗ agStartD B c 1) (agHead (pars c))
      (fun _ => iprop(ows (F := F) c (ow c 18) ∗ agMidD B c 0 ∗ agMidD B c 1)) := fun Q => by
  unfold agHead agStartD
  iintro ⟨#Hctx, HO, ⟨Hin0, Hf0, Hc0, Ho0, ⟨Hp0, Hq0⟩, Hs0, Hr0, Hcp0, Hov0⟩, ⟨Hin1, Hf1, Hc1, Ho1, ⟨Hp1, Hq1⟩, Hs1, Hr1, Hcp1, Hov1⟩⟩ HQ
  ihave Hin0 := (rest_two_ends (agIn (F := F) c 0) 12 0) $$ Hin0
  icases Hin0 with ⟨HinA0, HinB0, Hin0, HinC0⟩
  ihave Hin1 := (rest_two_ends (agIn (F := F) c 1) 12 0) $$ Hin1
  icases Hin1 with ⟨HinA1, HinB1, Hin1, HinC1⟩
  ihave Hf0 := (show rest (agSendF (F := F) c 0) 15 0 ⊢ iprop(agSendF c 0 0 ∗ agSendF c 0 1 ∗ agSendF c 0 2 ∗ rest (agSendF c 0) 12 3) from .rfl) $$ Hf0
  icases Hf0 with ⟨HfA0, HfB0, HfC0, Hf0⟩
  ihave Hf1 := (show rest (agSendF (F := F) c 1) 15 0 ⊢ iprop(agSendF c 1 0 ∗ agSendF c 1 1 ∗ agSendF c 1 2 ∗ rest (agSendF c 1) 12 3) from .rfl) $$ Hf1
  icases Hf1 with ⟨HfA1, HfB1, HfC1, Hf1⟩
  ihave Hc0 := (rest_two_ends (cpT (F := F) c 0) 12 15) $$ Hc0
  icases Hc0 with ⟨HcA0, HcB0, Hc0, HcC0⟩
  ihave Hc1 := (rest_two_ends (cpT (F := F) c 1) 12 15) $$ Hc1
  icases Hc1 with ⟨HcA1, HcB1, Hc1, HcC1⟩
  ihave Ho0 := (rest_two_ends (ovF (F := F) c 0) 12 1) $$ Ho0
  icases Ho0 with ⟨HoA0, HoB0, Ho0, HoC0⟩
  ihave Ho1 := (rest_two_ends (ovF (F := F) c 1) 12 1) $$ Ho1
  icases Ho1 with ⟨HoA1, HoB1, Ho1, HoC1⟩
  unfold agSendF
  icases HfA0 with ⟨HtA0, HuA0⟩
  icases HfA1 with ⟨HtA1, HuA1⟩
  icases HfB0 with ⟨HtB0, HuB0⟩
  icases HfB1 with ⟨HtB1, HuB1⟩
  icases HfC0 with ⟨HtC0, HuC0⟩
  icases HfC1 with ⟨HtC1, HuC1⟩
  rw [ow_step c 15 (by decide)]
  iapply (does_seq (does_agSend0 B K c 0 (ow c 16 + tk c 1 15))) $$ [HO Hs0 HtA0 Hp0 HuA0]
  · isplitr; · iexact Hctx
    isplitl [HO]; · iexact HO
    isplitl [Hs0]; · iexact Hs0
    isplitl [HtA0]; · iexact HtA0
    isplitl [Hp0]; · iexact Hp0
    iexact HuA0
  iintro %_ ⟨HO, Hg0⟩
  iapply (does_seq (does_agSend0 B K c 1 (ow c 16))) $$ [HO Hs1 HtA1 Hp1 HuA1]
  · isplitr; · iexact Hctx
    isplitl [HO]; · iexact HO
    isplitl [Hs1]; · iexact Hs1
    isplitl [HtA1]; · iexact HtA1
    isplitl [Hp1]; · iexact Hp1
    iexact HuA1
  iintro %_ ⟨HO, Hg1⟩
  unfold agIn
  iapply (does_seq (does_agWaitRecv0 B K c 0 (ow c 16) (above_ow c 16 (by decide)))) $$ [HO HinA0]
  · isplitr; · iexact Hctx
    isplitl [HO]; · iexact HO
    iexact HinA0
  iintro %_ ⟨HO, Hgot0, HpA0⟩
  iapply (does_seq (does_agWaitRecv0 B K c 1 (ow c 16) (above_ow c 16 (by decide)))) $$ [HO HinA1]
  · isplitr; · iexact Hctx
    isplitl [HO]; · iexact HO
    iexact HinA1
  iintro %_ ⟨HO, Hgot1, HpA1⟩
  unfold agGot
  icases Hgot0 with ⟨HL0, HR0⟩
  icases Hgot1 with ⟨HL1, HR1⟩
  rw [ow_step c 16 (by decide)]
  iapply (does_seq (does_agSend B K c 0 0 _ (ow c 17 + tk c 1 16))) $$ [HO HL0 HtB0 Hq0 HuB0]
  · isplitr; · iexact Hctx
    isplitl [HO]; · iexact HO
    isplitl [HL0]; · iexact HL0
    isplitl [HtB0]; · iexact HtB0
    isplitl [Hq0]; · iexact Hq0
    iexact HuB0
  iintro %_ ⟨HO, Hh0⟩
  iapply (does_seq (does_agSend B K c 1 0 _ (ow c 17))) $$ [HO HL1 HtB1 Hq1 HuB1]
  · isplitr; · iexact Hctx
    isplitl [HO]; · iexact HO
    isplitl [HL1]; · iexact HL1
    isplitl [HtB1]; · iexact HtB1
    isplitl [Hq1]; · iexact Hq1
    iexact HuB1
  iintro %_ ⟨HO, Hh1⟩
  unfold cpT
  iapply (does_seq (does_agOut B K c 0 0 _ 15 _ rfl (ow c 17) (above_ow c 17 (by decide)))) $$ [HO HR0 Hr0 HcA0 Hcp0 Hov0 HoA0]
  · unfold agR; iframe Hctx HO HR0 Hr0 HcA0 Hcp0 Hov0 HoA0
  iintro %_ ⟨HO, HR0, Hr0, Hcp0, Hov0, HdA0⟩
  iapply (does_seq (does_agOut B K c 1 0 _ 15 _ rfl (ow c 17) (above_ow c 17 (by decide)))) $$ [HO HR1 Hr1 HcA1 Hcp1 Hov1 HoA1]
  · unfold agR; iframe Hctx HO HR1 Hr1 HcA1 Hcp1 Hov1 HoA1
  iintro %_ ⟨HO, HR1, Hr1, Hcp1, Hov1, HdA1⟩
  iapply (does_seq (does_agWaitRecv B K c 0 0 _ (ow c 17) (above_ow c 17 (by decide)))) $$ [HO HinB0]
  · isplitr; · iexact Hctx
    isplitl [HO]; · iexact HO
    iexact HinB0
  iintro %_ ⟨HO, Hgot0, HpB0⟩
  iapply (does_seq (does_agWaitRecv B K c 1 0 _ (ow c 17) (above_ow c 17 (by decide)))) $$ [HO HinB1]
  · isplitr; · iexact Hctx
    isplitl [HO]; · iexact HO
    iexact HinB1
  iintro %_ ⟨HO, Hgot1, HpB1⟩
  unfold agGot
  icases Hgot0 with ⟨HL0, HS0⟩
  icases Hgot1 with ⟨HL1, HS1⟩
  rw [ow_step c 17 (by decide)]
  iapply (does_seq (does_agWaitSend0 B K c 0 (ow c 18 + tk c 1 17 + tk c 0 17)
    (above_add (above_add (above_ow c 18 (by decide)) (above_tk c 1 17 (by decide) (by decide))) (above_tk c 0 17 (by decide) (by decide))))) $$ [HO Hg0]
  · isplitr; · iexact Hctx
    isplitl [HO]; · iexact HO
    iexact Hg0
  iintro %_ ⟨HO, Hs0, Hp0⟩
  iapply (does_seq (does_agSend B K c 0 1 _ (ow c 18 + tk c 1 17))) $$ [HO HL0 HtC0 Hp0 HuC0]
  · isplitr; · iexact Hctx
    isplitl [HO]; · iexact HO
    isplitl [HL0]; · iexact HL0
    isplitl [HtC0]; · iexact HtC0
    isplitl [Hp0]; · iexact Hp0
    iexact HuC0
  iintro %_ ⟨HO, Hg0⟩
  iapply (does_seq (does_agWaitSend0 B K c 1 (ow c 18 + tk c 1 17)
    (above_add (above_ow c 18 (by decide)) (above_tk c 1 17 (by decide) (by decide))))) $$ [HO Hg1]
  · isplitr; · iexact Hctx
    isplitl [HO]; · iexact HO
    iexact Hg1
  iintro %_ ⟨HO, Hs1, Hp1⟩
  iapply (does_seq (does_agSend B K c 1 1 _ (ow c 18))) $$ [HO HL1 HtC1 Hp1 HuC1]
  · isplitr; · iexact Hctx
    isplitl [HO]; · iexact HO
    isplitl [HL1]; · iexact HL1
    isplitl [HtC1]; · iexact HtC1
    isplitl [Hp1]; · iexact Hp1
    iexact HuC1
  iintro %_ ⟨HO, Hg1⟩
  iapply (does_seq (does_agOut B K c 0 1 _ 0 _ rfl (ow c 18) (above_ow c 18 (by decide)))) $$ [HO HS0 Hr0 HcB0 Hcp0 Hov0 HoB0]
  · isplitr; · iexact Hctx
    isplitl [HO]; · iexact HO
    isplitl [HS0]; · unfold agR; iexact HS0
    isplitl [Hr0]; · iexact Hr0
    isplitl [HcB0]; · iexact HcB0
    isplitl [Hcp0]; · iexact Hcp0
    isplitl [Hov0]; · iexact Hov0
    iexact HoB0
  iintro %_ ⟨HO, HS0, Hr0, Hcp0, Hov0, HdB0⟩
  iapply (does_agOut B K c 1 1 _ 0 _ rfl (ow c 18) (above_ow c 18 (by decide)) Q) $$ [HO HS1 Hr1 HcB1 Hcp1 Hov1 HoB1]
  · isplitr; · iexact Hctx
    isplitl [HO]; · iexact HO
    isplitl [HS1]; · unfold agR; iexact HS1
    isplitl [Hr1]; · iexact Hr1
    isplitl [HcB1]; · iexact HcB1
    isplitl [Hcp1]; · iexact Hcp1
    isplitl [Hov1]; · iexact Hov1
    iexact HoB1
  iintro %_ ⟨HO, HS1, Hr1, Hcp1, Hov1, HdB1⟩
  iapply HQ
  unfold agMidD agCoreD
  isplitl [HO]; · iexact HO
  isplitl [Hh0 Hg0 Hr0 Hcp0 Hov0 Hin0 Hf0 Hc0 Ho0 HinC0 HcC0 HoC0 HpA0 HpB0 HR0 HS0 HdA0 HdB0 Hs0]
  · isplitl [Hh0 Hg0 Hr0 Hcp0 Hov0]
    · isplitl [Hh0]; · iexact Hh0
      isplitl [Hg0]; · iexact Hg0
      isplitl [Hr0]; · iexact Hr0
      isplitl [Hcp0]; · iexact Hcp0
      iexact Hov0
    isplitl [Hin0 Hf0 Hc0 Ho0]
    · iapply (ag_fuel c 0)
      isplitl [Hin0]; · iexact Hin0
      isplitl [Hf0]; · iexact Hf0
      isplitl [Hc0]; · iexact Hc0
      iexact Ho0
    isplitl [HinC0 HcC0 HoC0]
    · unfold agIn cpT
      isplitl [HinC0]; · iexact HinC0
      isplitl [HcC0]; · iexact HcC0
      iexact HoC0
    isplitl [HpA0 HpB0]
    · isplitl [HpA0]; · iexact HpA0
      iexact HpB0
    isplitl [HR0 HS0]
    · isplitl [HR0]; · iexact HR0
      iexact HS0
    isplitl [HdA0 HdB0]
    · isplitl [HdA0]; · iexact HdA0
      iexact HdB0
    iexact Hs0
  · isplitl [Hh1 Hg1 Hr1 Hcp1 Hov1]
    · isplitl [Hh1]; · iexact Hh1
      isplitl [Hg1]; · iexact Hg1
      isplitl [Hr1]; · iexact Hr1
      isplitl [Hcp1]; · iexact Hcp1
      iexact Hov1
    isplitl [Hin1 Hf1 Hc1 Ho1]
    · iapply (ag_fuel c 1)
      isplitl [Hin1]; · iexact Hin1
      isplitl [Hf1]; · iexact Hf1
      isplitl [Hc1]; · iexact Hc1
      iexact Ho1
    isplitl [HinC1 HcC1 HoC1]
    · unfold agIn cpT
      isplitl [HinC1]; · iexact HinC1
      isplitl [HcC1]; · iexact HcC1
      iexact HoC1
    isplitl [HpA1 HpB1]
    · isplitl [HpA1]; · iexact HpA1
      iexact HpB1
    isplitl [HR1 HS1]
    · isplitl [HR1]; · iexact HR1
      iexact HS1
    isplitl [HdA1 HdB1]
    · isplitl [HdA1]; · iexact HdA1
      iexact HdB1
    iexact Hs1

end Cert.Bidir

end
-- ==== Proof.Run.lean ====
/-
  The all-gather's end, the last sends' ends, and the body's whole run at a device.
-/
module

public import proofs.«01_k».proof.Proof.Gather

@[expose] public section

noncomputable section

namespace Cert.Bidir

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (B : Blocks F) (K : GSem nD τ sig → ℕ)

/-- A direction's state after the loop. -/
def agTailD (c : Dev nD) (d : Fin 2) : sProp 𝕄 :=
  iprop(agCoreD (F := F) c d 12 ∗ (agIn c d 14 ∗ cpT c d 29 ∗ ovF c d 15))
/-- And after the all-gather's last step. -/
def agLastD (c : Dev nD) (d : Fin 2) : sProp 𝕄 :=
  iprop(agFly (F := F) c d 13 ∗ agFly c d 14 ∗ hasAny c (recvSlot d) ∗ pos c (.cp d) 30 ∗ hasAny c (ovSlot d) ∗ pos c (.ov d) 16
    ∗ pos c (.ag d (ix 14)) 1 ∗ agL B c d 14 ∗ agR B c d 14 ∗ (ovDone B c d 14 ∗ ovDone B c d 15))

set_option maxHeartbeats 1000000 in
theorem does_agLast (c : Dev nD) :
    Does c iprop(ctx B K ∗ ows c 0 ∗ agTailD c 0 ∗ agTailD c 1) (agLast (pars c))
      (fun _ => iprop(ows (F := F) c 0 ∗ agLastD B c 0 ∗ agLastD B c 1)) := fun Q => by
  unfold agLast agTailD agCoreD agIn
  iintro ⟨#Hctx, HO, ⟨⟨Hf0, Hg0, Hr0, Hcp0, Hov0⟩, Hin0, Hc0, Ho0⟩, ⟨⟨Hf1, Hg1, Hr1, Hcp1, Hov1⟩, Hin1, Hc1, Ho1⟩⟩ HQ
  iapply (does_seq (does_agWaitRecv B K c 0 13 _ 0 (above_zero _))) $$ [HO Hin0]
  · isplitr; · iexact Hctx
    isplitl [HO]; · iexact HO
    iexact Hin0
  iintro %_ ⟨HO, Hgot0, Hp0⟩
  iapply (does_seq (does_agWaitRecv B K c 1 13 _ 0 (above_zero _))) $$ [HO Hin1]
  · isplitr; · iexact Hctx
    isplitl [HO]; · iexact HO
    iexact Hin1
  iintro %_ ⟨HO, Hgot1, Hp1⟩
  unfold agGot
  icases Hgot0 with ⟨HL0, HR0⟩
  icases Hgot1 with ⟨HL1, HR1⟩
  unfold cpT
  iapply (does_seq (does_agOut B K c 0 14 _ 13 _ rfl 0 (above_zero _))) $$ [HO HR0 Hr0 Hc0 Hcp0 Hov0 Ho0]
  · isplitr; · iexact Hctx
    isplitl [HO]; · iexact HO
    isplitl [HR0]; · unfold agR; iexact HR0
    isplitl [Hr0]; · iexact Hr0
    isplitl [Hc0]; · iexact Hc0
    isplitl [Hcp0]; · iexact Hcp0
    isplitl [Hov0]; · iexact Hov0
    iexact Ho0
  iintro %_ ⟨HO, HR0, Hr0, Hcp0, Hov0, Hd0⟩
  iapply (does_seq (does_outWait B K c 0 15 14 (by decide) _ rfl 0 (above_zero _))) $$ [HO Hov0]
  · isplitr; · iexact Hctx
    isplitl [HO]; · iexact HO
    iexact Hov0
  iintro %_ ⟨HO, Hv0, He0, Hov0⟩
  iapply (does_seq (does_agOut B K c 1 14 _ 13 _ rfl 0 (above_zero _))) $$ [HO HR1 Hr1 Hc1 Hcp1 Hov1 Ho1]
  · isplitr; · iexact Hctx
    isplitl [HO]; · iexact HO
    isplitl [HR1]; · unfold agR; iexact HR1
    isplitl [Hr1]; · iexact Hr1
    isplitl [Hc1]; · iexact Hc1
    isplitl [Hcp1]; · iexact Hcp1
    isplitl [Hov1]; · iexact Hov1
    iexact Ho1
  iintro %_ ⟨HO, HR1, Hr1, Hcp1, Hov1, Hd1⟩
  iapply (does_outWait B K c 1 15 14 (by decide) _ rfl 0 (above_zero _) Q) $$ [HO Hov1]
  · isplitr; · iexact Hctx
    isplitl [HO]; · iexact HO
    iexact Hov1
  iintro %_ ⟨HO, Hv1, He1, Hov1⟩
  iapply HQ
  unfold agLastD agL
  isplitl [HO]; · iexact HO
  isplitl [Hf0 Hg0 Hr0 Hcp0 Hv0 Hov0 Hp0 HL0 HR0 Hd0 He0]
  · isplitl [Hf0]; · iexact Hf0
    isplitl [Hg0]; · iexact Hg0
    isplitl [Hr0]; · iexact Hr0
    isplitl [Hcp0]; · iexact Hcp0
    isplitl [Hv0]; · iexact Hv0
    isplitl [Hov0]; · iexact Hov0
    isplitl [Hp0]; · iexact Hp0
    isplitl [HL0]; · iexact HL0
    isplitl [HR0]; · iexact HR0
    isplitl [Hd0]; · iexact Hd0
    unfold ovDone; iexact He0
  · isplitl [Hf1]; · iexact Hf1
    isplitl [Hg1]; · iexact Hg1
    isplitl [Hr1]; · iexact Hr1
    isplitl [Hcp1]; · iexact Hcp1
    isplitl [Hv1]; · iexact Hv1
    isplitl [Hov1]; · iexact Hov1
    isplitl [Hp1]; · iexact Hp1
    isplitl [HL1]; · iexact HL1
    isplitl [HR1]; · iexact HR1
    isplitl [Hd1]; · iexact Hd1
    unfold ovDone; iexact He1

set_option maxHeartbeats 1000000 in
theorem does_agPhase (c : Dev nD) :
    Does c iprop(ctx B K ∗ ows c (ow c 15) ∗ agStartD B c 0 ∗ agStartD B c 1) (agPhase (pars c))
      (fun _ => iprop(ows (F := F) c 0 ∗ agEndD B c 0 ∗ agEndD B c 1)) := fun Q => by
  rw [agPhase_eq]
  iintro ⟨#Hctx, HO, Hs0, Hs1⟩ HQ
  iapply (does_seq (does_agHead B K c)) $$ [HO Hs0 Hs1]
  · isplitr; · iexact Hctx
    isplitl [HO]; · iexact HO
    isplitl [Hs0]; · iexact Hs0
    iexact Hs1
  unfold agMidD
  iintro %_ ⟨HO, ⟨HC0, HF0, HX0, ⟨HpA0, HpB0⟩, ⟨HRA0, HRB0⟩, ⟨HdA0, HdB0⟩, Hz0⟩, ⟨HC1, HF1, HX1, ⟨HpA1, HpB1⟩, ⟨HRA1, HRB1⟩, ⟨HdA1, HdB1⟩, Hz1⟩⟩
  iapply (does_seq (does_steps B K (agStep (pars c)) (agCore (F := F) c) (fun s => iprop(agFuelD c 0 s ∗ agFuelD c 1 s))
    (fun s => iprop(agAshD B c 0 s ∗ agAshD B c 1 s)) (does_agStep B K c) 12 0 _)) $$ [HO HC0 HC1 HF0 HF1]
  · isplitr; · iexact Hctx
    isplitl [HO HC0 HC1]
    · unfold agCore
      isplitl [HO]; · iexact HO
      isplitl [HC0]; · iexact HC0
      iexact HC1
    iapply (rest_zip (agFuelD (F := F) c 0) (agFuelD c 1) 12 0)
    isplitl [HF0]; · iexact HF0
    iexact HF1
  iintro %_ ⟨HC, Ha⟩
  ihave Ha := (rest_unzip (agAshD B c 0) (agAshD B c 1) 12 0) $$ Ha
  icases Ha with ⟨Ha0, Ha1⟩
  ihave Ha0 := (ag_ash B c 0) $$ Ha0
  ihave Ha1 := (ag_ash B c 1) $$ Ha1
  icases Ha0 with ⟨Hq0, HR0, HL0, Hd0⟩
  icases Ha1 with ⟨Hq1, HR1, HL1, Hd1⟩
  ihave HC := (show agCore (F := F) c (0 + 12) ⊢ iprop(ows c 0 ∗ agCoreD c 0 12 ∗ agCoreD c 1 12) from .rfl) $$ HC
  icases HC with ⟨HO, HC0, HC1⟩
  iapply (does_agLast B K c Q) $$ [HO HC0 HX0 HC1 HX1]
  · isplitr; · iexact Hctx
    isplitl [HO]; · iexact HO
    unfold agTailD
    isplitl [HC0 HX0]
    · isplitl [HC0]; · iexact HC0
      iexact HX0
    · isplitl [HC1]; · iexact HC1
      iexact HX1
  unfold agLastD
  iintro %_ ⟨HO, ⟨Hf0, Hg0, Hr0, Hcp0, Hv0, Hov0, Hp0, HLC0, HRC0, ⟨HdC0, HdD0⟩⟩, ⟨Hf1, Hg1, Hr1, Hcp1, Hv1, Hov1, Hp1, HLC1, HRC1, ⟨HdC1, HdD1⟩⟩⟩
  iapply HQ
  unfold agEndD
  isplitl [HO]; · iexact HO
  isplitl [HpA0 HpB0 Hq0 Hp0 HRA0 HRB0 HR0 HRC0 HL0 HLC0 Hf0 Hg0 Hz0 Hr0 Hcp0 Hv0 Hov0 HdA0 HdB0 Hd0 HdC0 HdD0]
  · isplitl [HpA0 HpB0 Hq0 Hp0]
    · iapply (rest_two_snoc (fun s => pos (F := F) c (.ag 0 (ix s)) 1) 12)
      isplitl [HpA0 HpB0 Hq0]
      · isplitl [HpA0 HpB0]
        · isplitl [HpA0]; · iexact HpA0
          iexact HpB0
        iexact Hq0
      iexact Hp0
    isplitl [HRA0 HRB0 HR0 HRC0]
    · iapply (rest_two_snoc (agR B c 0) 12)
      isplitl [HRA0 HRB0 HR0]
      · isplitl [HRA0 HRB0]
        · isplitl [HRA0]; · iexact HRA0
          iexact HRB0
        iexact HR0
      iexact HRC0
    isplitl [HL0]; · iexact HL0
    isplitl [HLC0]; · iexact HLC0
    isplitl [Hf0]; · iexact Hf0
    isplitl [Hg0]; · iexact Hg0
    isplitl [Hz0]; · iexact Hz0
    isplitl [Hr0]; · iexact Hr0
    isplitl [Hcp0]; · iexact Hcp0
    isplitl [Hv0]; · iexact Hv0
    isplitl [Hov0]; · iexact Hov0
    iapply (rest_snoc (ovDone B c 0) 15 0)
    isplitl [HdA0 HdB0 Hd0 HdC0]
    · iapply (rest_two_snoc (ovDone B c 0) 12)
      isplitl [HdA0 HdB0 Hd0]
      · isplitl [HdA0 HdB0]
        · isplitl [HdA0]; · iexact HdA0
          iexact HdB0
        iexact Hd0
      iexact HdC0
    iexact HdD0
  · isplitl [HpA1 HpB1 Hq1 Hp1]
    · iapply (rest_two_snoc (fun s => pos (F := F) c (.ag 1 (ix s)) 1) 12)
      isplitl [HpA1 HpB1 Hq1]
      · isplitl [HpA1 HpB1]
        · isplitl [HpA1]; · iexact HpA1
          iexact HpB1
        iexact Hq1
      iexact Hp1
    isplitl [HRA1 HRB1 HR1 HRC1]
    · iapply (rest_two_snoc (agR B c 1) 12)
      isplitl [HRA1 HRB1 HR1]
      · isplitl [HRA1 HRB1]
        · isplitl [HRA1]; · iexact HRA1
          iexact HRB1
        iexact HR1
      iexact HRC1
    isplitl [HL1]; · iexact HL1
    isplitl [HLC1]; · iexact HLC1
    isplitl [Hf1]; · iexact Hf1
    isplitl [Hg1]; · iexact Hg1
    isplitl [Hz1]; · iexact Hz1
    isplitl [Hr1]; · iexact Hr1
    isplitl [Hcp1]; · iexact Hcp1
    isplitl [Hv1]; · iexact Hv1
    isplitl [Hov1]; · iexact Hov1
    iapply (rest_snoc (ovDone B c 1) 15 0)
    isplitl [HdA1 HdB1 Hd1 HdC1]
    · iapply (rest_two_snoc (ovDone B c 1) 12)
      isplitl [HdA1 HdB1 Hd1]
      · isplitl [HdA1 HdB1]
        · isplitl [HdA1]; · iexact HdA1
          iexact HdB1
        iexact Hd1
      iexact HdC1
    iexact HdD1

/-- The last sends' ends. -/
theorem does_drain (c : Dev nD) (d : Fin 2) :
    Does c iprop(ctx B K ∗ ows c 0 ∗ rsFly c d 14 ∗ agFly c d 14 ∗ agFly c d 13) (drain d)
      (fun _ => iprop(ows (F := F) c 0 ∗ (hasAny c (sendSlot d 0) ∗ agL B c d 13 ∗ agL B c d 12)
        ∗ (pos c (.rsS d 0) 8 ∗ pos c (.agS d 0) 8 ∗ pos c (.agS d 1) 7))) := fun Q => by
  unfold drain agL
  iintro ⟨#Hctx, HO, H1, H2, H3⟩ HQ
  iapply (does_seq (show Does c _ (rsWaitSend d 14) _ from does_rsWaitSend B K c d 14 (by decide) 0 (above_zero _))) $$ [HO H1]
  · isplitr; · iexact Hctx
    isplitl [HO]; · iexact HO
    iexact H1
  iintro %_ ⟨HO, H1, P1⟩
  iapply (does_seq (does_agWaitSend B K c d 13 _ 0 (above_zero _))) $$ [HO H2]
  · isplitr; · iexact Hctx
    isplitl [HO]; · iexact HO
    iexact H2
  iintro %_ ⟨HO, H2, P2⟩
  iapply (does_agWaitSend B K c d 12 _ 0 (above_zero _) Q) $$ [HO H3]
  · isplitr; · iexact Hctx
    isplitl [HO]; · iexact HO
    iexact H3
  iintro %_ ⟨HO, H3, P3⟩
  iapply HQ
  isplitl [HO]; · iexact HO
  isplitl [H1 H2 H3]
  · isplitl [H1]; · iexact H1
    isplitl [H2]; · iexact H2
    iexact H3
  isplitl [P1]; · iexact P1
  isplitl [P2]; · iexact P2
  iexact P3

/-! ## The whole run -/

/-- What a device starts with, in one direction, besides its own slots of the ring. -/
def startD (c : Dev nD) (d : Fin 2) : sProp 𝕄 :=
  iprop((hasAny (F := F) c (sendSlot d 0) ∗ hasAny c (sendSlot d 1) ∗ hasAny c (recvSlot d) ∗ hasAny c (ovSlot d))
    ∗ (pos c (.cp d) 0 ∗ pos c (.ov d) 0 ∗ pos c (.rsS d 0) 0 ∗ pos c (.rsS d 1) 0 ∗ pos c (.agS d 0) 0 ∗ pos c (.agS d 1) 0)
    ∗ (rest (agIn (F := F) c d) 15 0 ∗ rest (agIn' c d) 15 0)
    ∗ (rest (rsST c d) 15 0 ∗ rest (rsT c d) 15 0 ∗ rest (agST c d) 15 0 ∗ rest (agT c d) 15 0 ∗ rest (cpT c d) 30 0)
    ∗ rest (ovF c d) 16 0)
where
  /-- The reduce-scatter's landings. -/
  agIn' (c : Dev nD) (d : Fin 2) (s : ℕ) : sProp 𝕄 := iprop(crd (F := F) c (.rs d (ix s)) ∗ pos c (.rs d (ix s)) 0)

/-- What is left at the end, in one direction: every cell at its last round, every buffer back, the rows of the result written. -/
def finD (c : Dev nD) (d : Fin 2) : sProp 𝕄 :=
  iprop((hasAny (F := F) c (sendSlot d 0) ∗ hasAny c (sendSlot d 1) ∗ hasAny c (recvSlot d) ∗ hasAny c (ovSlot d))
    ∗ (pos c (.cp d) 30 ∗ pos c (.ov d) 16 ∗ pos c (.rsS d 0) 8 ∗ pos c (.rsS d 1) 7 ∗ pos c (.agS d 0) 8 ∗ pos c (.agS d 1) 7)
    ∗ (rest (fun s => pos c (.rs d (ix s)) 1) 15 0 ∗ rest (fun s => pos c (.ag d (ix s)) 1) 15 0)
    ∗ (rest (fun s => hasAny c (rsSlot d (ix s))) 15 0 ∗ rest (fun s => hasAny c (agSlot d (ix s))) 15 0)
    ∗ rest (ovDone B c d) 16 0)

theorem start_split (c : Dev nD) (d : Fin 2) :
    startD c d ⊢ iprop(rsStartD (F := F) c d ∗ (rest (agIn c d) 15 0 ∗ rest (agST c d) 15 0 ∗ rest (agT c d) 15 0 ∗ rest (cpT c d) 15 15 ∗ rest (ovF c d) 15 1
      ∗ (pos c (.agS d 0) 0 ∗ pos c (.agS d 1) 0))) := by
  unfold startD rsStartD
  iintro ⟨Hm, ⟨P1, P2, P3, P4, P5, P6⟩, ⟨Hi, Hi'⟩, ⟨T1, T2, T3, T4, T5⟩, Ho⟩
  ihave T5 := (rest_app (cpT (F := F) c d) 15 15 0) $$ T5
  icases T5 with ⟨T5, T6⟩
  ihave Ho := (show rest (ovF (F := F) c d) 16 0 ⊢ iprop(ovF c d 0 ∗ rest (ovF c d) 15 1) from .rfl) $$ Ho
  icases Ho with ⟨Ho, Hos⟩
  isplitl [Hm P1 P2 P3 P4 Hi' T1 T2 T5 Ho]
  · isplitl [Hm]; · iexact Hm
    isplitl [P1 P2 P3 P4]
    · isplitl [P1]; · iexact P1
      isplitl [P2]; · iexact P2
      isplitl [P3]; · iexact P3
      iexact P4
    isplitl [Hi' T5]
    · iapply (show iprop(rest (startD.agIn' (F := F) c d) 15 0 ∗ rest (cpT c d) 15 0) ⊢ rest (rsIn c d) 15 0 from
        BIBase.Entails.trans (rest_zip _ _ 15 0) (rest_mono 15 0 fun s _ _ => by
          unfold startD.agIn' rsIn cpT
          iintro ⟨⟨H1, H2⟩, H3⟩
          iframe H1 H2 H3))
      isplitl [Hi']; · iexact Hi'
      iexact T5
    isplitl [T1]; · iexact T1
    isplitl [T2]; · iexact T2
    iexact Ho
  isplitl [Hi]; · iexact Hi
  isplitl [T3]; · iexact T3
  isplitl [T4]; · iexact T4
  isplitl [T6]; · iexact T6
  isplitl [Hos]; · iexact Hos
  isplitl [P5]; · iexact P5
  iexact P6

theorem mid_join (c : Dev nD) (d : Fin 2) :
    iprop(rsEndD B c d ∗ (rest (agIn c d) 15 0 ∗ rest (agST c d) 15 0 ∗ rest (agT c d) 15 0 ∗ rest (cpT c d) 15 15 ∗ rest (ovF c d) 15 1
      ∗ (pos c (.agS d 0) 0 ∗ pos c (.agS d 1) 0))) ⊢ iprop(agStartD B c d ∗ (rest (rsOut (F := F) c d) 15 0 ∗ pos c (.rsS d 1) 7 ∗ rsFly c d 14)) := by
  unfold rsEndD agStartD
  iintro ⟨⟨H1, H2, H3, H4, H5, H6, H7, H8⟩, ⟨Hi, T3, T4, T6, Hos, P5⟩⟩
  ihave HF := (ag_arm c d) $$ [T3 T4 H8]
  · isplitl [T3]; · iexact T3
    isplitl [T4]; · iexact T4
    iexact H8
  isplitr [H1 H6 H7]
  · isplitl [Hi]; · iexact Hi
    isplitl [HF]; · iexact HF
    isplitl [T6]; · iexact T6
    isplitl [Hos]; · iexact Hos
    isplitl [P5]; · iexact P5
    isplitl [H5]; · iexact H5
    isplitl [H2]; · iexact H2
    isplitl [H3]; · iexact H3
    iexact H4
  isplitl [H1]; · iexact H1
  isplitl [H6]; · iexact H6
  iexact H7

theorem fin_join (c : Dev nD) (d : Fin 2) :
    iprop((rest (fun s => pos (F := F) c (.ag d (ix s)) 1) 15 0 ∗ rest (agR B c d) 15 0 ∗ rest (agL B c d) 12 0 ∗ agL B c d 14
        ∗ hasAny c (sendSlot d 1) ∗ hasAny c (recvSlot d) ∗ pos c (.cp d) 30 ∗ hasAny c (ovSlot d) ∗ pos c (.ov d) 16
        ∗ rest (ovDone B c d) 16 0)
      ∗ (rest (rsOut (F := F) c d) 15 0 ∗ pos c (.rsS d 1) 7)
      ∗ ((hasAny c (sendSlot d 0) ∗ agL B c d 13 ∗ agL B c d 12)
        ∗ (pos c (.rsS d 0) 8 ∗ pos c (.agS d 0) 8 ∗ pos c (.agS d 1) 7))) ⊢ finD B c d := by
  unfold finD
  iintro ⟨⟨H1, H2, H3, H4, H5, H6, H7, H8, H9, H10⟩, ⟨Hr, Q1⟩, ⟨⟨S0, L13, L12⟩, ⟨Q2, Q3, Q4⟩⟩⟩
  ihave Hr := (rest_unzip (fun s => hasAny (F := F) c (rsSlot d (ix s))) (fun s => pos c (.rs d (ix s)) 1) 15 0) $$ [Hr]
  · iapply (show rest (rsOut (F := F) c d) 15 0 ⊢ rest (fun s => iprop(hasAny (F := F) c (rsSlot d (ix s)) ∗ pos c (.rs d (ix s)) 1)) 15 0 from .rfl)
    iexact Hr
  icases Hr with ⟨Hr, Hrp⟩
  isplitl [S0 H5 H6 H8]
  · isplitl [S0]; · iexact S0
    isplitl [H5]; · iexact H5
    isplitl [H6]; · iexact H6
    iexact H8
  isplitl [H7 H9 Q1 Q2 Q3 Q4]
  · isplitl [H7]; · iexact H7
    isplitl [H9]; · iexact H9
    isplitl [Q2]; · iexact Q2
    isplitl [Q1]; · iexact Q1
    isplitl [Q3]; · iexact Q3
    iexact Q4
  isplitl [Hrp H1]
  · isplitl [Hrp]; · iexact Hrp
    iexact H1
  isplitr [H10]; swap; · iexact H10
  isplitl [Hr]; · iexact Hr
  ihave L := (rest_snoc (agL B c d) 12 0) $$ [H3 L12]
  · isplitl [H3]; · iexact H3
    iexact L12
  ihave L := (rest_snoc (agL B c d) 13 0) $$ [L L13]
  · isplitl [L]; · iexact L
    iexact L13
  ihave L := (rest_snoc (agL B c d) 14 0) $$ [L H4]
  · isplitl [L]; · iexact L
    iexact H4
  ihave L := (rest_zip (agL B c d) (agR B c d) 15 0) $$ [L H2]
  · isplitl [L]; · iexact L
    iexact H2
  iapply (show rest (fun s => iprop(agL B c d s ∗ agR B c d s)) 15 0 ⊢ rest (fun s => hasAny (F := F) c (agSlot d (ix s))) 15 0 from
    rest_mono 15 0 fun s _ _ => BIBase.Entails.trans (show iprop(agL B c d s ∗ agR B c d s) ⊢ agGot B c d s from .rfl) (agGot_join B c d s))
  iexact L

/-- What a device's run needs of the barrier. -/
def barS (c : Dev nD) : sProp 𝕄 :=
  iprop((cred (tallyAt (cell c .bar) () 2) ∗ pos (F := F) c .bar 0) ∗ bt c 0 ∗ bt c 1 ∗ slots c 0 ∗ slots c 1)

set_option maxHeartbeats 1000000 in
theorem does_run (c : Dev nD) :
    Does c iprop(ctx B K ∗ ows c (O₀ c) ∗ ins B c ∗ barS c ∗ startD c 0 ∗ startD c 1) (run (pars c))
      (fun _ => iprop(ows (F := F) c 0 ∗ ins B c ∗ pos c .bar 1 ∗ finD B c 0 ∗ finD B c 1)) := fun Q => by
  unfold run barS
  iintro ⟨#Hctx, HO, Hi, Hb, Hs0, Hs1⟩ HQ
  ihave Hs0 := (start_split c 0) $$ Hs0
  ihave Hs1 := (start_split c 1) $$ Hs1
  icases Hs0 with ⟨Hs0, Hk0⟩
  icases Hs1 with ⟨Hs1, Hk1⟩
  iapply (does_seq (does_rsPhase B K c)) $$ [HO Hi Hb Hs0 Hs1]
  · isplitr; · iexact Hctx
    isplitl [HO]; · iexact HO
    isplitl [Hi]; · iexact Hi
    isplitl [Hb]; · iexact Hb
    isplitl [Hs0]; · iexact Hs0
    iexact Hs1
  iintro %_ ⟨HO, Hi, Hb, He0, He1⟩
  ihave Hm0 := (mid_join B c 0) $$ [He0 Hk0]
  · isplitl [He0]; · iexact He0
    iexact Hk0
  ihave Hm1 := (mid_join B c 1) $$ [He1 Hk1]
  · isplitl [He1]; · iexact He1
    iexact Hk1
  icases Hm0 with ⟨Hs0, Hr0, Hq0, Hf0⟩
  icases Hm1 with ⟨Hs1, Hr1, Hq1, Hf1⟩
  iapply (does_seq (does_agPhase B K c)) $$ [HO Hs0 Hs1]
  · isplitr; · iexact Hctx
    isplitl [HO]; · iexact HO
    isplitl [Hs0]; · iexact Hs0
    iexact Hs1
  unfold agEndD
  iintro %_ ⟨HO, ⟨A1, A2, A3, A4, A5, A6, A7, A8, A9, A10, A11, A12⟩, ⟨B1, B2, B3, B4, B5, B6, B7, B8, B9, B10, B11, B12⟩⟩
  iapply (does_seq (does_drain B K c 0)) $$ [HO Hf0 A5 A6]
  · isplitr; · iexact Hctx
    isplitl [HO]; · iexact HO
    isplitl [Hf0]; · iexact Hf0
    isplitl [A6]; · iexact A6
    iexact A5
  iintro %_ ⟨HO, Hd0⟩
  iapply (does_drain B K c 1 Q) $$ [HO Hf1 B5 B6]
  · isplitr; · iexact Hctx
    isplitl [HO]; · iexact HO
    isplitl [Hf1]; · iexact Hf1
    isplitl [B6]; · iexact B6
    iexact B5
  iintro %_ ⟨HO, Hd1⟩
  iapply HQ
  isplitl [HO]; · iexact HO
  isplitl [Hi]; · iexact Hi
  isplitl [Hb]; · iexact Hb
  isplitl [A1 A2 A3 A4 A7 A8 A9 A10 A11 A12 Hr0 Hq0 Hd0]
  · iapply (fin_join B c 0)
    isplitl [A1 A2 A3 A4 A7 A8 A9 A10 A11 A12]
    · iframe A1 A2 A3 A4 A7 A8 A9 A10 A11 A12
    isplitl [Hr0 Hq0]
    · isplitl [Hr0]; · iexact Hr0
      iexact Hq0
    iexact Hd0
  · iapply (fin_join B c 1)
    isplitl [B1 B2 B3 B4 B7 B8 B9 B10 B11 B12]
    · iframe B1 B2 B3 B4 B7 B8 B9 B10 B11 B12
    isplitl [Hr1 Hq1]
    · isplitl [Hr1]; · iexact Hr1
      iexact Hq1
    iexact Hd1

/-! ## The body -/

/-- A word of scalar memory. -/
theorem does_word (c : Dev nD) {s : Shape} {e : EltTy} (m : Memref sig .tc .smem s e) (r : Rect s) (h1 : r.shape.numel = 1) (hp : e.packing = 1)
    (q : PosShare TreeShare) (X : s.Idx → Elt F e) :
    Does c (hasQ q c m X) (smemLoad m r h1 hp : KProg F (Elt F e))
      (fun v => iprop(⌜v = X (r.emb (Shape.Idx.first (h1.symm ▸ Nat.one_pos)))⌝ ∗ hasQ q c m X)) := fun Q => by
  unfold hasQ owns smemLoad smemLoadElt
  iintro ⟨%f, %hX, Hs⟩ HQ
  iapply (wp_load_rect 𝒱₀ (c : Thread nD τ) none Set.univ (View.set_slice_subset m.view r)) $$ [Hs]
  · iexact Hs
  iintro Hs
  rw [wp_ret]
  imodintro
  iapply HQ
  isplitr; · ipureintro; rw [← hX]; rfl
  iexists f; isplitr; · ipureintro; exact hX
  iexact Hs

/-- What is checked of a word. -/
theorem does_assume (c : Dev nD) (P : Prop) (dec : Decidable P) (h : P) :
    Does c iprop(emp) (Prog.lift (TpuEff.assume P dec) : KProg F (PLift P)) (fun _ => iprop(emp)) := fun Q => by
  iintro - HQ
  iapply (wp_assume 𝒱₀ (c : Thread nD τ) none Set.univ h)
  rw [wp_ret]
  imodintro
  iapply HQ
  iempintro

/-- An entry of the table. -/
def at4 (j : Fin 4) : S4.Idx := fun a => Fin.cast (by fin_cases a; rfl) j
/-- The words the device's table holds. -/
def words (c : Dev nD) (X : S4.Idx → Elt F .i32) : Prop :=
  X (at4 0) = w0 c ∧ X (at4 1) = w1 c ∧ X (at4 2) = w2 c ∧ X (at4 3) = w3 c

theorem does_run_words (c : Dev nD) :
    Does c iprop(ctx B K ∗ ows c (O₀ c) ∗ ins B c ∗ barS c ∗ startD c 0 ∗ startD c 1)
      (run (params (w0 c) (w1 c) (w2 c) (w3 c) (chk1 c) (chk2 c) (chk3 c) (chk4 c)))
      (fun _ => iprop(ows (F := F) c 0 ∗ ins B c ∗ pos c .bar 1 ∗ finD B c 0 ∗ finD B c 1)) := does_run B K c

theorem does_body (c : Dev nD) (q : PosShare TreeShare) (X : S4.Idx → Elt F .i32) (hX : words c X) :
    Does c iprop(ctx B K ∗ hasQ q c metaM X ∗ ows c (O₀ c) ∗ ins B c ∗ barS c ∗ startD c 0 ∗ startD c 1) body
      (fun _ => iprop(hasQ q c metaM X ∗ ows (F := F) c 0 ∗ ins B c ∗ pos c .bar 1 ∗ finD B c 0 ∗ finD B c 1)) := fun Q => by
  obtain ⟨e0, e1, e2, e3⟩ := hX
  unfold body
  iintro ⟨#Hctx, Hm, HR⟩ HQ
  iapply (does_seq (does_word c metaM _ _ _ q X)) $$ [Hm]; · iexact Hm
  iintro %v0 ⟨%h0, Hm⟩
  have h0 : v0 = w0 c := h0.trans ((congrArg X (funext fun a => by fin_cases a; rfl)).trans e0)
  subst h0
  iapply (does_seq (does_assume c _ _ (chk1 c))); · iempintro
  iintro %_ -
  iapply (does_seq (does_word c metaM _ _ _ q X)) $$ [Hm]; · iexact Hm
  iintro %v1 ⟨%h1, Hm⟩
  have h1 : v1 = w1 c := h1.trans ((congrArg X (funext fun a => by fin_cases a; rfl)).trans e1)
  subst h1
  iapply (does_seq (does_assume c _ _ (chk2 c))); · iempintro
  iintro %_ -
  iapply (does_seq (does_word c metaM _ _ _ q X)) $$ [Hm]; · iexact Hm
  iintro %v2 ⟨%h2, Hm⟩
  have h2 : v2 = w2 c := h2.trans ((congrArg X (funext fun a => by fin_cases a; rfl)).trans e2)
  subst h2
  iapply (does_seq (does_assume c _ _ (chk3 c))); · iempintro
  iintro %_ -
  iapply (does_seq (does_word c metaM _ _ _ q X)) $$ [Hm]; · iexact Hm
  iintro %v3 ⟨%h3, Hm⟩
  have h3 : v3 = w3 c := h3.trans ((congrArg X (funext fun a => by fin_cases a; rfl)).trans e3)
  subst h3
  iapply (does_seq (does_assume c _ _ (chk4 c))); · iempintro
  iintro %_ -
  iapply (does_run_words B K c Q) $$ [HR]
  · isplitr; · iexact Hctx
    iexact HR
  iintro %_ HR
  iapply HQ
  isplitl [Hm]; · iexact Hm
  iexact HR

end Cert.Bidir

end
-- ==== Proof.Bufs.lean ====
/-
  Whole buffers and their slots: a buffer at any contents is its slots at any contents, and back.
-/
module

public import proofs.«01_k».proof.Proof.Run
public import Idealize.SL.ProofMode.BigOp

@[expose] public section

noncomputable section

namespace Cert.Bidir

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- Elements held, at some contents, are read through a view of exactly these. -/
theorem any_of {sp : Space} {sh : Shape} {e : EltTy} (c : Dev nD) (m : Memref sig .tc sp sh e) (f : m.view.ty.Contents (Elt F)) :
    (m.view.loc (c : Thread nD τ) ↦[m.view.set]{fullShare} f : sProp 𝕄) ⊢ hasAny (F := F) c m := by
  unfold hasAny has hasQ owns
  iintro H
  iexists (m.view.read (Elt F) f); iexists f
  isplitr; · ipureintro; rfl
  iexact H

theorem any_intro {sp : Space} {sh : Shape} {e : EltTy} (c : Dev nD) (m : Memref sig .tc sp sh e) (X : sh.Idx → Elt F e) :
    has (F := F) c m X ⊢ hasAny (F := F) c m := by
  unfold hasAny
  iintro H
  iexists X; iexact H

theorem any_squeeze {sp : Space} {s s' : Shape} {e : EltTy} (c : Dev nD) (m : Memref sig .tc sp s e) (hq : s.Squeezes s') :
    hasAny (F := F) c m ⊢ hasAny c (m.squeeze s' hq) := by
  refine BIBase.Entails.trans ?_ (exists_elim fun f => any_of c (m.squeeze s' hq) f)
  unfold hasAny has hasQ owns
  iintro ⟨%X, %f, -, H⟩
  iexists f
  rw [show (m.squeeze s' hq).view.set = m.view.set from View.set_reshape m.view hq.numel_eq]
  iexact H

theorem any_unsqueeze {sp : Space} {s s' : Shape} {e : EltTy} (c : Dev nD) (m : Memref sig .tc sp s e) (hq : s.Squeezes s') :
    hasAny (F := F) c (m.squeeze s' hq) ⊢ hasAny c m := by
  refine BIBase.Entails.trans ?_ (exists_elim fun f => any_of c m f)
  unfold hasAny has hasQ owns
  iintro ⟨%X, %f, -, H⟩
  iexists f
  rw [show m.view.set = (m.squeeze s' hq).view.set from (View.set_reshape m.view hq.numel_eq).symm]
  iexact H

/-- Disjoint elements of a buffer, each part at some contents, are all at some contents. -/
theorem cells_join {T : Type} [Fintype T] [DecidableEq T] (ℓ : Loc nD τ sig) (K : T → Finset (Idx ℓ))
    (hdv : ∀ t t', t ≠ t' → Disjoint (K t) (K t')) (t₀ : T) :
    bigSep Finset.univ (fun t => iprop(∃ f : Buf (Elt F) ℓ, ℓ ↦[K t]{fullShare} f : sProp 𝕄))
      ⊢ iprop(∃ f : Buf (Elt F) ℓ, ℓ ↦[Finset.univ.biUnion K]{fullShare} f) := by
  by_cases hne : Nonempty (Buf (Elt F) ℓ)
  · have h2 (fs : T → Buf (Elt F) ℓ) : bigSep Finset.univ (fun t => (ℓ ↦[K t]{fullShare} fs t : sProp 𝕄))
        ⊢ iprop(∃ f : Buf (Elt F) ℓ, ℓ ↦[Finset.univ.biUnion K]{fullShare} f) := by
      refine (pointsTo_biUnion_join Finset.univ K fs (Classical.choice hne) fun t _ t' _ => hdv t t').trans ?_
      iintro ⟨%g, -, H⟩
      iexists g; iexact H
    exact (bigSep_exists_pi _ _).trans (exists_elim h2)
  · rw [bigSep_univ_at (fun t => iprop(∃ f : Buf (Elt F) ℓ, ℓ ↦[K t]{fullShare} f : sProp 𝕄)) t₀]
    iintro ⟨⟨%f, -⟩, -⟩
    exact absurd ⟨f⟩ hne

section Family

variable {T : Type} [Fintype T] [DecidableEq T] {sp : Space} {sh : Shape} {e : EltTy} (c : Dev nD) (m : Memref sig .tc sp sh e)
  (r : T → Rect sh) (hr : ∀ t a, (r t).stride a = 1) (hd : ∀ t t', t ≠ t' → Disjoint (r t).set (r t').set)
  (hcov : (Finset.univ : Finset T).biUnion (fun t => (r t).set) = Finset.univ)
include hd hcov

theorem any_split : hasAny (F := F) c m ⊢ bigSep Finset.univ fun t => hasAny c (m.slice (r t) (hr t)) := by
  have h (X : sh.Idx → Elt F e) : has (F := F) c m X ⊢ bigSep Finset.univ fun t => hasAny c (m.slice (r t) (hr t)) :=
    (owns_rects (c : Thread nD τ) m fullShare r hr hd hcov X).trans (bigSep_mono fun t _ => any_intro c (m.slice (r t) (hr t)) _)
  exact exists_elim h

omit [DecidableEq T] hd hcov [Fintype T] in
theorem any_cells (t : T) : hasAny (F := F) c (m.slice (r t) (hr t))
    ⊢ iprop(∃ f : Buf (Elt F) (m.view.loc (c : Thread nD τ)), m.view.loc (c : Thread nD τ) ↦[(m.view.slice (r t)).set]{fullShare} f) := by
  unfold hasAny has hasQ owns
  iintro ⟨%X, %f, -, H⟩
  iexists f; iexact H

theorem any_join (t₀ : T) : bigSep Finset.univ (fun t => hasAny (F := F) c (m.slice (r t) (hr t))) ⊢ hasAny c m := by
  have hset : (Finset.univ : Finset T).biUnion (fun t => (m.view.slice (r t)).set) = m.view.set := by
    ext i; constructor
    · intro hi
      obtain ⟨t, -, hi⟩ := Finset.mem_biUnion.mp hi
      exact View.set_slice_subset _ _ hi
    · intro hi
      rw [View.set, Finset.mem_map] at hi
      obtain ⟨x, -, rfl⟩ := hi
      obtain ⟨t, -, hx⟩ := Finset.mem_biUnion.mp (hcov.symm ▸ Finset.mem_univ x)
      exact Finset.mem_biUnion.mpr ⟨t, Finset.mem_univ _, by
        rw [View.set_slice]; exact Finset.mem_map_of_mem _ hx⟩
  have hdv : ∀ t t', t ≠ t' → Disjoint (m.view.slice (r t)).set (m.view.slice (r t')).set := fun t t' htt => by
    rw [View.set_slice, View.set_slice]; exact (Finset.disjoint_map _).mpr (hd t t' htt)
  have h1 := bigSep_mono (s := Finset.univ) fun t _ => any_cells (F := F) c m r hr t
  have h2 := cells_join (F := F) (m.view.loc (c : Thread nD τ)) (fun t => (m.view.slice (r t)).set) hdv t₀
  rw [hset] at h2
  exact h1.trans (h2.trans (exists_elim fun f => any_of c m f))

end Family

/-! ## The cuts -/

theorem rectHbm_mem {d : Fin 2} {s : Fin 15} {i : S2x15x256x4096.Idx} : i ∈ (rectHbm d s).set ↔ (i 0).val = d.val ∧ (i 1).val = s.val := by
  rw [Rect.mem_set_unit]
  have h2 := (i 2).isLt
  have h3 := (i 3).isLt
  refine ⟨fun h => ?_, fun h => ?_⟩
  · have h0 := h 0
    have h1 := h 1
    simp [S2x15x256x4096, S1x1x256x4096] at h0 h1 ⊢
    omega
  · intro a
    fin_cases a <;> simp [S2x15x256x4096, S1x1x256x4096] at h2 h3 h ⊢ <;> omega
theorem rectSend_mem {d b : Fin 2} {i : S2x2x256x4096.Idx} : i ∈ (rectSend d b).set ↔ (i 0).val = d.val ∧ (i 1).val = b.val := by
  rw [Rect.mem_set_unit]
  have h2 := (i 2).isLt
  have h3 := (i 3).isLt
  refine ⟨fun h => ?_, fun h => ?_⟩
  · have h0 := h 0
    have h1 := h 1
    simp [S2x2x256x4096, S1x1x256x4096] at h0 h1 ⊢
    omega
  · intro a
    fin_cases a <;> simp [S2x2x256x4096, S1x1x256x4096] at h2 h3 h ⊢ <;> omega
theorem rectBuf_mem {d : Fin 2} {i : S2x256x4096.Idx} : i ∈ (rectBuf d).set ↔ (i 0).val = d.val := by
  rw [Rect.mem_set_unit]
  have h1 := (i 1).isLt
  have h2 := (i 2).isLt
  refine ⟨fun h => ?_, fun h => ?_⟩
  · have h0 := h 0
    simp [S2x256x4096, S1x256x4096] at h0 ⊢
    omega
  · intro a
    fin_cases a <;> simp [S2x256x4096, S1x256x4096] at h1 h2 h ⊢ <;> omega

/-- The rows of the result that the copy out of round `r` writes. -/
abbrev rectOut (c : Dev nD) (d : Fin 2) (r : ℕ) : Rect S8192x4096 :=
  Rect.unit (s := S8192x4096) ((pars c).ooff d (ostep r)) S256x4096.size ((pars c).oinb d (ostep r) (ostep_lt r))

theorem rectOut_mem {c : Dev nD} {d : Fin 2} {r : ℕ} {i : S8192x4096.Idx} :
    i ∈ (rectOut c d r).set ↔ d.val * 4096 + chunk d c (ostep r) * 256 ≤ (i 0).val ∧ (i 0).val < d.val * 4096 + chunk d c (ostep r) * 256 + 256 := by
  rw [Rect.mem_set_unit, ooff_eq c d (ostep r) (ostep_lt r)]
  have h1 := (i 1).isLt
  refine ⟨fun h => ?_, fun h => ?_⟩
  · have h0 := h 0
    simp [S8192x4096, S256x4096] at h0 ⊢
    omega
  · intro a
    fin_cases a <;> simp [S8192x4096, S256x4096] at h1 h ⊢ <;> omega

/-! ## Whole buffers and slots -/

theorem hbm_disjoint (p p' : Fin 2 × Fin 15) (h : p ≠ p') : Disjoint (rectHbm p.1 p.2).set (rectHbm p'.1 p'.2).set :=
  Finset.disjoint_left.mpr fun i hi hi' => h (by
    rw [rectHbm_mem] at hi hi'
    exact Prod.ext (Fin.ext (hi.1.symm.trans hi'.1)) (Fin.ext (hi.2.symm.trans hi'.2)))
theorem hbm_cover : (Finset.univ : Finset (Fin 2 × Fin 15)).biUnion (fun p => (rectHbm p.1 p.2).set) = Finset.univ :=
  Finset.eq_univ_iff_forall.mpr fun i => Finset.mem_biUnion.mpr ⟨(⟨(i 0).val, (i 0).isLt⟩, ⟨(i 1).val, (i 1).isLt⟩), Finset.mem_univ _, rectHbm_mem.mpr ⟨rfl, rfl⟩⟩
theorem send_disjoint (p p' : Fin 2 × Fin 2) (h : p ≠ p') : Disjoint (rectSend p.1 p.2).set (rectSend p'.1 p'.2).set :=
  Finset.disjoint_left.mpr fun i hi hi' => h (by
    rw [rectSend_mem] at hi hi'
    exact Prod.ext (Fin.ext (hi.1.symm.trans hi'.1)) (Fin.ext (hi.2.symm.trans hi'.2)))
theorem send_cover : (Finset.univ : Finset (Fin 2 × Fin 2)).biUnion (fun p => (rectSend p.1 p.2).set) = Finset.univ :=
  Finset.eq_univ_iff_forall.mpr fun i => Finset.mem_biUnion.mpr ⟨(⟨(i 0).val, (i 0).isLt⟩, ⟨(i 1).val, (i 1).isLt⟩), Finset.mem_univ _, rectSend_mem.mpr ⟨rfl, rfl⟩⟩
theorem buf_disjoint (d d' : Fin 2) (h : d ≠ d') : Disjoint (rectBuf d).set (rectBuf d').set :=
  Finset.disjoint_left.mpr fun i hi hi' => h (by
    rw [rectBuf_mem] at hi hi'
    exact Fin.ext (hi.symm.trans hi'))
theorem buf_cover : (Finset.univ : Finset (Fin 2)).biUnion (fun d => (rectBuf d).set) = Finset.univ :=
  Finset.eq_univ_iff_forall.mpr fun i => Finset.mem_biUnion.mpr ⟨⟨(i 0).val, (i 0).isLt⟩, Finset.mem_univ _, rectBuf_mem.mpr rfl⟩

theorem chunk_lt (d : Fin 2) (c : Dev nD) (s : ℕ) : chunk d c s < 16 := by
  unfold chunk; split <;> exact Nat.mod_lt _ (by decide)
/-- The step at which a chunk is worked on is found as the chunk of a step is. -/
theorem chunk_chunk (d : Fin 2) (c : Dev nD) (s : ℕ) (hs : s < 16) : chunk d c (chunk d c s) = s := by
  have h : ∀ s : Fin 16, chunk d c (chunk d c s.val) = s.val := by revert d c; decide
  exact h ⟨s, hs⟩
theorem ostep_inj {r r' : ℕ} (hr : r < 16) (hr' : r' < 16) (h : ostep r = ostep r') : r = r' := by
  unfold ostep at h; omega

theorem out_disjoint (c : Dev nD) (p p' : Fin 2 × Fin 16) (h : p ≠ p') : Disjoint (rectOut c p.1 p.2.val).set (rectOut c p'.1 p'.2.val).set :=
  Finset.disjoint_left.mpr fun i hi hi' => h (by
    rw [rectOut_mem] at hi hi'
    have h1 := chunk_lt p.1 c (ostep p.2.val)
    have h2 := chunk_lt p'.1 c (ostep p'.2.val)
    have hd : p.1 = p'.1 := Fin.ext (by omega)
    have hk : chunk p.1 c (ostep p.2.val) = chunk p'.1 c (ostep p'.2.val) := by rw [hd] at hi h1 ⊢; omega
    rw [← hd] at hk
    have hs := congrArg (chunk p.1 c) hk
    rw [chunk_chunk _ _ _ (ostep_lt _), chunk_chunk _ _ _ (ostep_lt _)] at hs
    exact Prod.ext hd (Fin.ext (ostep_inj p.2.isLt p'.2.isLt hs)))
theorem out_cover (c : Dev nD) : (Finset.univ : Finset (Fin 2 × Fin 16)).biUnion (fun p => (rectOut c p.1 p.2.val).set) = Finset.univ :=
  Finset.eq_univ_iff_forall.mpr fun i => Finset.mem_biUnion.mpr (by
    have hi : (i 0).val < 8192 := (i 0).isLt
    let d : Fin 2 := ⟨(i 0).val / 4096, by omega⟩
    let k := (i 0).val % 4096 / 256
    have hk : k < 16 := by show (i 0).val % 4096 / 256 < 16; omega
    have hc := chunk_lt d c k
    have ho : ostep ((chunk d c k + 1) % 16) = chunk d c k := by unfold ostep; omega
    refine ⟨(d, ⟨(chunk d c k + 1) % 16, Nat.mod_lt _ (by decide)⟩), Finset.mem_univ _, rectOut_mem.mpr ?_⟩
    show d.val * 4096 + chunk d c (ostep ((chunk d c k + 1) % 16)) * 256 ≤ (i 0).val ∧ (i 0).val < d.val * 4096 + chunk d c (ostep ((chunk d c k + 1) % 16)) * 256 + 256
    rw [ho, chunk_chunk d c k hk]
    show (i 0).val / 4096 * 4096 + (i 0).val % 4096 / 256 * 256 ≤ (i 0).val ∧ (i 0).val < (i 0).val / 4096 * 4096 + (i 0).val % 4096 / 256 * 256 + 256
    omega)

theorem rs_split (c : Dev nD) : hasAny (F := F) c rsM ⊢ bigSep Finset.univ fun p : Fin 2 × Fin 15 => hasAny c (rsSlot p.1 p.2) :=
  (any_split c rsM (fun p : Fin 2 × Fin 15 => rectHbm p.1 p.2) (fun _ _ => rfl) hbm_disjoint hbm_cover).trans
    (bigSep_mono fun p _ => any_squeeze c (rsM.slice (rectHbm p.1 p.2) (fun _ => rfl)) squeezes_S1x1x256x4096_S256x4096)
theorem ag_split (c : Dev nD) : hasAny (F := F) c agM ⊢ bigSep Finset.univ fun p : Fin 2 × Fin 15 => hasAny c (agSlot p.1 p.2) :=
  (any_split c agM (fun p : Fin 2 × Fin 15 => rectHbm p.1 p.2) (fun _ _ => rfl) hbm_disjoint hbm_cover).trans
    (bigSep_mono fun p _ => any_squeeze c (agM.slice (rectHbm p.1 p.2) (fun _ => rfl)) squeezes_S1x1x256x4096_S256x4096)
theorem send_split (c : Dev nD) : hasAny (F := F) c sendM ⊢ bigSep Finset.univ fun p : Fin 2 × Fin 2 => hasAny c (sendSlot p.1 p.2) :=
  (any_split c sendM (fun p : Fin 2 × Fin 2 => rectSend p.1 p.2) (fun _ _ => rfl) send_disjoint send_cover).trans
    (bigSep_mono fun p _ => any_squeeze c (sendM.slice (rectSend p.1 p.2) (fun _ => rfl)) squeezes_S1x1x256x4096_S256x4096)
theorem send_join (c : Dev nD) : (bigSep Finset.univ fun p : Fin 2 × Fin 2 => hasAny (F := F) c (sendSlot p.1 p.2)) ⊢ hasAny c sendM :=
  (bigSep_mono fun p _ => any_unsqueeze c (sendM.slice (rectSend p.1 p.2) (fun _ => rfl)) squeezes_S1x1x256x4096_S256x4096).trans
    (any_join c sendM (fun p : Fin 2 × Fin 2 => rectSend p.1 p.2) (fun _ _ => rfl) send_disjoint send_cover (0, 0))
theorem recv_split (c : Dev nD) : hasAny (F := F) c recvM ⊢ bigSep Finset.univ fun d : Fin 2 => hasAny c (recvSlot d) :=
  (any_split c recvM rectBuf (fun _ _ => rfl) buf_disjoint buf_cover).trans
    (bigSep_mono fun d _ => any_squeeze c (recvM.slice (rectBuf d) (fun _ => rfl)) squeezes_S1x256x4096_S256x4096)
theorem recv_join (c : Dev nD) : (bigSep Finset.univ fun d : Fin 2 => hasAny (F := F) c (recvSlot d)) ⊢ hasAny c recvM :=
  (bigSep_mono fun d _ => any_unsqueeze c (recvM.slice (rectBuf d) (fun _ => rfl)) squeezes_S1x256x4096_S256x4096).trans
    (any_join c recvM rectBuf (fun _ _ => rfl) buf_disjoint buf_cover 0)
theorem ov_split (c : Dev nD) : hasAny (F := F) c ovM ⊢ bigSep Finset.univ fun d : Fin 2 => hasAny c (ovSlot d) :=
  (any_split c ovM rectBuf (fun _ _ => rfl) buf_disjoint buf_cover).trans
    (bigSep_mono fun d _ => any_squeeze c (ovM.slice (rectBuf d) (fun _ => rfl)) squeezes_S1x256x4096_S256x4096)
theorem ov_join (c : Dev nD) : (bigSep Finset.univ fun d : Fin 2 => hasAny (F := F) c (ovSlot d)) ⊢ hasAny c ovM :=
  (bigSep_mono fun d _ => any_unsqueeze c (ovM.slice (rectBuf d) (fun _ => rfl)) squeezes_S1x256x4096_S256x4096).trans
    (any_join c ovM rectBuf (fun _ _ => rfl) buf_disjoint buf_cover 0)

/-- The rows one copy out writes. -/
abbrev outRows (c : Dev nD) (d : Fin 2) (r : ℕ) : Memref sig .tc .hbm S256x4096 .f32 := (pars c).outAt d (ostep r) (ostep_lt r)

theorem out_split (c : Dev nD) : hasAny (F := F) c outM ⊢ bigSep Finset.univ fun p : Fin 2 × Fin 16 => hasAny c (outRows c p.1 p.2.val) :=
  any_split c outM (fun p : Fin 2 × Fin 16 => rectOut c p.1 p.2.val) (fun _ _ => rfl) (out_disjoint c) (out_cover c)

/-- The result a device computes: of each row, the chunk it lies in and the step that wrote it. -/
def resV (B : Blocks F) (c : Dev nD) : FVec F S8192x4096 .f32 := fun i =>
  outV B (Fin.ofNat 2 ((i 0).val / 4096)) (chunk (Fin.ofNat 2 ((i 0).val / 4096)) c ((i 0).val % 4096 / 256)) c
    (fun a => match a with
      | 0 => (Fin.ofNat 256 ((i 0).val % 256) : Fin 256)
      | 1 => (Fin.ofNat 4096 (i 1).val : Fin 4096))

theorem resV_emb (B : Blocks F) (c : Dev nD) (d : Fin 2) (r : ℕ) (j : S256x4096.Idx) :
    resV B c ((rectOut c d r).emb j) = outV B d (ostep r) c j := by
  have hk := chunk_lt d c (ostep r)
  have hj : (j 0).val < 256 := (j 0).isLt
  have hj1 : (j 1).val < 4096 := (j 1).isLt
  have h0 : (((rectOut c d r).emb j) 0).val = d.val * 4096 + chunk d c (ostep r) * 256 + (j 0).val := by
    show ((pars c).ooff d (ostep r)) 0 + 1 * (j 0).val = _
    rw [ooff_eq c d (ostep r) (ostep_lt r), Nat.one_mul]; rfl
  have h1 : (((rectOut c d r).emb j) 1).val = (j 1).val := by
    show ((pars c).ooff d (ostep r)) 1 + 1 * (j 1).val = _
    rw [ooff_eq c d (ostep r) (ostep_lt r), Nat.one_mul]; exact Nat.zero_add _
  unfold resV
  rw [h0, h1]
  have e1 : (d.val * 4096 + chunk d c (ostep r) * 256 + (j 0).val) / 4096 = d.val := by omega
  have e2 : (d.val * 4096 + chunk d c (ostep r) * 256 + (j 0).val) % 4096 / 256 = chunk d c (ostep r) := by omega
  have e3 : (d.val * 4096 + chunk d c (ostep r) * 256 + (j 0).val) % 256 = (j 0).val := by omega
  rw [e1, e2, e3, show Fin.ofNat 2 d.val = d from Fin.ext (Nat.mod_eq_of_lt d.isLt), chunk_chunk _ _ _ (ostep_lt r)]
  congr 1
  funext a
  match a with
  | 0 => exact Fin.ext (Nat.mod_eq_of_lt hj)
  | 1 => exact Fin.ext (Nat.mod_eq_of_lt hj1)

instance elt_nonempty (e : EltTy) : Nonempty (Elt F e) := by
  cases e <;> first | exact ⟨0⟩ | exact ⟨FloatOps.ofBits _ 0⟩

theorem out_join (B : Blocks F) (c : Dev nD) :
    (bigSep Finset.univ fun p : Fin 2 × Fin 16 => has (F := F) c (outRows c p.1 p.2.val) (outV B p.1 (ostep p.2.val) c)) ⊢ has c outM (resV B c) := by
  have h := owns_of_rects (Val := Elt F) (Ix := Unit) (Name := ℕ) (U := UU) (Lvl := ℕ) (c : Thread nD τ) outM fullShare
    (fun p : Fin 2 × Fin 16 => rectOut c p.1 p.2.val) (fun _ _ => rfl) (out_disjoint c) (out_cover c) (resV B c)
  refine BIBase.Entails.trans (bigSep_mono fun p _ => ?_) h
  rw [show (fun j => resV B c ((rectOut c p.1 p.2.val).emb j)) = outV B p.1 (ostep p.2.val) c from funext fun j => resV_emb B c p.1 p.2.val j]
  exact Idealize.SL.BI.Entails.refl _

end Cert.Bidir

end
-- ==== Proof.Deal.lean ====
/-
  The cells, the payment rights and the launch credit of a device, by number, and each split into what the run takes.
-/
module

public import proofs.«01_k».proof.Proof.Bufs

@[expose] public section

noncomputable section

namespace Cert.Bidir

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

section Rest

variable {M : Type} [URA M]

theorem rest_app_eq (Φ : ℕ → sProp M) (k : ℕ) : (n s : ℕ) → rest Φ (n + k) s = iprop(rest Φ n s ∗ rest Φ k (s + n))
  | 0, s => by
    rw [Nat.zero_add]
    exact (BI.equiv_iff.mp emp_sep).symm
  | n + 1, s => by
    rw [Nat.succ_add]
    show iprop(Φ s ∗ rest Φ (n + k) (s + 1)) = iprop((Φ s ∗ rest Φ n (s + 1)) ∗ rest Φ k (s + (n + 1)))
    rw [rest_app_eq Φ k n (s + 1), show s + 1 + n = s + (n + 1) by omega]
    exact (BI.equiv_iff.mp ⟨BI.sep_assoc, BI.sep_assoc'⟩).symm

theorem rest_congr {Φ Ψ : ℕ → sProp M} : (n s : ℕ) → (t : ℕ) → (∀ i, i < n → Φ (s + i) = Ψ (t + i)) → rest Φ n s = rest Ψ n t
  | 0, _, _, _ => rfl
  | n + 1, s, t, h => by
    show iprop(Φ s ∗ rest Φ n (s + 1)) = iprop(Ψ t ∗ rest Ψ n (t + 1))
    rw [show Φ s = Ψ t from h 0 (Nat.succ_pos _),
      rest_congr n (s + 1) (t + 1) fun i hi => by
        rw [Nat.add_assoc, Nat.add_assoc, Nat.add_comm 1 i]; exact h (i + 1) (Nat.succ_lt_succ hi)]

end Rest

/-! ## The cells -/

/-- The cells of a direction: the landings, then the send slots', then the copies'. -/
def kd (d : Fin 2) (n : ℕ) : Kd :=
  if n < 15 then .rs d (ix n)
  else if n < 30 then .ag d (ix (n - 15))
  else if n < 32 then .rsS d (Fin.ofNat 2 (n - 30))
  else if n < 34 then .agS d (Fin.ofNat 2 (n - 32))
  else if n = 34 then .cp d
  else .ov d

/-- The number of a cell. -/
def knum : Kd → Fin 2 × Fin 36
  | .bar => (0, 0)
  | .rs d s => (d, Fin.ofNat 36 s)
  | .ag d s => (d, Fin.ofNat 36 (15 + s))
  | .rsS d b => (d, Fin.ofNat 36 (30 + b))
  | .agS d b => (d, Fin.ofNat 36 (32 + b))
  | .cp d => (d, 34)
  | .ov d => (d, 35)

theorem knum_kd (p : Fin 2 × Fin 36) : knum (kd p.1 p.2.val) = p := by revert p; decide
theorem kd_knum (k : Kd) (h : k ≠ .bar) : kd (knum k).1 (knum k).2.val = k := by
  cases k with
  | bar => exact absurd rfl h
  | rs d s => revert d s; decide
  | ag d s => revert d s; decide
  | rsS d b => revert d b; decide
  | agS d b => revert d b; decide
  | cp d => revert d; decide
  | ov d => revert d; decide
theorem kd_ne_bar (p : Fin 2 × Fin 36) : kd p.1 p.2.val ≠ .bar := by revert p; decide

theorem kinds_eq (Φ : Kd → sProp 𝕄) (d : Fin 2) :
    rest (fun n => Φ (kd d n)) 36 0 = iprop(rest (fun s => Φ (.rs d (ix s))) 15 0 ∗ rest (fun s => Φ (.ag d (ix s))) 15 0
      ∗ Φ (.rsS d 0) ∗ Φ (.rsS d 1) ∗ Φ (.agS d 0) ∗ Φ (.agS d 1) ∗ Φ (.cp d) ∗ Φ (.ov d) ∗ emp) := by
  rw [rest_app_eq (fun n => Φ (kd d n)) 21 15 0, rest_app_eq (fun n => Φ (kd d n)) 6 15 (0 + 15)]
  rw [rest_congr (Φ := fun n => Φ (kd d n)) (Ψ := fun s => Φ (.rs d (ix s))) 15 0 0 fun i hi => by
      show Φ (kd d (0 + i)) = Φ (.rs d (ix (0 + i)))
      unfold kd; rw [if_pos (by omega)],
    rest_congr (Φ := fun n => Φ (kd d n)) (Ψ := fun s => Φ (.ag d (ix s))) 15 (0 + 15) 0 fun i hi => by
      show Φ (kd d (0 + 15 + i)) = Φ (.ag d (ix (0 + i)))
      unfold kd; rw [if_neg (by omega), if_pos (by omega), show 0 + 15 + i - 15 = 0 + i by omega]]
  rfl

/-- Every cell of a direction, as a family over the numbers. -/
theorem cells_eq (Φ : Kd → sProp 𝕄) :
    bigSep Finset.univ (fun p : Fin 2 × Fin 36 => Φ (kd p.1 p.2.val)) = iprop(rest (fun n => Φ (kd 0 n)) 36 0 ∗ rest (fun n => Φ (kd 1 n)) 36 0) := by
  rw [bigSep_univ_prod, bigSep_fin_two, ← bigSep_rest, ← bigSep_rest]
  rfl

/-- The semaphore of a number. -/
def osem (p : Fin 2 × Fin 36) : SemLoc sig := (kd p.1 p.2.val).loc
theorem osem_inj : Function.Injective osem := fun p p' h => by
  have h := congrArg knum (loc_inj h)
  rwa [knum_kd, knum_kd] at h
theorem osem_ne_bar (p : Fin 2 × Fin 36) : osem p ≠ .reg barSem := fun h => kd_ne_bar p (loc_inj h)

/-! ## The payment rights -/

/-- The payments of a direction, by number: the barrier's, the landings', the sends', the copies'. -/
def tkd (d : Fin 2) (n : ℕ) : Kd × ℕ × Fin 2 :=
  if n < 1 then (.bar, 0, rev d)
  else if n < 16 then (.rs d (ix (n - 1)), 0, 0)
  else if n < 31 then (.ag d (ix (n - 16)), 0, 0)
  else if n < 46 then (.rsS d (par (n - 31)), (n - 31) / 2, 0)
  else if n < 61 then (.agS d (par (n - 46)), (n - 46) / 2, 0)
  else if n < 91 then (.cp d, n - 61, 0)
  else (.ov d, n - 91, 0)

/-- The number of a payment. -/
def tnum : Kd × ℕ × Fin 2 → Fin 2 × Fin 107
  | (.bar, _, e) => (rev e, 0)
  | (.rs d s, _, _) => (d, Fin.ofNat 107 (1 + s))
  | (.ag d s, _, _) => (d, Fin.ofNat 107 (16 + s))
  | (.rsS d b, r, _) => (d, Fin.ofNat 107 (31 + 2 * r + b))
  | (.agS d b, r, _) => (d, Fin.ofNat 107 (46 + 2 * r + b))
  | (.cp d, r, _) => (d, Fin.ofNat 107 (61 + r))
  | (.ov d, r, _) => (d, Fin.ofNat 107 (91 + r))

theorem tnum_tkd (p : Fin 2 × Fin 107) : tnum (tkd p.1 p.2.val) = p := by revert p; decide

theorem pays_eq (Ψ : Kd → ℕ → Fin 2 → sProp 𝕄) (d : Fin 2) :
    rest (fun n => Ψ (tkd d n).1 (tkd d n).2.1 (tkd d n).2.2) 107 0
      = iprop((Ψ .bar 0 (rev d) ∗ emp) ∗ rest (fun s => Ψ (.rs d (ix s)) 0 0) 15 0 ∗ rest (fun s => Ψ (.ag d (ix s)) 0 0) 15 0
        ∗ rest (fun s => Ψ (.rsS d (par s)) (s / 2) 0) 15 0 ∗ rest (fun s => Ψ (.agS d (par s)) (s / 2) 0) 15 0
        ∗ rest (fun r => Ψ (.cp d) r 0) 30 0 ∗ rest (fun r => Ψ (.ov d) r 0) 16 0) := by
  generalize hX : (fun n => Ψ (tkd d n).1 (tkd d n).2.1 (tkd d n).2.2) = X
  have h (n : ℕ) {k : Kd} {r : ℕ} {e : Fin 2} (hn : tkd d n = (k, r, e)) : X n = Ψ k r e := by rw [← hX]; simp only [hn]
  rw [rest_app_eq X 106 1 0, rest_app_eq X 91 15 1, rest_app_eq X 76 15 16, rest_app_eq X 61 15 31, rest_app_eq X 46 15 46, rest_app_eq X 16 30 61]
  rw [rest_congr (Ψ := fun s => Ψ (.rs d (ix s)) 0 0) 15 (0 + 1) 0 fun i hi => h _ (by
      unfold tkd; rw [if_neg (by omega), if_pos (by omega), show 0 + 1 + i - 1 = 0 + i by omega]),
    rest_congr (Ψ := fun s => Ψ (.ag d (ix s)) 0 0) 15 (1 + 15) 0 fun i hi => h _ (by
      unfold tkd; rw [if_neg (by omega), if_neg (by omega), if_pos (by omega), show 1 + 15 + i - 16 = 0 + i by omega]),
    rest_congr (Ψ := fun s => Ψ (.rsS d (par s)) (s / 2) 0) 15 (16 + 15) 0 fun i hi => h _ (by
      unfold tkd; rw [if_neg (by omega), if_neg (by omega), if_neg (by omega), if_pos (by omega), show 16 + 15 + i - 31 = 0 + i by omega]),
    rest_congr (Ψ := fun s => Ψ (.agS d (par s)) (s / 2) 0) 15 (31 + 15) 0 fun i hi => h _ (by
      unfold tkd; rw [if_neg (by omega), if_neg (by omega), if_neg (by omega), if_neg (by omega), if_pos (by omega), show 31 + 15 + i - 46 = 0 + i by omega]),
    rest_congr (Ψ := fun r => Ψ (.cp d) r 0) 30 (46 + 15) 0 fun i hi => h _ (by
      unfold tkd; rw [if_neg (by omega), if_neg (by omega), if_neg (by omega), if_neg (by omega), if_neg (by omega), if_pos (by omega), show 46 + 15 + i - 61 = 0 + i by omega]),
    rest_congr (Ψ := fun r => Ψ (.ov d) r 0) 16 (61 + 30) 0 fun i hi => h _ (by
      unfold tkd; rw [if_neg (by omega), if_neg (by omega), if_neg (by omega), if_neg (by omega), if_neg (by omega), if_neg (by omega), show 61 + 30 + i - 91 = 0 + i by omega])]
  rw [show rest X 1 0 = iprop(Ψ .bar 0 (rev d) ∗ emp) from by
    show iprop(X 0 ∗ emp) = _
    rw [h 0 (k := .bar) (r := 0) (e := rev d) rfl]]

/-! ## The launch credit -/

theorem sum_tk (c : Dev nD) (k : Kd) (e : Fin 2) (j : ℕ) :
    ∑ d : Dev nD, tk d e j (cell c k) () = if k = stg e j then creditB else 0 := by
  have h (d : Dev nD) : tk d e j (cell c k) () = if d = prv e c then (if k = stg e j then creditB else 0) else 0 := by
    unfold tk
    rw [tallyAt_apply]
    by_cases hd : d = prv e c
    · subst hd
      rw [if_pos rfl, nxt_prv]
      by_cases hk : k = stg e j
      · rw [if_pos hk, if_pos ⟨by rw [hk], rfl⟩]
      · rw [if_neg hk, if_neg fun h => hk (loc_inj (congrArg Prod.snd h.1))]
    · rw [if_neg hd, if_neg fun h => hd (by
        have hc : c = nxt e d := congrArg (fun g : GSem nD τ sig => g.1.1) h.1
        rw [hc, prv_nxt])]
  rw [Finset.sum_congr rfl fun d _ => h d, Finset.sum_ite_eq' Finset.univ (prv e c) fun _ => _, if_pos (Finset.mem_univ _)]

theorem sum_bk (c : Dev nD) (k : Kd) (e : Fin 2) : ∑ d : Dev nD, bk d e (cell c k) () = if k = .bar then 1 else 0 := by
  have h (d : Dev nD) : bk d e (cell c k) () = if d = prv e c then (if k = .bar then 1 else 0) else 0 := by
    unfold bk
    rw [tallyAt_apply]
    by_cases hd : d = prv e c
    · subst hd
      rw [if_pos rfl, nxt_prv]
      by_cases hk : k = .bar
      · rw [if_pos hk, if_pos ⟨by rw [hk], rfl⟩]
      · rw [if_neg hk, if_neg fun h => hk (loc_inj (congrArg Prod.snd h.1))]
    · rw [if_neg hd, if_neg fun h => hd (by
        have hc : c = nxt e d := congrArg (fun g : GSem nD τ sig => g.1.1) h.1
        rw [hc, prv_nxt])]
  rw [Finset.sum_congr rfl fun d _ => h d, Finset.sum_ite_eq' Finset.univ (prv e c) fun _ => _, if_pos (Finset.mem_univ _)]

/-- How many of the last copies land on a cell. -/
def lands (k : Kd) : ℕ → ℕ
  | 0 => 0
  | n + 1 => lands k n + (if k = stg 1 (29 - n) then 1 else 0) + (if k = stg 0 (29 - n) then 1 else 0)

theorem sum_owed (c : Dev nD) (k : Kd) : (n : ℕ) → ∑ d : Dev nD, owed d n (cell c k) () = lands k n * creditB
  | 0 => by rw [show lands k 0 = 0 from rfl, Nat.zero_mul]; exact Finset.sum_eq_zero fun d _ => rfl
  | n + 1 => by
    have h (d : Dev nD) : owed d (n + 1) (cell c k) () = owed d n (cell c k) () + tk d 1 (29 - n) (cell c k) () + tk d 0 (29 - n) (cell c k) () := rfl
    rw [Finset.sum_congr rfl fun d _ => h d, Finset.sum_add_distrib, Finset.sum_add_distrib, sum_owed c k n, sum_tk, sum_tk]
    show _ = (lands k n + (if k = stg 1 (29 - n) then 1 else 0) + (if k = stg 0 (29 - n) then 1 else 0)) * creditB
    rw [Nat.add_mul, Nat.add_mul]
    congr 1
    · congr 1; split <;> simp
    · split <;> simp

theorem lands_rs (e : Fin 2) (s : Fin 15) : lands (.rs e s) 30 = 1 := by revert e s; decide
theorem lands_ag (e : Fin 2) (s : Fin 15) : lands (.ag e s) 30 = 1 := by revert e s; decide
theorem lands_bar : lands .bar 30 = 0 := by decide

theorem sum_O₀ (c : Dev nD) (k : Kd) : ∑ d : Dev nD, O₀ d (cell c k) () = lands k 30 * creditB + (if k = .bar then 2 else 0) := by
  have h (d : Dev nD) : O₀ d (cell c k) () = owed d 30 (cell c k) () + bk d 1 (cell c k) () + bk d 0 (cell c k) () := rfl
  rw [Finset.sum_congr rfl fun d _ => h d, Finset.sum_add_distrib, Finset.sum_add_distrib, sum_owed, sum_bk, sum_bk]
  split <;> omega

theorem launch_tally (c : Dev nD) (k : Kd) :
    tallyOn (cell c k) (launchCredit (Pipeline.owing O₀) 0 (cell c k))
      = (tallyAt (cell c k) () (lands k 30 * creditB + (if k = .bar then 2 else 0)) : CellTallies nD τ sig Unit) := by
  unfold tallyAt; refine congrArg _ (Finsupp.ext fun u => ?_); cases u
  rw [Pipeline.launchCredit_owing, Finsupp.single_eq_same, sum_O₀]

/-- The launch credit of a device's cell. -/
def lcred (c : Dev nD) (k : Kd) : sProp 𝕄 := cred (tallyAt (cell c k) () (lands k 30 * creditB + (if k = .bar then 2 else 0)))

theorem lcred_rs (c : Dev nD) (d : Fin 2) (s : Fin 15) : lcred (F := F) c (.rs d s) = crd c (.rs d s) := by
  unfold lcred; rw [lands_rs, if_neg (fun h => nomatch h), Nat.one_mul, Nat.add_zero]; rfl
theorem lcred_ag (c : Dev nD) (d : Fin 2) (s : Fin 15) : lcred (F := F) c (.ag d s) = crd c (.ag d s) := by
  unfold lcred; rw [lands_ag, if_neg (fun h => nomatch h), Nat.one_mul, Nat.add_zero]; rfl
theorem lcred_bar (c : Dev nD) : lcred (F := F) c .bar = cred (tallyAt (cell c .bar) () 2) := by
  unfold lcred; rw [lands_bar, if_pos rfl, Nat.zero_mul, Nat.zero_add]

/-- The credits of a device's landings in a direction. -/
def crds (c : Dev nD) (d : Fin 2) : sProp 𝕄 :=
  iprop(rest (fun s => crd (F := F) c (.rs d (ix s))) 15 0 ∗ rest (fun s => crd c (.ag d (ix s))) 15 0)

theorem crds_of (c : Dev nD) (d : Fin 2) : rest (fun n => lcred (F := F) c (kd d n)) 36 0 ⊢ crds c d := by
  rw [kinds_eq (lcred c) d]
  unfold crds
  iintro ⟨H1, H2, -⟩
  isplitl [H1]
  · iapply (rest_mono (Φ := fun s => lcred (F := F) c (.rs d (ix s))) 15 0 fun i _ _ => Entails.of_eq (lcred_rs c d (ix i))); iexact H1
  · iapply (rest_mono (Φ := fun s => lcred (F := F) c (.ag d (ix s))) 15 0 fun i _ _ => Entails.of_eq (lcred_ag c d (ix i))); iexact H2

theorem creds (c : Dev nD) :
    (Pipeline.launchCred O₀ c : sProp 𝕄) ⊢ iprop(cred (tallyAt (cell c .bar) () 2) ∗ crds c 0 ∗ crds c 1) := by
  have hsub : Finset.univ.map ⟨osem, osem_inj⟩ ⊆ (Finset.univ : Finset (SemLoc sig)).erase (.reg barSem) := fun sm h => by
    obtain ⟨p, -, rfl⟩ := Finset.mem_map.mp h
    exact Finset.mem_erase.mpr ⟨osem_ne_bar p, Finset.mem_univ _⟩
  unfold Pipeline.launchCred
  rw [bigSep_univ_at _ (SemLoc.reg barSem)]
  refine BIClass.sep_mono (Entails.of_eq ((congrArg cred (launch_tally c .bar)).trans (lcred_bar (F := F) c))) ?_
  refine (bigSep_subset hsub).trans ?_
  rw [bigSep_map]
  show bigSep Finset.univ (fun p : Fin 2 × Fin 36 => cred (tallyOn (cell c (kd p.1 p.2.val)) (launchCredit (Pipeline.owing O₀) 0 (cell c (kd p.1 p.2.val))))) ⊢ _
  rw [bigSep_congr (s := Finset.univ) (Ψ := fun p : Fin 2 × Fin 36 => lcred (F := F) c (kd p.1 p.2.val)) fun p _ =>
    congrArg cred (launch_tally c (kd p.1 p.2.val)), cells_eq (lcred (F := F) c)]
  exact BIClass.sep_mono (crds_of c 0) (crds_of c 1)

end Cert.Bidir

end
-- ==== Proof.Ends.lean ====
/-
  A device's two ends: what it holds at the region's entry is what its run starts from, and what its run leaves is every cell at
  its last round, the scratch buffers, and the result's buffer holding the result.
-/
module

public import proofs.«01_k».proof.Proof.Deal

@[expose] public section

noncomputable section

namespace Cert.Bidir

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem ix_val (i : Fin 15) : ix i.val = i := Fin.ext (Nat.mod_eq_of_lt i.2)

theorem pairs_eq {n : ℕ} (Φ : Fin 2 → ℕ → sProp 𝕄) :
    bigSep Finset.univ (fun p : Fin 2 × Fin n => Φ p.1 p.2.val) = iprop(rest (Φ 0) n 0 ∗ rest (Φ 1) n 0) := by
  rw [bigSep_univ_prod, bigSep_fin_two, ← bigSep_rest, ← bigSep_rest]
  rfl

theorem slots_eq (Φ : Fin 2 → Fin 15 → sProp 𝕄) :
    bigSep Finset.univ (fun p : Fin 2 × Fin 15 => Φ p.1 p.2) = iprop(rest (fun s => Φ 0 (ix s)) 15 0 ∗ rest (fun s => Φ 1 (ix s)) 15 0) := by
  rw [← pairs_eq (fun d s => Φ d (ix s))]
  exact bigSep_congr fun p _ => by rw [ix_val]

/-- What a device pays with, in a direction. -/
def toksD (c : Dev nD) (d : Fin 2) : sProp 𝕄 :=
  iprop(tok (F := F) (nxt d c) .bar 0 (rev d) ∗ rest (rsT (F := F) c d) 15 0 ∗ rest (agT (F := F) c d) 15 0 ∗ rest (rsST (F := F) c d) 15 0
    ∗ rest (agST (F := F) c d) 15 0 ∗ rest (cpT (F := F) c d) 30 0 ∗ rest (fun r => tok (F := F) c (.ov d) r 0) 16 0)

/-- A device's cells at the entry. -/
def poss (c : Dev nD) : sProp 𝕄 := bigSep Finset.univ fun p : Fin 2 × Fin 36 => pos (F := F) c (kd p.1 p.2.val) 0

/-- What a device brings to the region besides the records. -/
def entry (c : Dev nD) : sProp 𝕄 :=
  iprop((cred (tallyAt (cell c .bar) () 2) ∗ pos (F := F) c .bar 0) ∗ (rch (F := F) (nxt 0 c) .bar 0 ∗ rch (F := F) (nxt 1 c) .bar 0)
    ∗ (toksD (F := F) c 0 ∗ toksD (F := F) c 1) ∗ (crds (F := F) c 0 ∗ crds (F := F) c 1) ∗ hasAny (F := F) c rsM ∗ hasAny (F := F) c agM)

theorem pos_dup (c : Dev nD) (k : Kd) (r : ℕ) : pos (F := F) c k r ⊢ iprop(pos c k r ∗ rch c k r) := by
  unfold pos
  iintro ⟨H, #Hr⟩
  isplitl [H]
  · isplitl [H]; · iexact H
    iexact Hr
  · iexact Hr

theorem poss_dup (c : Dev nD) (k : ℕ → Kd) (n s : ℕ) :
    rest (fun i => pos (F := F) c (k i) 0) n s ⊢ iprop(rest (fun i => pos (F := F) c (k i) 0) n s ∗ rest (fun i => rch (F := F) c (k i) 0) n s) :=
  BIBase.Entails.trans (rest_mono n s fun i _ _ => pos_dup c (k i) 0) (rest_unzip _ _ n s)

theorem dir_start (c : Dev nD) (d : Fin 2) :
    iprop(rest (fun n => pos (F := F) c (kd d n) 0) 36 0 ∗ toksD (F := F) c d ∗ rch (F := F) (nxt d c) .bar 0 ∗ crds (F := F) c d
      ∗ rest (fun s => hasAny (F := F) c (rsSlot d (ix s))) 15 0 ∗ rest (fun s => hasAny (F := F) c (agSlot d (ix s))) 15 0
      ∗ (hasAny (F := F) c (sendSlot d 0) ∗ hasAny (F := F) c (sendSlot d 1) ∗ hasAny (F := F) c (recvSlot d) ∗ hasAny (F := F) c (ovSlot d))
      ∗ rest (fun r => hasAny (F := F) c (outR c d r)) 16 0)
      ⊢ iprop(bt (F := F) c d ∗ slots (F := F) c d ∗ startD (F := F) c d) := by
  rw [kinds_eq (fun k => pos (F := F) c k 0) d]
  unfold toksD crds bt slots startD
  iintro ⟨⟨Prs, Pag, P1, P2, P3, P4, P5, P6, -⟩, ⟨Tb, Trs, Tag, TrsS, TagS, Tcp, Tov⟩, Hb, ⟨Crs, Cag⟩, Mrs, Mag, Hm, Ho⟩
  ihave Prs := (poss_dup (F := F) c (fun s => .rs d (ix s)) 15 0) $$ Prs
  icases Prs with ⟨Prs, Rrs⟩
  ihave Pag := (poss_dup (F := F) c (fun s => .ag d (ix s)) 15 0) $$ Pag
  icases Pag with ⟨Pag, Rag⟩
  isplitl [Tb Hb]
  · isplitl [Tb]; · iexact Tb
    iexact Hb
  isplitl [Mrs Mag Rrs Rag]
  · iapply (rest_zip (slotR (F := F) c d) (slotA (F := F) c d) 15 0)
    isplitl [Mrs Rrs]
    · iapply (show iprop(rest (fun s => hasAny (F := F) c (rsSlot d (ix s))) 15 0 ∗ rest (fun s => rch (F := F) c (.rs d (ix s)) 0) 15 0)
        ⊢ rest (slotR (F := F) c d) 15 0 from rest_zip _ _ 15 0)
      isplitl [Mrs]; · iexact Mrs
      iexact Rrs
    · iapply (show iprop(rest (fun s => hasAny (F := F) c (agSlot d (ix s))) 15 0 ∗ rest (fun s => rch (F := F) c (.ag d (ix s)) 0) 15 0)
        ⊢ rest (slotA (F := F) c d) 15 0 from rest_zip _ _ 15 0)
      isplitl [Mag]; · iexact Mag
      iexact Rag
  isplitl [Hm]; · iexact Hm
  isplitl [P1 P2 P3 P4 P5 P6]
  · isplitl [P5]; · iexact P5
    isplitl [P6]; · iexact P6
    isplitl [P1]; · iexact P1
    isplitl [P2]; · iexact P2
    isplitl [P3]; · iexact P3
    iexact P4
  isplitl [Prs Pag Crs Cag]
  · isplitl [Pag Cag]
    · iapply (show iprop(rest (fun s => crd (F := F) c (.ag d (ix s))) 15 0 ∗ rest (fun s => pos (F := F) c (.ag d (ix s)) 0) 15 0)
        ⊢ rest (agIn (F := F) c d) 15 0 from rest_zip _ _ 15 0)
      isplitl [Cag]; · iexact Cag
      iexact Pag
    · iapply (show iprop(rest (fun s => crd (F := F) c (.rs d (ix s))) 15 0 ∗ rest (fun s => pos (F := F) c (.rs d (ix s)) 0) 15 0)
        ⊢ rest (startD.agIn' (F := F) c d) 15 0 from rest_zip _ _ 15 0)
      isplitl [Crs]; · iexact Crs
      iexact Prs
  isplitl [Trs Tag TrsS TagS Tcp]
  · isplitl [TrsS]; · iexact TrsS
    isplitl [Trs]; · iexact Trs
    isplitl [TagS]; · iexact TagS
    isplitl [Tag]; · iexact Tag
    iexact Tcp
  · iapply (show iprop(rest (fun r => hasAny (F := F) c (outR c d r)) 16 0 ∗ rest (fun r => tok (F := F) c (.ov d) r 0) 16 0)
      ⊢ rest (ovF (F := F) c d) 16 0 from rest_zip _ _ 16 0)
    isplitl [Ho]; · iexact Ho
    iexact Tov

theorem four_eq (Φ : Fin 2 → Fin 2 → sProp 𝕄) :
    bigSep Finset.univ (fun p : Fin 2 × Fin 2 => Φ p.1 p.2) = iprop((Φ 0 0 ∗ Φ 0 1) ∗ (Φ 1 0 ∗ Φ 1 1)) := by
  rw [bigSep_univ_prod, bigSep_fin_two, bigSep_fin_two, bigSep_fin_two]
  rfl

theorem rs_rows (c : Dev nD) : hasAny (F := F) c rsM
    ⊢ iprop(rest (fun s => hasAny (F := F) c (rsSlot 0 (ix s))) 15 0 ∗ rest (fun s => hasAny (F := F) c (rsSlot 1 (ix s))) 15 0) :=
  BIBase.Entails.trans (rs_split c) (Entails.of_eq (slots_eq fun d s => hasAny (F := F) c (rsSlot d s)))
theorem ag_rows (c : Dev nD) : hasAny (F := F) c agM
    ⊢ iprop(rest (fun s => hasAny (F := F) c (agSlot 0 (ix s))) 15 0 ∗ rest (fun s => hasAny (F := F) c (agSlot 1 (ix s))) 15 0) :=
  BIBase.Entails.trans (ag_split c) (Entails.of_eq (slots_eq fun d s => hasAny (F := F) c (agSlot d s)))
theorem out_rows (c : Dev nD) : hasAny (F := F) c outM
    ⊢ iprop(rest (fun r => hasAny (F := F) c (outR c 0 r)) 16 0 ∗ rest (fun r => hasAny (F := F) c (outR c 1 r)) 16 0) :=
  BIBase.Entails.trans (out_split c) (Entails.of_eq (pairs_eq (n := 16) fun d r => hasAny (F := F) c (outR c d r)))
theorem send_rows (c : Dev nD) : hasAny (F := F) c sendM
    ⊢ iprop((hasAny (F := F) c (sendSlot 0 0) ∗ hasAny (F := F) c (sendSlot 0 1)) ∗ (hasAny (F := F) c (sendSlot 1 0) ∗ hasAny (F := F) c (sendSlot 1 1))) :=
  BIBase.Entails.trans (send_split c) (Entails.of_eq (four_eq fun d b => hasAny (F := F) c (sendSlot d b)))
theorem recv_rows (c : Dev nD) : hasAny (F := F) c recvM ⊢ iprop(hasAny (F := F) c (recvSlot 0) ∗ hasAny (F := F) c (recvSlot 1)) :=
  BIBase.Entails.trans (recv_split c) (Entails.of_eq (bigSep_fin_two fun d => hasAny (F := F) c (recvSlot d)))
theorem ov_rows (c : Dev nD) : hasAny (F := F) c ovM ⊢ iprop(hasAny (F := F) c (ovSlot 0) ∗ hasAny (F := F) c (ovSlot 1)) :=
  BIBase.Entails.trans (ov_split c) (Entails.of_eq (bigSep_fin_two fun d => hasAny (F := F) c (ovSlot d)))

/-- The scratch buffers at contents not chosen. -/
def scratch (c : Dev nD) : sProp 𝕄 := iprop(hasAny (F := F) c sendM ∗ hasAny (F := F) c recvM ∗ hasAny (F := F) c ovM)

theorem start_intro (c : Dev nD) : iprop(entry (F := F) c ∗ poss (F := F) c ∗ scratch (F := F) c ∗ hasAny (F := F) c outM)
    ⊢ iprop(barS (F := F) c ∗ startD (F := F) c 0 ∗ startD (F := F) c 1) := by
  unfold entry poss scratch barS
  rw [cells_eq (fun k => pos (F := F) c k 0)]
  iintro ⟨⟨Hbar, ⟨R0, R1⟩, ⟨T0, T1⟩, ⟨C0, C1⟩, Hrs, Hag⟩, ⟨P0, P1⟩, ⟨Hs, Hv, Ho⟩, Hout⟩
  ihave Hrs := (rs_rows (F := F) c) $$ Hrs
  icases Hrs with ⟨S0, S1⟩
  ihave Hag := (ag_rows (F := F) c) $$ Hag
  icases Hag with ⟨A0, A1⟩
  ihave Hout := (out_rows (F := F) c) $$ Hout
  icases Hout with ⟨O0, O1⟩
  ihave Hs := (send_rows (F := F) c) $$ Hs
  icases Hs with ⟨⟨M0, M0'⟩, ⟨M1, M1'⟩⟩
  ihave Hv := (recv_rows (F := F) c) $$ Hv
  icases Hv with ⟨N0, N1⟩
  ihave Ho := (ov_rows (F := F) c) $$ Ho
  icases Ho with ⟨Q0, Q1⟩
  ihave D0 := (dir_start (F := F) c 0) $$ [P0 T0 R0 C0 S0 A0 M0 M0' N0 Q0 O0]
  · isplitl [P0]; · iexact P0
    isplitl [T0]; · iexact T0
    isplitl [R0]; · iexact R0
    isplitl [C0]; · iexact C0
    isplitl [S0]; · iexact S0
    isplitl [A0]; · iexact A0
    isplitl [M0 M0' N0 Q0]
    · isplitl [M0]; · iexact M0
      isplitl [M0']; · iexact M0'
      isplitl [N0]; · iexact N0
      iexact Q0
    iexact O0
  ihave D1 := (dir_start (F := F) c 1) $$ [P1 T1 R1 C1 S1 A1 M1 M1' N1 Q1 O1]
  · isplitl [P1]; · iexact P1
    isplitl [T1]; · iexact T1
    isplitl [R1]; · iexact R1
    isplitl [C1]; · iexact C1
    isplitl [S1]; · iexact S1
    isplitl [A1]; · iexact A1
    isplitl [M1 M1' N1 Q1]
    · isplitl [M1]; · iexact M1
      isplitl [M1']; · iexact M1'
      isplitl [N1]; · iexact N1
      iexact Q1
    iexact O1
  icases D0 with ⟨B0, L0, D0⟩
  icases D1 with ⟨B1, L1, D1⟩
  isplitl [Hbar B0 B1 L0 L1]
  · isplitl [Hbar]; · iexact Hbar
    isplitl [B0]; · iexact B0
    isplitl [B1]; · iexact B1
    isplitl [L0]; · iexact L0
    iexact L1
  isplitl [D0]; · iexact D0
  iexact D1

/-! ## The end -/

variable (B : Blocks F)

/-- A device's cells at their last rounds. -/
def dones (c : Dev nD) : sProp 𝕄 := bigSep Finset.univ fun p : Fin 2 × Fin 36 => pos (F := F) c (kd p.1 p.2.val) (kd p.1 p.2.val).rounds

theorem dir_end (c : Dev nD) (d : Fin 2) :
    finD B c d ⊢ iprop(rest (fun n => pos (F := F) c (kd d n) (kd d n).rounds) 36 0
      ∗ (hasAny (F := F) c (sendSlot d 0) ∗ hasAny (F := F) c (sendSlot d 1)) ∗ hasAny (F := F) c (recvSlot d) ∗ hasAny (F := F) c (ovSlot d)
      ∗ rest (ovDone B c d) 16 0) := by
  rw [kinds_eq (fun k => pos (F := F) c k k.rounds) d]
  unfold finD
  iintro ⟨⟨M0, M1, N, Q⟩, ⟨P5, P6, P1, P2, P3, P4⟩, ⟨Prs, Pag⟩, -, Ho⟩
  isplitl [Prs Pag P1 P2 P3 P4 P5 P6]
  · isplitl [Prs]; · iexact Prs
    isplitl [Pag]; · iexact Pag
    isplitl [P1]; · iexact P1
    isplitl [P2]; · iexact P2
    isplitl [P3]; · iexact P3
    isplitl [P4]; · iexact P4
    isplitl [P5]; · iexact P5
    isplitl [P6]; · iexact P6
    iempintro
  isplitl [M0 M1]
  · isplitl [M0]; · iexact M0
    iexact M1
  isplitl [N]; · iexact N
  isplitl [Q]; · iexact Q
  iexact Ho

theorem out_back (c : Dev nD) : iprop(rest (ovDone B c 0) 16 0 ∗ rest (ovDone B c 1) 16 0) ⊢ has c outM (resV B c) :=
  BIBase.Entails.trans (Entails.of_eq (pairs_eq (n := 16) (ovDone B c)).symm) (out_join B c)

theorem fin_elim (c : Dev nD) : iprop(finD B c 0 ∗ finD B c 1) ⊢ iprop(dones (F := F) c ∗ scratch (F := F) c ∗ has c outM (resV B c)) := by
  unfold dones scratch
  rw [cells_eq (fun k => pos (F := F) c k k.rounds)]
  iintro ⟨F0, F1⟩
  ihave F0 := (dir_end B c 0) $$ F0
  icases F0 with ⟨P0, M0, N0, Q0, O0⟩
  ihave F1 := (dir_end B c 1) $$ F1
  icases F1 with ⟨P1, M1, N1, Q1, O1⟩
  isplitl [P0 P1]
  · isplitl [P0]; · iexact P0
    iexact P1
  isplitl [M0 M1 N0 N1 Q0 Q1]
  · isplitl [M0 M1]
    · iapply (BIBase.Entails.trans (Entails.of_eq (four_eq fun d b => hasAny (F := F) c (sendSlot d b)).symm) (send_join c))
      isplitl [M0]; · iexact M0
      iexact M1
    isplitl [N0 N1]
    · iapply (show iprop(hasAny (F := F) c (recvSlot 0) ∗ hasAny (F := F) c (recvSlot 1)) ⊢ hasAny c recvM from
        BIBase.Entails.trans (Entails.of_eq (bigSep_fin_two fun d => hasAny (F := F) c (recvSlot d)).symm) (recv_join c))
      isplitl [N0]; · iexact N0
      iexact N1
    · iapply (show iprop(hasAny (F := F) c (ovSlot 0) ∗ hasAny (F := F) c (ovSlot 1)) ⊢ hasAny c ovM from
        BIBase.Entails.trans (Entails.of_eq (bigSep_fin_two fun d => hasAny (F := F) c (ovSlot d)).symm) (ov_join c))
      isplitl [Q0]; · iexact Q0
      iexact Q1
  · iapply (out_back B c)
    isplitl [O0]; · iexact O0
    iexact O1

end Cert.Bidir

end
-- ==== Proof.Region.lean ====
/-
  The region: the body's obligation at its one point, from the device's run, and the region's record.
-/
module

public import proofs.«01_k».proof.Proof.Ends
public import proofs.«01_k».proof.Proof.Gen.KernelIdeal.Regions
public import proofs.«01_k».proof.Proof.Gen.KernelIdeal.Points
public import Idealize.ShloMosaic.Lib.Pipeline.RegionTalk
public import Idealize.ShloMosaic.Lib.Rounds.Family

@[expose] public section

noncomputable section

namespace Cert.Bidir

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The device numbers the host computes, and the two blocks. -/
def metaV (c : Dev nD) : S4.Idx → Elt F .i32 := V7 m c main_v30
def xV (c : Dev nD) : S8192x512.Idx → Elt F .bf16 := V7 m c main_arg0
def wV (c : Dev nD) : S512x4096.Idx → Elt F .bf16 := V7 m c main_arg1
/-- The devices' blocks. -/
def blocks : Blocks F := ⟨xV m, wV m⟩

/-! ## What the one point reads -/

theorem blk0 (i : S4.Idx) : ((cfg0.win 0).blk t0_0).view.emb i = i := by
  funext a; apply Fin.ext; fin_cases a
  show 0 + 1 * (i 0).val = (i 0).val
  omega
theorem blk1 (i : S8192x512.Idx) : ((cfg0.win 1).blk t0_0).view.emb i = i := by
  funext a; apply Fin.ext; fin_cases a
  · show 0 + 1 * (i 0).val = (i 0).val
    omega
  · show 0 + 1 * (i 1).val = (i 1).val
    omega
theorem blk2 (i : S512x4096.Idx) : ((cfg0.win 2).blk t0_0).view.emb i = i := by
  funext a; apply Fin.ext; fin_cases a
  · show 0 + 1 * (i 0).val = (i 0).val
    omega
  · show 0 + 1 * (i 1).val = (i 1).val
    omega

/-! ## The proof data -/

/-- The invariant at the entry: the records, what the run starts from, the random state. -/
def start0 (c : Dev nD) : sProp 𝕄 :=
  iprop((∃ r, prngReg c r) ∗ (∃ K, ctx (blocks m) K) ∗ barS (F := F) c ∗ startD (F := F) c 0 ∗ startD (F := F) c 1)
/-- The invariant at the exit: the counters at zero, the scratch buffers, the result. -/
def final0 (c : Dev nD) : sProp 𝕄 :=
  iprop((∃ r, prngReg c r) ∗ scratch (F := F) c ∗ has c outM (resV (blocks m) c)
    ∗ (bigSep Finset.univ fun p : Fin 2 × Fin 36 => semVal (cell c (kd p.1 p.2.val)) 0) ∗ semVal (cell c .bar) 0)

/-- The proof data of the region on a device. -/
def dat (c : Dev nD) : Dat τ (Elt F) Unit ℕ UU ℕ cfg0 c where
  A w := V7 m c (Proc.devRef .tc (Pipeline.arrRef spec0 w))
  after
    | 0 => fun _ => metaV m c
    | 1 => fun _ => xV m c
    | 2 => fun _ => wV m c
    | ⟨_ + 3, h⟩ => absurd h (Nat.not_lt.2 (Nat.le_add_left _ _))
  Φ t := if t.val = 0 then start0 m c else final0 m c
  q _ := fullShare
  owed t := if t.val = 0 then O₀ c else 0

/-- The regions' data. -/
def pdats (p : Fin 1) (c : Dev nD) : Dat τ (Elt F) Unit ℕ UU ℕ (cfgs p) c :=
  match p with
  | 0 => dat m c
  | ⟨_ + 1, h⟩ => absurd h (Nat.not_lt.2 (Nat.le_add_left _ _))

theorem inv_first (c : Dev nD) : (dat m c).Φ t0_0.castSucc = start0 m c := by dsimp only [dat]; rw [if_pos (by decide)]
theorem inv_last (c : Dev nD) : (dat m c).Φ t0_0.succ = final0 m c := by dsimp only [dat]; rw [if_neg (by decide)]
theorem owed_first (c : Dev nD) : (dat m c).owed t0_0.castSucc = O₀ c := by dsimp only [dat]; rw [if_pos (by decide)]
theorem owed_last (c : Dev nD) : (dat m c).owed t0_0.succ = 0 := by dsimp only [dat]; rw [if_neg (by decide)]

theorem before0 (c : Dev nD) (d) : (dat m c).before 0 t0_0 d = metaV m c := by
  rw [(dat m c).before_fetched 0 t0_0 (fetch0_0 t0_0) d]
  unfold Dat.fetched Dat.blockOf
  dsimp only [dat]
  exact funext fun i => congrArg (metaV m c) (blk0 i)
theorem before1 (c : Dev nD) (d) : (dat m c).before 1 t0_0 d = xV m c := by
  rw [(dat m c).before_fetched 1 t0_0 (fetch0_1 t0_0) d]
  unfold Dat.fetched Dat.blockOf
  dsimp only [dat]
  exact funext fun i => congrArg (xV m c) (blk1 i)
theorem before2 (c : Dev nD) (d) : (dat m c).before 2 t0_0 d = wV m c := by
  rw [(dat m c).before_fetched 2 t0_0 (fetch0_2 t0_0) d]
  unfold Dat.fetched Dat.blockOf
  dsimp only [dat]
  exact funext fun i => congrArg (wV m c) (blk2 i)

/-! ## The body's obligation -/

/-- Every cell at its last round gives its counter back at zero. -/
theorem close (K : GSem nD τ sig → ℕ) (c : Dev nD) : iprop(ctx (blocks m) K ∗ dones (F := F) c)
    ⊢ |={Set.univ}=> bigSep Finset.univ fun p : Fin 2 × Fin 36 => semVal (cell c (kd p.1 p.2.val)) 0 := by
  refine BIBase.Entails.trans ?_ (Rounds.cells_close ER (sched (blocks m)) Finset.univ (fun p : Fin 2 × Fin 36 => cell c (kd p.1 p.2.val))
    (fun p => K (cell c (kd p.1 p.2.val))) (fun _ _ => Set.mem_univ _) (fun _ _ h => h) (fun p => (kd p.1 p.2.val).rounds)
    (fun p _ => duties_done (blocks m) c (kd p.1 p.2.val) _ le_rfl))
  unfold dones
  refine bigSep_with_persistent fun p _ => ?_
  unfold pos
  iintro ⟨#H, Hp, -⟩
  isplitr
  · iapply (ctx_inv (blocks m) K c (kd p.1 p.2.val)); iexact H
  · iexact Hp

theorem close_bar (K : GSem nD τ sig → ℕ) (c : Dev nD) : iprop(ctx (blocks m) K ∗ pos (F := F) c .bar 1)
    ⊢ |={Set.univ}=> semVal (cell c .bar) 0 := by
  refine BIBase.Entails.trans ?_ (Rounds.cell_close ER (sched (blocks m)) (g := cell c .bar) (R := 1) (Set.mem_univ (K (cell c .bar))) (fun h => h)
    (duties_done (blocks m) c .bar 1 le_rfl))
  unfold pos
  iintro ⟨#H, Hp, -⟩
  isplitr
  · iapply (ctx_inv (blocks m) K c .bar); iexact H
  · iexact Hp

theorem owesAt_intro (c : Dev nD) (t : Fin (cfg0.N + 1)) (O : CellTallies nD τ sig Unit) (h : (dat m c).owed t = O) :
    ows (F := F) c O ⊢ ((dat m c).owesAt () t : sProp 𝕄) := by
  unfold ows Dat.owesAt Pipeline.owesWithin Dat.bound
  rw [h]
  iintro ⟨%W, HO⟩
  iexists W
  isplitr
  · ipureintro; exact fun _ _ => Or.inl trivial
  · iexact HO
theorem owesAt_elim (c : Dev nD) (t : Fin (cfg0.N + 1)) (O : CellTallies nD τ sig Unit) (h : (dat m c).owed t = O) :
    ((dat m c).owesAt () t : sProp 𝕄) ⊢ ows (F := F) c O := by
  unfold ows Dat.owesAt Pipeline.owesWithin
  rw [h]
  iintro ⟨%W, -, HO⟩
  iexists W; iexact HO

/-- The run, from what the region's point starts from to what it leaves. -/
theorem point_run (c : Dev nD) (hX : words c (metaV m c)) :
    iprop(start0 m c ∗ ows (F := F) c (O₀ c) ∗ has c metaM (metaV m c) ∗ has c xM (xV m c) ∗ has c wM (wV m c))
      ⊢ WP c body fun _ => iprop(final0 m c ∗ ows (F := F) c 0 ∗ has c metaM (metaV m c) ∗ has c xM (xV m c) ∗ has c wM (wV m c)) := by
  refine BIBase.Entails.trans ?_ (wp_fupd _ _ _ _ _)
  unfold start0
  iintro ⟨⟨Hp, ⟨%K, #HC⟩, Hb, H0, H1⟩, HO, Hm, Hx, Hw⟩
  iapply (does_body (blocks m) K c fullShare (metaV m c) hX _) $$ [Hb H0 H1 HO Hm Hx Hw]
  · isplitr; · iexact HC
    isplitl [Hm]; · iexact Hm
    isplitl [HO]; · iexact HO
    isplitl [Hx Hw]
    · unfold ins
      isplitl [Hx]; · iexact Hx
      iexact Hw
    isplitl [Hb]; · iexact Hb
    isplitl [H0]; · iexact H0
    iexact H1
  iintro %u ⟨Hm, HO, Hi, Hb, H0, H1⟩
  ihave HF := (fin_elim (blocks m) c) $$ [H0 H1]
  · isplitl [H0]; · iexact H0
    iexact H1
  icases HF with ⟨HD, Hs, Hout⟩
  imod (close m K c) $$ [HD] with HD
  · isplitr; · iexact HC
    iexact HD
  imod (close_bar m K c) $$ [Hb] with Hb
  · isplitr; · iexact HC
    iexact Hb
  imodintro
  unfold ins
  icases Hi with ⟨Hx, Hw⟩
  isplitl [Hp Hs Hout HD Hb]
  · unfold final0
    isplitl [Hp]; · iexact Hp
    isplitl [Hs]; · iexact Hs
    isplitl [Hout]; · iexact Hout
    isplitl [HD]; · iexact HD
    iexact Hb
  isplitl [HO]; · iexact HO
  isplitl [Hm]; · iexact Hm
  isplitl [Hx]; · iexact Hx
  iexact Hw

theorem body_at (c : Dev nD) (hX : words c (metaV m c)) : Pipeline.BodyObligation (dat m c) defs₀ 𝒱₀ () Set.univ := fun t => by
  obtain rfl := fin_N0 t
  rw [bigSep_W0, bigSep_W0, inv_first, inv_last]
  iintro ⟨HS, HO, ⟨%d0, Hm⟩, ⟨%d1, Hx⟩, ⟨%d2, Hw⟩⟩
  rw [before0, before1, before2]
  ihave HO := (owesAt_elim m c _ _ (owed_first m c)) $$ HO
  iapply (show WP c (bodyAt0 (F := F) t0_0) _ ⊢ _ from .rfl)
  rw [bodyAt0_eq]
  ihave HW := (point_run m c hX) $$ [HS HO Hm Hx Hw]
  · isplitl [HS]; · iexact HS
    isplitl [HO]; · iexact HO
    isplitl [Hm]; · iexact Hm
    isplitl [Hx]; · iexact Hx
    iexact Hw
  iapply (wp_mono _ _ _ fun _ => ?_) $$ HW
  iintro ⟨HS, HO, Hm, Hx, Hw⟩
  isplitl [HS]; · iexact HS
  isplitl [HO]; · iapply (owesAt_intro m c _ _ (owed_last m c)); iexact HO
  isplitl [Hm]; · iexact Hm
  isplitl [Hx]; · iexact Hx
  iexact Hw

/-! ## The region's record -/

/-- What a device takes into the region beside its buffers: the records, the right to open its cells, its entry. -/
def talk0 (c : Dev nD) : sProp 𝕄 :=
  iprop((∃ K, ctx (blocks m) K) ∗ (bigSep Finset.univ fun p : Fin 2 × Fin 36 => openTok ER (cell c (kd p.1 p.2.val))) ∗ entry (F := F) c)
def talk1 (c : Dev nD) : sProp 𝕄 :=
  iprop((∃ K, ctx (blocks m) K) ∗ poss (F := F) c ∗ entry (F := F) c)
def talk2 (c : Dev nD) : sProp 𝕄 := semVal (cell c .bar) 0

/-- The buffer of the result. -/
def outB : Finset (DevRef τ sig) := {Proc.devRef .tc main_v31_0}
/-- What every buffer holds after the region. -/
def after0 (c : Dev nD) : Valuation τ sig (Elt F) := Function.update (V7 m c) (Proc.devRef .tc main_v31_0) (resV (blocks m) c)

theorem after0_ne (c : Dev nD) (b : DevRef τ sig) (h : b ≠ Proc.devRef .tc main_v31_0) : after0 m c b = V7 m c b := by
  unfold after0; exact Function.update_of_ne h _ _
theorem after0_out (c : Dev nD) : after0 m c (Proc.devRef .tc main_v31_0) = resV (blocks m) c := by
  unfold after0; exact Function.update_self _ _ _

theorem held_outB (c : Dev nD) (V : Valuation τ sig (Elt F)) :
    (StableHlo.held (c.tc : Thread nD τ) outB V : sProp 𝕄) = has c outM (V (Proc.devRef .tc main_v31_0)) := by
  unfold StableHlo.held outB
  rw [BI.bigSep_singleton]
  exact (owns_whole (c : Thread nD τ) main_v31_0 fullShare (V (Proc.devRef .tc main_v31_0))).symm

theorem any_whole (c : Dev nD) (b : Ref sig .tc) :
    hasAny (F := F) c (Memref.whole b) = iprop(∃ f : Buf (Elt F) ((c : Thread nD τ).loc b), ((c : Thread nD τ).loc b) ↦{fullShare} f) := by
  unfold hasAny has hasQ
  exact congrArg _ (funext fun f => owns_whole (c : Thread nD τ) b fullShare f)

theorem scoped_eq (c : Dev nD) : (Pipeline.scopedRest spec0 c : sProp 𝕄) = scratch (F := F) c := by
  rw [scopedRest0_eq]
  unfold scratch
  exact congr (congrArg _ (any_whole c cc0_scratch0).symm) (congr (congrArg _ (any_whole c cc0_scratch1).symm) (any_whole c cc0_scratch2).symm)

theorem own_eq (c : Dev nD) : (Pipeline.ownSems0 osem c : sProp 𝕄) = bigSep Finset.univ fun p : Fin 2 × Fin 36 => semVal (cell c (kd p.1 p.2.val)) 0 := rfl

theorem open_at (c : Dev nD) : iprop(talk0 m c ∗ Pipeline.ownSems0 osem c ∗ levAts L lv) ⊢ (|={Set.univ}=> talk1 m c : sProp 𝕄) := by
  rw [own_eq]
  unfold talk0 talk1
  iintro ⟨⟨⟨%K, #HC⟩, HT, HE⟩, HS, -⟩
  imod (Rounds.cells_open ER (sched (blocks m)) Finset.univ (fun p : Fin 2 × Fin 36 => cell c (kd p.1 p.2.val))
    (fun p => K (cell c (kd p.1 p.2.val))) (fun _ _ => Set.mem_univ _)) $$ [HT HS] with HP
  · isplitl [HT]
    · iapply (show iprop(ctx (blocks m) K ∗ bigSep Finset.univ fun p : Fin 2 × Fin 36 => openTok ER (cell c (kd p.1 p.2.val))) ⊢
          bigSep Finset.univ fun p : Fin 2 × Fin 36 => iprop(cellInv ER (sched (blocks m)) (K (cell c (kd p.1 p.2.val))) (cell c (kd p.1 p.2.val)) ∗ openTok ER (cell c (kd p.1 p.2.val)))
        from bigSep_with_persistent fun p _ => BIClass.sep_mono (ctx_inv (blocks m) K c (kd p.1 p.2.val)) .rfl)
      isplitr; · iexact HC
      iexact HT
    · iexact HS
  imodintro
  isplitr; · iexists K; iexact HC
  isplitl [HP]
  · unfold poss pos; iexact HP
  iexact HE

theorem in_at (c : Dev nD) : iprop(Pipeline.scopedRest (Pipeline.pin (pcfgs (F := F)) adm 0).spec c ∗ (∃ r, prngReg c r)
    ∗ StableHlo.held (c.tc : Thread nD τ) outB (V7 m c) ∗ talk1 m c) ⊢ start0 m c := by
  rw [held_outB, show (Pipeline.scopedRest (Pipeline.pin (pcfgs (F := F)) adm 0).spec c : sProp 𝕄) = scratch (F := F) c from scoped_eq c]
  unfold talk1 start0
  iintro ⟨HS, Hp, Ho, ⟨%K, #HC⟩, HP, HE⟩
  ihave H := (start_intro (F := F) c) $$ [HE HP HS Ho]
  · isplitl [HE]; · iexact HE
    isplitl [HP]; · iexact HP
    isplitl [HS]; · iexact HS
    iapply (any_intro c outM _); iexact Ho
  isplitl [Hp]; · iexact Hp
  isplitr; · iexists K; iexact HC
  iexact H

theorem out_at (c : Dev nD) : final0 m c ⊢ iprop(Pipeline.scopedRest (Pipeline.pin (pcfgs (F := F)) adm 0).spec c ∗ (∃ r, prngReg c r)
    ∗ StableHlo.held (c.tc : Thread nD τ) outB (after0 m c) ∗ Pipeline.ownSems0 osem c ∗ talk2 (F := F) c) := by
  rw [own_eq, held_outB, after0_out, show (Pipeline.scopedRest (Pipeline.pin (pcfgs (F := F)) adm 0).spec c : sProp 𝕄) = scratch (F := F) c from scoped_eq c]
  unfold final0 talk2
  iintro ⟨Hp, HS, Ho, HD, Hb⟩
  isplitl [HS]; · iexact HS
  isplitl [Hp]; · iexact Hp
  isplitl [Ho]; · iexact Ho
  isplitl [HD]; · iexact HD
  iexact Hb

theorem above_all (c : Dev nD) : Above 0 (O₀ c) := by
  unfold O₀ bk
  exact above_add (above_add (above_owed c 30 (by decide) (by decide)) (above_tally _ _ _ (by decide))) (above_tally _ _ _ (by decide))

theorem cut_owed (c : Dev nD) (t : Fin (cfg0.N + 1)) (g : GSem nD τ sig) (i : Unit) (h : 0 < (dat m c).owed t g i) :
    i ∈ L g ∧ (0 : ℕ) < lv g i := by
  dsimp only [dat] at h
  split at h
  · have := above_all c g i h
    exact ⟨by unfold L; rw [if_pos this.1]; exact Finset.mem_singleton_self _, this.2⟩
  · exact absurd h (Nat.lt_irrefl 0)

theorem osem_facts : Pipeline.OwnSemFacts spec0 osem where
  isScoped := by decide
  inj := osem_inj
  disj := by decide

theorem fetch_kind : ∀ (w : Fin 3) (s : Fin (spec0 w).nbuf), kindOf (.dma ((spec0 w).sem s)) = none := by decide

theorem owed_first' (c : Dev nD) : (pdats m 0 c).owed 0 = 0 + O₀ c := (owed_first m c).trans (zero_add _).symm
theorem owed_last' (c : Dev nD) : (pdats m 0 c).owed (Fin.last _) = 0 := by
  show (dat m c).owed _ = 0
  dsimp only [dat]
  rw [if_neg (by rw [Fin.val_last, show cfg0.N = 1 from N_0]; decide)]

theorem no_out : ∀ w : Fin 3, (spec0 w).isOut = false := by decide
theorem arr_ne : ∀ w : Fin 3, Proc.devRef (τ := τ) .tc (Pipeline.arrRef spec0 w) ≠ Proc.devRef .tc main_v31_0 := by decide

set_option backward.isDefEq.respectTransparency.types false in
/-- The region's record. -/
def reg (hX : ∀ c, words c (metaV m c)) : Pipeline.RegionSeg (pcfgs (F := F)) adm (pdats m) () defs₀ 𝒱₀ L lv 0 :=
  Pipeline.RegionSeg.ofTalk (pcfgs (F := F)) adm (pdats m) () defs₀ 𝒱₀ L lv 0 osem osem_facts
    outB outB (Finset.Subset.refl _) launch0.toP rfl (fun c => (body_at m c (hX c)).loose)
    (fun _ => 0) O₀ (owed_first' m) (owed_last' m) (fun _ => rfl) (fun _ _ => ite_self _)
    (V7 m) (after0 m) (fun _ b hb => absurd hb (by rw [Finset.sdiff_self]; exact Finset.notMem_empty b))
    (talk0 m) talk2 (talk1 m) talk2 (open_at m) (in_at m) (fun c => by
      rw [show (pdats m 0 c).Φ (Fin.last _) = final0 m c from by
        show (dat m c).Φ _ = _
        dsimp only [dat]
        rw [if_neg (by rw [Fin.val_last, show cfg0.N = 1 from N_0]; decide)]]
      exact out_at m c)
    (fun c => by iintro H; imodintro; iexact H)
    (fun _ => 0)
    ⟨fun c w s => by rw [L_tc]; exact Finset.mem_singleton_self _, fun c w s => by unfold lv; rw [fetch_kind w s], fun c t g i h => cut_owed m c t g i h⟩
    (fun _ => iprop(emp))
    (fun c w => rfl)
    (fun c w => ((dat m c).arrAt_in w (no_out w) _).trans (after0_ne m c _ (arr_ne w)).symm)

end Cert.Bidir

end
-- ==== Proof.Launch.lean ====
/-
  The launch: every cell's record made, the counters of the barrier in the records, the others' cells asleep until the
  region; what each device starts from; and the whole program's run.
-/
module

public import proofs.«01_k».proof.Proof.Region
public import Idealize.ShloMosaic.Lib.Quiescent

@[expose] public section

noncomputable section

namespace Cert.Bidir

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The cells and the payment rights of the launch -/

def barEmb : Dev nD ↪ GSem nD τ sig := ⟨fun c => cell c .bar, fun _ _ h => congrArg (fun g : GSem nD τ sig => g.1.1) h⟩
def ownEmb : Dev nD × (Fin 2 × Fin 36) ↪ GSem nD τ sig :=
  ⟨fun x => cell x.1 (kd x.2.1 x.2.2.val), fun _ _ h =>
    Prod.ext (congrArg (fun g : GSem nD τ sig => g.1.1) h) (osem_inj (congrArg Prod.snd h))⟩
def tokEmb : Dev nD × (Fin 2 × Fin 107) ↪ GSem nD τ sig × ℕ × Fin 2 :=
  ⟨fun x => (cell x.1 (tkd x.2.1 x.2.2.val).1, (tkd x.2.1 x.2.2.val).2.1, (tkd x.2.1 x.2.2.val).2.2), fun x y h => by
    have h1 : x.1 = y.1 := congrArg (fun t : GSem nD τ sig × ℕ × Fin 2 => t.1.1.1) h
    have h2 : (tkd x.2.1 x.2.2.val).1 = (tkd y.2.1 y.2.2.val).1 := loc_inj (congrArg (fun t : GSem nD τ sig × ℕ × Fin 2 => t.1.2) h)
    have h3 : (tkd x.2.1 x.2.2.val).2 = (tkd y.2.1 y.2.2.val).2 := congrArg (fun t : GSem nD τ sig × ℕ × Fin 2 => t.2) h
    refine Prod.ext h1 ?_
    rw [← tnum_tkd x.2, ← tnum_tkd y.2, Prod.ext h2 h3]⟩

abbrev barCells : Finset (GSem nD τ sig) := Finset.univ.map barEmb
abbrev ownCells : Finset (GSem nD τ sig) := Finset.univ.map ownEmb
abbrev allToks : Finset (GSem nD τ sig × ℕ × Fin 2) := Finset.univ.map tokEmb

theorem disjoint_cells : Disjoint barCells ownCells := by
  rw [Finset.disjoint_left]
  intro g h₁ h₂
  obtain ⟨c, -, rfl⟩ := Finset.mem_map.mp h₁
  obtain ⟨x, -, h⟩ := Finset.mem_map.mp h₂
  exact osem_ne_bar x.2 (congrArg Prod.snd h)

theorem cell_mem (c : Dev nD) (k : Kd) : cell c k ∈ barCells ∪ ownCells := by
  by_cases hk : k = .bar
  · subst hk; exact Finset.mem_union_left _ (Finset.mem_map_of_mem barEmb (Finset.mem_univ c))
  · have h : cell c k = ownEmb (c, knum k) := by
      show cell c k = cell c (kd (knum k).1 (knum k).2.val)
      rw [kd_knum k hk]
    rw [h]
    exact Finset.mem_union_right _ (Finset.mem_map_of_mem ownEmb (Finset.mem_univ _))

/-- The launch's ghost element. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- A resource kept by one device. -/
def keptBy (c₀ : Dev nD) (X : sProp 𝕄) (c : Dev nD) : sProp 𝕄 := if c = c₀ then X else iprop(emp)
theorem keptBy_eq (c₀ : Dev nD) (X : sProp 𝕄) : bigSep Finset.univ (keptBy c₀ X) = X := by
  rw [bigSep_univ_at _ c₀, bigSep_congr (s := Finset.univ.erase c₀) (Ψ := fun _ => (BI.emp : sProp 𝕄))
      fun c hc => by unfold keptBy; rw [if_neg (Finset.ne_of_mem_erase hc)]; rfl, BI.bigSep_emp_const]
  unfold keptBy; rw [if_pos rfl]
  exact BI.equiv_iff.mp sep_emp

def seed : Dev nD → sProp 𝕄 := keptBy 0 (BI.own (ER (launchOf barCells ownCells allToks)))

/-! ## What the launch deals -/

/-- The records every device reads. -/
def records (K : GSem nD τ sig → ℕ) : sProp 𝕄 :=
  iprop(ctx (blocks m) K ∗ bigSep Finset.univ fun c : Dev nD => rch (F := F) c .bar 0)
instance records_persistent (K : GSem nD τ sig → ℕ) : BI.Persistent (records m K) := by unfold records; infer_instance

theorem records_intro (K : GSem nD τ sig → ℕ) :
    iprop((bigSep (barCells ∪ ownCells) fun g => cellInv ER (sched (blocks m)) (K g) g) ∗ (bigSep barCells fun g => reached ER g 0) ∗ levAts L lv)
      ⊢ records m K := by
  unfold records ctx
  iintro ⟨#HI, #HR, #HL⟩
  isplitr
  · isplitr
    · iapply (show (bigSep (barCells ∪ ownCells) fun g => (cellInv ER (sched (blocks m)) (K g) g : sProp 𝕄))
          ⊢ bigSep Finset.univ fun p : Dev nD × Kd => cellInv ER (sched (blocks m)) (K (cell p.1 p.2)) (cell p.1 p.2)
        from bigSep_intro_persistent fun p _ => bigSep_elim (cell_mem p.1 p.2))
      iexact HI
    · iexact HL
  · iapply (Entails.of_eq (bigSep_map (s := Finset.univ) barEmb (Φ := fun g : GSem nD τ sig => (reached ER g 0 : sProp 𝕄))))
    iexact HR

/-- The rights to open a device's cells. -/
def opens (c : Dev nD) : sProp 𝕄 := bigSep Finset.univ fun p : Fin 2 × Fin 36 => openTok ER (cell c (kd p.1 p.2.val))

/-- What a device holds beside its buffers from the launch to the region. -/
def carried (c : Dev nD) : sProp 𝕄 :=
  iprop((∃ K, records m K) ∗ opens (F := F) c ∗ (cred (tallyAt (cell c .bar) () 2) ∗ atPos ER (cell c .bar) 0 ∅ 0)
    ∗ (toksD (F := F) c 0 ∗ toksD (F := F) c 1) ∗ (crds (F := F) c 0 ∗ crds (F := F) c 1))

def riding (_ : Fin 2) (c : Dev nD) : sProp 𝕄 := iprop(carried m c ∗ (∃ r, prngReg c r) ∗ ows (F := F) c (O₀ c))

/-- The payment rights of a device's own cells in one direction. -/
def ownToks (c : Dev nD) (d : Fin 2) : sProp 𝕄 :=
  iprop((tok (F := F) c .bar 0 (rev d) ∗ emp) ∗ rest (fun s => tok (F := F) c (.rs d (ix s)) 0 0) 15 0 ∗ rest (fun s => tok (F := F) c (.ag d (ix s)) 0 0) 15 0
    ∗ rest (fun s => tok (F := F) c (.rsS d (par s)) (s / 2) 0) 15 0 ∗ rest (fun s => tok (F := F) c (.agS d (par s)) (s / 2) 0) 15 0
    ∗ rest (fun r => tok (F := F) c (.cp d) r 0) 30 0 ∗ rest (fun r => tok (F := F) c (.ov d) r 0) 16 0)

theorem allToks_eq : bigSep allToks (fun x => (dutyTok ER x.1 x.2.1 x.2.2 : sProp 𝕄)) = bigSep Finset.univ fun c : Dev nD => iprop(ownToks (F := F) c 0 ∗ ownToks (F := F) c 1) := by
  unfold allToks
  rw [bigSep_map, bigSep_univ_prod]
  refine bigSep_congr fun c _ => ?_
  show bigSep Finset.univ (fun p : Fin 2 × Fin 107 => tok (F := F) c (tkd p.1 p.2.val).1 (tkd p.1 p.2.val).2.1 (tkd p.1 p.2.val).2.2) = _
  rw [pairs_eq (fun e n => tok (F := F) c (tkd e n).1 (tkd e n).2.1 (tkd e n).2.2), pays_eq (tok (F := F) c) 0, pays_eq (tok (F := F) c) 1]
  rfl

/-- The rights to pay a neighbour's cells, handed to the device that pays. -/
theorem toks_around (d : Fin 2) : (bigSep Finset.univ fun c : Dev nD => ownToks (F := F) c d) ⊢ bigSep Finset.univ fun c : Dev nD => toksD (F := F) c d := by
  unfold ownToks toksD
  simp only [bigSep_sep']
  rw [bigSep_univ_equiv (ring d) (fun c : Dev nD => tok (F := F) c .bar 0 (rev d)),
    bigSep_univ_equiv (ring d) (fun c : Dev nD => rest (fun s => tok (F := F) c (.rs d (ix s)) 0 0) 15 0),
    bigSep_univ_equiv (ring d) (fun c : Dev nD => rest (fun s => tok (F := F) c (.ag d (ix s)) 0 0) 15 0)]
  iintro ⟨⟨H1, -⟩, H2, H3, H4, H5, H6, H7⟩
  isplitl [H1]; · iexact H1
  isplitl [H2]; · iexact H2
  isplitl [H3]; · iexact H3
  isplitl [H4]; · iexact H4
  isplitl [H5]; · iexact H5
  isplitl [H6]; · iexact H6
  iexact H7

/-- What a device's share of the launch is, without the records. -/
def plain (c : Dev nD) : sProp 𝕄 :=
  iprop((cred (tallyAt (cell c .bar) () 2) ∗ crds (F := F) c 0 ∗ crds (F := F) c 1) ∗ (∃ r, prngReg c r) ∗ ows (F := F) c (O₀ c))

theorem riding_intro (K : GSem nD τ sig → ℕ) (c : Dev nD) :
    iprop(records m K ∗ (opens (F := F) c ∗ atPos ER (cell c .bar) 0 ∅ 0 ∗ toksD (F := F) c 0 ∗ toksD (F := F) c 1) ∗ plain (F := F) c) ⊢ riding m 0 c := by
  unfold riding carried plain
  iintro ⟨#HR, ⟨Ho, Ha, H0, H1⟩, ⟨Hc, Hc0, Hc1⟩, Hp, HO⟩
  isplitl [Ho Ha H0 H1 Hc Hc0 Hc1]
  · isplitr; · iexists K; iexact HR
    isplitl [Ho]; · iexact Ho
    isplitl [Hc Ha]
    · isplitl [Hc]; · iexact Hc
      iexact Ha
    isplitl [H0 H1]
    · isplitl [H0]; · iexact H0
      iexact H1
    isplitl [Hc0]; · iexact Hc0
    iexact Hc1
  isplitl [Hp]; · iexact Hp
  iexact HO

theorem unscoped_eq : ∀ sm : SemLoc sig, sm.isScoped .tc = false → sm = .reg barSem := by decide
theorem unscopedSems_eq (c : Dev nD) : (unscopedSems0 c : sProp 𝕄) ⊢ semVal (cell c .bar) 0 := by
  unfold unscopedSems0
  exact bigSep_elim (i := SemLoc.reg barSem) (by decide)

/-- The launch's ghost state, dealt to the devices. -/
theorem deal (ρ : Dev nD → PrngReg) :
    iprop((bigSep Finset.univ fun c : Dev nD => iprop(unscopedSems0 c ∗ owes (c : Thread nD τ) (O₀ c) ∅ ∗ Pipeline.launchCred O₀ c ∗ prngReg c (ρ c) ∗ seed (F := F) c)) ∗ levAts L lv)
      ⊢ (|={Set.univ}=> bigSep Finset.univ (riding m 0) : sProp 𝕄) := by
  have hcore (c : Dev nD) : iprop(unscopedSems0 c ∗ owes (c : Thread nD τ) (O₀ c) ∅ ∗ Pipeline.launchCred O₀ c ∗ prngReg c (ρ c) ∗ seed (F := F) c)
      ⊢ (iprop(plain (F := F) c ∗ semVal (cell c .bar) 0 ∗ seed (F := F) c) : sProp 𝕄) := by
    unfold plain ows
    iintro ⟨Hs, HO, Hc, Hp, HG⟩
    ihave Hc := (creds (F := F) c) $$ Hc
    isplitl [HO Hc Hp]
    · isplitl [Hc]; · iexact Hc
      isplitl [Hp]; · iexists (ρ c); iexact Hp
      iexists ∅; iexact HO
    isplitl [Hs]; · iapply (unscopedSems_eq (F := F) c); iexact Hs
    iexact HG
  have hv : bigSep Finset.univ (fun c : Dev nD => (semVal (cell c .bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c .bar) 0 ∅ 0 : sProp 𝕄)) :=
    Entails.of_eq (bigSep_map (s := Finset.univ) barEmb (Φ := fun g : GSem nD τ sig => (atPos ER g 0 ∅ 0 : sProp 𝕄)))
  have hop : bigSep ownCells (fun g => (openTok ER g : sProp 𝕄)) ⊢ bigSep Finset.univ (fun c : Dev nD => opens (F := F) c) :=
    Entails.of_eq (by
      rw [bigSep_map, bigSep_univ_prod]
      rfl)
  have hsplit : (bigSep Finset.univ fun c : Dev nD => iprop(unscopedSems0 c ∗ owes (c : Thread nD τ) (O₀ c) ∅ ∗ Pipeline.launchCred O₀ c ∗ prngReg c (ρ c) ∗ seed (F := F) c))
      ⊢ (iprop((bigSep Finset.univ fun c : Dev nD => plain (F := F) c) ∗ (bigSep Finset.univ fun c : Dev nD => semVal (cell c .bar) 0)
        ∗ bigSep Finset.univ (seed (F := F))) : sProp 𝕄) := by
    rw [← bigSep_sep', ← bigSep_sep']
    exact bigSep_mono fun c _ => hcore c
  have htok : bigSep allToks (fun x => (dutyTok ER x.1 x.2.1 x.2.2 : sProp 𝕄))
      ⊢ iprop((bigSep Finset.univ fun c : Dev nD => toksD (F := F) c 0) ∗ bigSep Finset.univ fun c : Dev nD => toksD (F := F) c 1) := by
    rw [allToks_eq, bigSep_sep']
    exact BIClass.sep_mono (toks_around 0) (toks_around 1)
  iintro ⟨H, #HL⟩
  ihave H := hsplit $$ H
  icases H with ⟨HB, Hv, HG⟩
  ihave Hu := (show bigSep Finset.univ (seed (F := F)) ⊢ BI.own (ER (launchOf barCells ownCells allToks)) from
    Entails.of_eq (keptBy_eq (F := F) 0 (BI.own (ER (launchOf barCells ownCells allToks))))) $$ HG
  imod (Rounds.fund_launch ER (sched (blocks m)) disjoint_cells (fun g _ h => h) allToks) $$ [Hv Hu] with ⟨%K, -, #HI, #Hr, Hat, Hop, Htok⟩
  · isplitl [Hv]
    · iapply hv $$ Hv
    · iexact Hu
  imodintro
  iapply (bigSep_with_persistent (R := records m K)
    (Φ := fun c => iprop((opens (F := F) c ∗ atPos ER (cell c .bar) 0 ∅ 0 ∗ toksD (F := F) c 0 ∗ toksD (F := F) c 1) ∗ plain (F := F) c)) fun c _ => riding_intro m K c)
  isplitr
  · iapply (records_intro m K)
    isplitr; · iexact HI
    isplitr; · iexact Hr
    iexact HL
  simp only [bigSep_sep']
  isplitr [HB]
  · isplitl [Hop]; · iapply hop $$ Hop
    isplitl [Hat]; · iapply hat $$ Hat
    iapply htok $$ Htok
  · iexact HB

/-! ## Into the region and out of it -/

theorem uc_mem (r : Ref sig .tc) (h : ¬ r.isScoped) : Proc.devRef (τ := τ) .tc r ∈ Pipeline.ucRefs τ sig :=
  Finset.mem_filter.mpr ⟨StableHlo.devRef_mem_tcRefs r, h⟩

theorem not_arr (r : Ref sig .tc) (h : ∀ w : Fin 3, Pipeline.arrRef spec0 w ≠ r) : Proc.devRef (τ := τ) .tc r ∉ Pipeline.arrRefs (τ := τ) spec0 := fun hb => by
  obtain ⟨r', hr, he⟩ := Finset.mem_map.mp hb
  obtain ⟨w, -, rfl⟩ := Finset.mem_image.mp hr
  exact h w (Proc.devRef_injective .tc he)

theorem arr_mem (w : Fin 3) : Proc.devRef (τ := τ) .tc (Pipeline.arrRef spec0 w) ∈ Pipeline.arrRefs (τ := τ) spec0 :=
  Finset.mem_map.mpr ⟨_, Finset.mem_image.mpr ⟨w, Finset.mem_univ _, rfl⟩, rfl⟩

theorem held_one (c : Dev nD) (r : Ref sig .tc) (V : Valuation τ sig (Elt F)) :
    (StableHlo.held (c.tc : Thread nD τ) {Proc.devRef .tc r} V : sProp 𝕄) ⊢ hasAny (F := F) c (Memref.whole r) := by
  rw [any_whole]
  unfold StableHlo.held
  rw [BI.bigSep_singleton]
  iintro H; iexists (V (Proc.devRef .tc r)); iexact H

theorem held_cut (c : Dev nD) (V : Valuation τ sig (Elt F)) :
    (StableHlo.held (c.tc : Thread nD τ) (Pipeline.ucRefs τ sig) V : sProp 𝕄)
      ⊢ iprop(StableHlo.held (c.tc : Thread nD τ) (Pipeline.arrRefs (τ := τ) spec0) V ∗ StableHlo.held (c.tc : Thread nD τ) outB V
        ∗ hasAny (F := F) c rsM ∗ hasAny (F := F) c agM) := by
  have h0 : outB ⊆ Pipeline.ucRefs τ sig \ Pipeline.arrRefs (τ := τ) spec0 :=
    Finset.singleton_subset_iff.mpr (Finset.mem_sdiff.mpr ⟨uc_mem _ (by decide), not_arr _ (by decide)⟩)
  have h1 : {Proc.devRef (τ := τ) .tc main_v31_1} ⊆ (Pipeline.ucRefs τ sig \ Pipeline.arrRefs (τ := τ) spec0) \ outB :=
    Finset.singleton_subset_iff.mpr (Finset.mem_sdiff.mpr ⟨Finset.mem_sdiff.mpr ⟨uc_mem _ (by decide), not_arr _ (by decide)⟩,
      fun h => absurd (Finset.mem_singleton.mp h) (by decide)⟩)
  have h2 : {Proc.devRef (τ := τ) .tc main_v31_2} ⊆ ((Pipeline.ucRefs τ sig \ Pipeline.arrRefs (τ := τ) spec0) \ outB) \ {Proc.devRef (τ := τ) .tc main_v31_1} :=
    Finset.singleton_subset_iff.mpr (Finset.mem_sdiff.mpr ⟨Finset.mem_sdiff.mpr ⟨Finset.mem_sdiff.mpr ⟨uc_mem _ (by decide), not_arr _ (by decide)⟩,
      fun h => absurd (Finset.mem_singleton.mp h) (by decide)⟩, fun h => absurd (Finset.mem_singleton.mp h) (by decide)⟩)
  rw [StableHlo.held_sub_split (c.tc : Thread nD τ) (Pipeline.arrRefs_sub_ucRefs spec0 (by decide)) V,
    StableHlo.held_sub_split (c.tc : Thread nD τ) h0 V, StableHlo.held_sub_split (c.tc : Thread nD τ) h1 V, StableHlo.held_sub_split (c.tc : Thread nD τ) h2 V]
  iintro ⟨Ha, Ho, H1, H2, -⟩
  isplitl [Ha]; · iexact Ha
  isplitl [Ho]; · iexact Ho
  isplitl [H1]; · iapply (held_one c main_v31_1 V); iexact H1
  iapply (held_one c main_v31_2 V); iexact H2

theorem talk_intro (c : Dev nD) : iprop(carried m c ∗ hasAny (F := F) c rsM ∗ hasAny (F := F) c agM) ⊢ talk0 m c := by
  unfold carried talk0 entry records pos opens
  iintro ⟨⟨⟨%K, #HC, #HR⟩, Ho, ⟨Hc, Ha⟩, Ht, Hcs⟩, Hr, Hg⟩
  isplitr; · iexists K; iexact HC
  isplitl [Ho]; · iexact Ho
  isplitl [Hc Ha]
  · isplitl [Hc]; · iexact Hc
    isplitl [Ha]; · iexact Ha
    iapply (show (bigSep Finset.univ fun c : Dev nD => rch (F := F) c .bar 0) ⊢ rch c .bar 0 from bigSep_elim (Finset.mem_univ c)); iexact HR
  isplitr
  · isplitr
    · iapply (show (bigSep Finset.univ fun c : Dev nD => rch (F := F) c .bar 0) ⊢ rch (nxt 0 c) .bar 0 from bigSep_elim (Finset.mem_univ (nxt 0 c))); iexact HR
    · iapply (show (bigSep Finset.univ fun c : Dev nD => rch (F := F) c .bar 0) ⊢ rch (nxt 1 c) .bar 0 from bigSep_elim (Finset.mem_univ (nxt 1 c))); iexact HR
  isplitl [Ht]; · iexact Ht
  isplitl [Hcs]; · iexact Hcs
  isplitl [Hr]; · iexact Hr
  iexact Hg

variable (hX : ∀ c, words c (metaV m c))

theorem reg_pre (c : Dev nD) : iprop(StableHlo.held (c : Thread nD τ) (Pipeline.ucRefs τ sig) (V7 m c) ∗ riding m 0 c) ⊢ (reg m hX).pre c := by
  show _ ⊢ iprop(StableHlo.held (c.tc : Thread nD τ) (Pipeline.arrRefs (τ := τ) spec0) (V7 m c) ∗ (∃ r, prngReg c r)
    ∗ (StableHlo.held (c.tc : Thread nD τ) outB (V7 m c) ∗ emp) ∗ talk0 m c ∗ ∃ Wd, owes (c : Thread nD τ) (0 + O₀ c) Wd)
  rw [zero_add]
  unfold riding ows
  iintro ⟨Hh, HG, Hp, HO⟩
  ihave Hh := (held_cut c (V7 m c)) $$ Hh
  icases Hh with ⟨Ha, Ho, H1, H2⟩
  isplitl [Ha]; · iexact Ha
  isplitl [Hp]; · iexact Hp
  isplitl [Ho]
  · isplitl [Ho]; · iexact Ho
    iempintro
  isplitr [HO]
  · iapply (talk_intro m c)
    isplitl [HG]; · iexact HG
    isplitl [H1]; · iexact H1
    iexact H2
  iexact HO

/-- What a device holds at the end. -/
def atEnd (c : Dev nD) : sProp 𝕄 :=
  iprop(StableHlo.held (c.tc : Thread nD τ) (Pipeline.arrRefs (τ := τ) spec0) (after0 m c) ∗ StableHlo.held (c.tc : Thread nD τ) outB (after0 m c) ∗ semVal (cell c .bar) 0)

theorem reg_post (c : Dev nD) : (reg m hX).post c ⊢ iprop(atEnd m c ∗ ∃ W, owes (c : Thread nD τ) (0 : CellTallies nD τ sig Unit) W) := by
  show iprop(StableHlo.held (c.tc : Thread nD τ) (Pipeline.arrRefs (τ := τ) spec0) (after0 m c) ∗ (∃ r, prngReg c r)
    ∗ (StableHlo.held (c.tc : Thread nD τ) outB (after0 m c) ∗ emp) ∗ talk2 (F := F) c ∗ ∃ Wd, owes (c : Thread nD τ) (0 : CellTallies nD τ sig Unit) Wd) ⊢ _
  unfold atEnd talk2
  iintro ⟨Ha, -, ⟨Ho, -⟩, Hb, HO⟩
  isplitr [HO]
  · isplitl [Ha]; · iexact Ha
    isplitl [Ho]; · iexact Ho
    iexact Hb
  iexact HO

theorem arg0_eq (c : Dev nD) : V7 m c (Proc.devRef .tc main_arg0) = m ((c.tc : Thread nD τ).loc main_arg0) :=
  (V7_of m c main_arg0 (by decide)).trans <| (V6_of m c main_arg0 (by decide)).trans <| (V5_of m c main_arg0 (by decide)).trans <|
    (V4_of m c main_arg0 (by decide)).trans <| (V3_of m c main_arg0 (by decide)).trans <| (V2_of m c main_arg0 (by decide)).trans <| (V1_of m c main_arg0 (by decide)).trans rfl
theorem arg1_eq (c : Dev nD) : V7 m c (Proc.devRef .tc main_arg1) = m ((c.tc : Thread nD τ).loc main_arg1) :=
  (V7_of m c main_arg1 (by decide)).trans <| (V6_of m c main_arg1 (by decide)).trans <| (V5_of m c main_arg1 (by decide)).trans <|
    (V4_of m c main_arg1 (by decide)).trans <| (V3_of m c main_arg1 (by decide)).trans <| (V2_of m c main_arg1 (by decide)).trans <| (V1_of m c main_arg1 (by decide)).trans rfl

/-- What is read off a final state on one device. -/
def Seen (c : Dev nD) (s : MemSt nD τ sig (Elt F)) : Prop :=
  (s.mem ((c.tc : Thread nD τ).loc main_arg0) = m ((c.tc : Thread nD τ).loc main_arg0) ∧ s.mem ((c.tc : Thread nD τ).loc main_arg1) = m ((c.tc : Thread nD τ).loc main_arg1))
    ∧ s.mem ((c.tc : Thread nD τ).loc main_v31_0) = resV (blocks m) c ∧ s.sem (cell c .bar) = 0

theorem end_read (c : Dev nD) (s' : Phys nD τ sig (Elt F)) : iprop(atEnd m c ∗ SI s') ⊢ (|={Set.univ}=> iprop(⌜Seen m c s'.mem⌝ ∗ SI s') : sProp 𝕄) := by
  unfold atEnd StableHlo.held
  iintro ⟨⟨Ha, Ho, Hb⟩, HSI⟩
  ihave Hr := (pointsTo_read_all (Pipeline.arrRefs (τ := τ) spec0) (fun b => ((c.tc : Thread nD τ).1, b)) (after0 m c) s') $$ [Ha HSI]
  · isplitl [Ha] <;> iassumption
  icases Hr with ⟨%ha, HSI⟩
  ihave Hr := (pointsTo_read_all outB (fun b => ((c.tc : Thread nD τ).1, b)) (after0 m c) s') $$ [Ho HSI]
  · isplitl [Ho] <;> iassumption
  icases Hr with ⟨%ho, HSI⟩
  icombine HSI Hb gives %hb
  imodintro
  isplitr
  · ipureintro
    exact ⟨⟨(ha _ (arr_mem 1)).trans ((after0_ne m c _ (arr_ne 1)).trans (arg0_eq m c)), (ha _ (arr_mem 2)).trans ((after0_ne m c _ (arr_ne 2)).trans (arg1_eq m c))⟩,
      (ho _ (Finset.mem_singleton_self _)).trans (after0_out m c), by simpa using hb⟩
  iexact HSI

include hX in
set_option backward.isDefEq.respectTransparency.types false in
/-- The whole program's run: it ends from any memory with zero counters, every argument is as launched, the result is the
    schedule's, and every counter is zero. -/
theorem run_main (ρ : Dev nD → PrngReg) : θ_run defs (onTc (τ := τ) (main (F := F))) ⟨m, fun _ => 0, ρ⟩
    (fun r => (∀ c : Dev nD, (r.2.mem ((c.tc : Thread nD τ).loc main_arg0) = m ((c.tc : Thread nD τ).loc main_arg0)
        ∧ r.2.mem ((c.tc : Thread nD τ).loc main_arg1) = m ((c.tc : Thread nD τ).loc main_arg1))
        ∧ r.2.mem ((c.tc : Thread nD τ).loc main_v31_0) = resV (blocks m) c) ∧ r.2.sem = fun _ => 0) := by
  refine Pipeline.θ_run_regions_kit_dev_sems (pcfgs (F := F)) adm (pdats m) () cellOf_inj EP defs₀ 𝒱₀ L lv m ρ main
    (segs m 𝒱₀ L lv (riding m) () (pdats m) (reg m hX))
    (fun c Q => by
      rewrite [main_chain c, Seg.run_eq_chain,
        show (segs m 𝒱₀ L lv (riding m) () (pdats m) (reg m hX) c).map Seg.prog = [
          StableHlo.seq (hostOps0 c), StableHlo.seq hostOps0_1, StableHlo.seq hostOps0_2, StableHlo.seq hostOps0_3,
          StableHlo.seq hostOps0_4, StableHlo.seq hostOps0_5, StableHlo.seq hostOps0_6,
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne seed u₀
    (by
      unfold u₀ seed
      iintro Hu
      ihave H := (ownU_pair _ _) $$ Hu
      icases H with ⟨HP, HX⟩
      imodintro
      isplitl [HP]; · iexact HP
      rw [keptBy_eq]; iexact HX)
    (fun c => iprop(StableHlo.held (c : Thread nD τ) (Pipeline.ucRefs τ sig) (V0 m c) ∗ riding m 0 c)) (atEnd m)
    (fun c => ⟨.rfl, .rfl, .rfl, .rfl, .rfl, .rfl, .rfl, reg_pre m hX c, reg_post m hX c⟩)
    ?_ (Seen m) (end_read m)
    (fun s h hs => ⟨fun c => ⟨(h c).1, (h c).2.1⟩, sem_eq_zero hs fun c sm hsm => by
      obtain rfl := unscoped_eq sm hsm
      exact (h c).2.2⟩)
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ seed (F := F) c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ seed (F := F) c))
          : sProp 𝕄) := by
    rw [← bigSep_sep']
    exact bigSep_mono fun c _ => by rw [← Pipeline.unscopedBufs_held (Ix := Unit) (Name := ℕ) (U := UU) (Lvl := ℕ) c (V0 m c)]; exact BI.Entails.refl _
  iintro ⟨H, HL⟩
  ihave H := hsplit $$ H
  icases H with ⟨Hh, Hr⟩
  imod (deal m ρ) $$ [Hr HL] with HE
  · isplitl [Hr]; · iexact Hr
    iexact HL
  imodintro
  rw [bigSep_sep']
  isplitl [Hh]; · iexact Hh
  iexact HE

end Cert.Bidir
-- ==== Proof.Words.lean ====
/-
  The four words of the table that every device is launched with: its own number, how far it is from the first device, and its
  two neighbours' numbers.
-/
module

public import proofs.«01_k».proof.Proof.Region
public import Idealize.ShloMosaic.Lib.StableHlo.ReadAt

@[expose] public section

noncomputable section

namespace Cert.Bidir

open Idealize.ShloMosaic Idealize.ShloMosaic.TcCoe Idealize.SL.Sem
open Cert.KernelIdeal Cert.KernelIdeal.Gen

variable {F : FTy → Type} [FloatOps F]

/-- The one index of a scalar. -/
def at0 : S_.Idx := Shape.Idx.first h_S_

theorem at0_eq (i : S_.Idx) : i = at0 := funext fun a => a.elim0

/-- The table of the device numbers, which the program looks each neighbour up in. -/
def tab : S16.Idx → BitVec 32 := fun i => lit0 (S16.rowMajor i)
/-- The table's entry at `n`, as the program reads it. -/
def look (t : S16.Idx → BitVec 32) (n : Int) : BitVec 32 :=
  shapeCast S_ (Host.dynamicSlice S1 t (fun _ => n) sliceFits_S16_S1) shapeCasts_S1_S_ at0

theorem slice_at (t : S16.Idx → BitVec 32) (f : Fin 1 → Int) (i : S_.Idx) :
    shapeCast S_ (Host.dynamicSlice S1 t f sliceFits_S16_S1) shapeCasts_S1_S_ i = look t (f 0) := by
  rw [at0_eq i, show f = fun _ => f 0 from funext fun k => by rw [Subsingleton.elim k 0]]
  rfl

/-- A negative index counts from the end. -/
def wrap (x : BitVec 32) : BitVec 32 := Scalar.select (IntOp.cmpi .slt x 0#32) (IntOp.addi x 16#32) x

/-- The remainder by a word, with the word's sign. -/
def remW (a b : BitVec 32) : BitVec 32 :=
  let b' : BitVec 32 := Scalar.select (IntOp.cmpi .eq b 0#32) (1#32) b
  let r : BitVec 32 := IntOp.remsi ArithUnit.host a b'
  Scalar.select (IntOp.andi (IntOp.cmpi .ne (IntOp.cmpi .slt r 0#32) (IntOp.cmpi .slt b' 0#32)) (IntOp.cmpi .ne r 0#32))
    (IntOp.addi r b') r

theorem v9_at (c : Dev nD) (V : Valuation τ sig (Elt F)) (i : S_.Idx) :
    StableHlo.after (hostOps0 c) V (Proc.devRef .tc main_v9) i
      = look tab (wrap (IntOp.remui ArithUnit.host (IntOp.divui ArithUnit.host (Dev.word c) 1#32) 16#32)).toInt := by
  after_reads_simp
  refine (slice_at _ _ _).trans ?_
  change look tab (BitVec.toInt (StableHlo.upto (hostOps0 c) V 13 (Proc.devRef .tc main_v7) at0)) = _
  congr 2

theorem v10_at (c : Dev nD) (V : Valuation τ sig (Elt F)) (i : S_.Idx) :
    StableHlo.after (hostOps0 c) V (Proc.devRef .tc main_v10) i
      = IntOp.addi (StableHlo.after (hostOps0 c) V (Proc.devRef .tc main_v9) i) 1#32 := by
  after_reads_simp
  rfl

theorem c6_at (c : Dev nD) (V : Valuation τ sig (Elt F)) (i : S_.Idx) :
    StableHlo.after (hostOps0 c) V (Proc.devRef .tc main_c_6) i = 16#32 := by
  after_reads_at

theorem tab_at (c : Dev nD) (V : Valuation τ sig (Elt F)) :
    StableHlo.after (hostOps0 c) V (Proc.devRef .tc main_c) = tab := by
  after_reads_simp
  rfl

theorem v11_at (V : Valuation τ sig (Elt F)) (i : S_.Idx) :
    StableHlo.after hostOps0_1 V (Proc.devRef .tc main_v11) i
      = remW (V (Proc.devRef .tc main_v10) i) (V (Proc.devRef .tc main_c_6) i) := by
  after_reads_at
  rfl

theorem v16_at (V : Valuation τ sig (Elt F)) (i : S_.Idx) :
    StableHlo.after hostOps0_2 V (Proc.devRef .tc main_v16) i
      = look (V (Proc.devRef .tc main_c)) (wrap (V (Proc.devRef .tc main_v11) at0)).toInt := by
  after_reads_simp
  refine (slice_at _ _ _).trans ?_
  change look _ (BitVec.toInt (StableHlo.upto hostOps0_2 V 5 (Proc.devRef .tc main_v14) at0)) = _
  congr 2

theorem v17_at (V : Valuation τ sig (Elt F)) (i : S_.Idx) :
    StableHlo.after hostOps0_2 V (Proc.devRef .tc main_v17) i = IntOp.subi (V (Proc.devRef .tc main_v9) i) 1#32 := by
  after_reads_at

theorem c10_at (V : Valuation τ sig (Elt F)) (i : S_.Idx) :
    StableHlo.after hostOps0_2 V (Proc.devRef .tc main_c_10) i = 16#32 := by
  after_reads_at

theorem v18_at (V : Valuation τ sig (Elt F)) (i : S_.Idx) :
    StableHlo.after hostOps0_3 V (Proc.devRef .tc main_v18) i
      = remW (V (Proc.devRef .tc main_v17) i) (V (Proc.devRef .tc main_c_10) i) := by
  after_reads_at
  rfl

theorem v23_at (V : Valuation τ sig (Elt F)) (i : S_.Idx) :
    StableHlo.after hostOps0_4 V (Proc.devRef .tc main_v23) i
      = look (V (Proc.devRef .tc main_c)) (wrap (V (Proc.devRef .tc main_v18) at0)).toInt := by
  after_reads_simp
  refine (slice_at _ _ _).trans ?_
  change look _ (BitVec.toInt (StableHlo.upto hostOps0_4 V 5 (Proc.devRef .tc main_v21) at0)) = _
  congr 2

theorem v24_at (V : Valuation τ sig (Elt F)) (i : S_.Idx) :
    StableHlo.after hostOps0_4 V (Proc.devRef .tc main_v24) i = IntOp.subi 16#32 (V (Proc.devRef .tc main_v9) i) := by
  after_reads_at

theorem c14_at (V : Valuation τ sig (Elt F)) (i : S_.Idx) :
    StableHlo.after hostOps0_4 V (Proc.devRef .tc main_c_14) i = 16#32 := by
  after_reads_at

theorem v25_at (V : Valuation τ sig (Elt F)) (i : S_.Idx) :
    StableHlo.after hostOps0_5 V (Proc.devRef .tc main_v25) i
      = remW (V (Proc.devRef .tc main_v24) i) (V (Proc.devRef .tc main_c_14) i) := by
  after_reads_at
  rfl

/-- Four words side by side. -/
def cat (a b c d : S1.Idx → BitVec 32) : S4.Idx → BitVec 32 :=
  concatenate S4 0 [⟨S1, a⟩, ⟨S1, b⟩, ⟨S1, c⟩, ⟨S1, d⟩] concatenates_S1_S1_S1_S1_S4_d0

theorem cat_congr {a b c d a' b' c' d' : S1.Idx → BitVec 32} (ha : a = a') (hb : b = b') (hc : c = c') (hd : d = d') :
    cat a b c d = cat a' b' c' d' := by rw [ha, hb, hc, hd]

/-- A scalar as a vector of one entry. -/
def one (a : S_.Idx → BitVec 32) : S1.Idx → BitVec 32 := broadcastInDim S1 ![] bcast_S_S1 a

theorem cat_at (a b c d : S_.Idx → BitVec 32) :
    cat (one a) (one b) (one c) (one d) (at4 0) = a at0 ∧ cat (one a) (one b) (one c) (one d) (at4 1) = b at0
      ∧ cat (one a) (one b) (one c) (one d) (at4 2) = c at0 ∧ cat (one a) (one b) (one c) (one d) (at4 3) = d at0 :=
  ⟨congrArg a (at0_eq _), congrArg b (at0_eq _), congrArg c (at0_eq _), congrArg d (at0_eq _)⟩

theorem v30_at (V : Valuation τ sig (Elt F)) :
    StableHlo.after hostOps0_6 V (Proc.devRef .tc main_v30)
      = cat (one (V (Proc.devRef .tc main_v9))) (one (V (Proc.devRef .tc main_v25))) (one (V (Proc.devRef .tc main_v16)))
          (one (V (Proc.devRef .tc main_v23))) := by
  simp only [StableHlo.after_cons, StableHlo.after_nil]
  refine (StableHlo.nary_result _ _ _ _ _ _).trans (cat_congr ?_ ?_ ?_ ?_)
  · change StableHlo.after (hostOps0_6.take 4) V (Proc.devRef .tc main_v26) = _
    after_reads_simp
    rfl
  · change StableHlo.after (hostOps0_6.take 4) V (Proc.devRef .tc main_v27) = _
    after_reads_simp
    rfl
  · change StableHlo.after (hostOps0_6.take 4) V (Proc.devRef .tc main_v28) = _
    after_reads_simp
    rfl
  · change StableHlo.after (hostOps0_6.take 4) V (Proc.devRef .tc main_v29) = _
    after_reads_simp
    rfl

/-- What the device's number comes to. -/
theorem fold9 : ∀ c : Dev nD, look tab (wrap (IntOp.remui ArithUnit.host (IntOp.divui ArithUnit.host (Dev.word c) 1#32) 16#32)).toInt = w0 c := by
  decide +kernel
theorem fold16 : ∀ c : Dev nD, look tab (wrap (remW (IntOp.addi (w0 c) 1#32) 16#32)).toInt = w2 c := by decide +kernel
theorem fold23 : ∀ c : Dev nD, look tab (wrap (remW (IntOp.subi (w0 c) 1#32) 16#32)).toInt = w3 c := by decide +kernel
theorem fold25 : ∀ c : Dev nD, remW (IntOp.subi 16#32 (w0 c)) 16#32 = w1 c := by decide +kernel

variable (m : (ℓ : Loc nD τ sig) → Buf (Elt F) ℓ)

theorem V1_v9 (c : Dev nD) (i : S_.Idx) : V1 m c main_v9 i = w0 c := (v9_at c (V0 m c) i).trans (fold9 c)
theorem V2_v11 (c : Dev nD) (i : S_.Idx) : V2 m c main_v11 i = remW (IntOp.addi (w0 c) 1#32) 16#32 := by
  rw [show V2 m c main_v11 i = _ from v11_at (V1 m c) i, show V1 m c main_v10 i = _ from v10_at c (V0 m c) i,
    show V1 m c main_c_6 i = _ from c6_at c (V0 m c) i, show StableHlo.after (hostOps0 c) (V0 m c) main_v9 i = _ from V1_v9 m c i]
theorem V2_v9 (c : Dev nD) (i : S_.Idx) : V2 m c main_v9 i = w0 c := by rw [V2_of m c main_v9 (by decide)]; exact V1_v9 m c i
theorem V4_v9 (c : Dev nD) (i : S_.Idx) : V4 m c main_v9 i = w0 c := by
  rw [V4_of m c main_v9 (by decide), V3_of m c main_v9 (by decide)]; exact V2_v9 m c i
theorem V2_tab (c : Dev nD) : V2 m c main_c = tab := by rw [V2_of m c main_c (by decide)]; exact tab_at c (V0 m c)
theorem V4_tab (c : Dev nD) : V4 m c main_c = tab := by
  rw [V4_of m c main_c (by decide), V3_of m c main_c (by decide)]; exact V2_tab m c
theorem V3_v16 (c : Dev nD) (i : S_.Idx) : V3 m c main_v16 i = w2 c := by
  rw [show V3 m c main_v16 i = _ from v16_at (V2 m c) i, V2_tab, V2_v11]; exact fold16 c
theorem V4_v18 (c : Dev nD) (i : S_.Idx) : V4 m c main_v18 i = remW (IntOp.subi (w0 c) 1#32) 16#32 := by
  rw [show V4 m c main_v18 i = _ from v18_at (V3 m c) i, show V3 m c main_v17 i = _ from v17_at (V2 m c) i,
    show V3 m c main_c_10 i = _ from c10_at (V2 m c) i, V2_v9]
theorem V5_v23 (c : Dev nD) (i : S_.Idx) : V5 m c main_v23 i = w3 c := by
  rw [show V5 m c main_v23 i = _ from v23_at (V4 m c) i, V4_tab, V4_v18]; exact fold23 c
theorem V6_v25 (c : Dev nD) (i : S_.Idx) : V6 m c main_v25 i = w1 c := by
  rw [show V6 m c main_v25 i = _ from v25_at (V5 m c) i, show V5 m c main_v24 i = _ from v24_at (V4 m c) i,
    show V5 m c main_c_14 i = _ from c14_at (V4 m c) i, V4_v9]; exact fold25 c

/-- Every device's table holds its words. -/
theorem meta_words (c : Dev nD) : words c (metaV m c) := by
  have h9 : V6 m c main_v9 at0 = w0 c := by
    rw [V6_of m c main_v9 (by decide), V5_of m c main_v9 (by decide)]; exact V4_v9 m c at0
  have h16 : V6 m c main_v16 at0 = w2 c := by
    rw [V6_of m c main_v16 (by decide), V5_of m c main_v16 (by decide), V4_of m c main_v16 (by decide)]; exact V3_v16 m c at0
  have h23 : V6 m c main_v23 at0 = w3 c := by
    rw [V6_of m c main_v23 (by decide)]; exact V5_v23 m c at0
  have h := cat_at (V6 m c main_v9) (V6 m c main_v25) (V6 m c main_v16) (V6 m c main_v23)
  rw [h9, h16, h23, V6_v25] at h
  have e : metaV m c = cat (one (V6 m c main_v9)) (one (V6 m c main_v25)) (one (V6 m c main_v16)) (one (V6 m c main_v23)) :=
    v30_at (V6 m c)
  unfold words
  rw [e]
  exact h

end Cert.Bidir

end
-- ==== Proof.Ref.lean ====
/-
  The reference's run: five host operations in a row, whose result is the product of its two arguments.
-/
module

public import proofs.«01_k».proof.Proof.Gen.ReferenceIdeal
public import Idealize.ShloMosaic.Lib.StableHlo.Run
public import Idealize.ShloMosaic.Lib.Quiescent

@[expose] public section

noncomputable section

namespace Cert.Whole

open Idealize.ShloMosaic Idealize.ShloMosaic.TcCoe Idealize.ShloMosaic.StableHlo Idealize.SL.Sem
open Cert.ReferenceIdeal Cert.ReferenceIdeal.Gen

variable {F : FTy → Type} [FloatOps F]

/-- The reference's operations. -/
abbrev ops : List (HloOp τ sig (Elt F)) :=
  [ unary main_arg0 main_v0 (extf .f32 · bitsLt_bf16_f32),
    unary main_arg1 main_v1 (extf .f32 · bitsLt_bf16_f32),
    binary main_v0 main_v1 main_v2 (fun l r => Host.dotGeneral dot_S8192x8192_S8192x4096_S8192x4096_1_0_0_1_n_n none l r),
    unary main_v2 main_v3 (truncf .bf16 · bitsLt_bf16_f32),
    unary main_v3 main_v4 (extf .f32 · bitsLt_bf16_f32) ]

/-- The product of the whole arrays, cut to the argument type and widened. -/
def prodV (X : FVec F S8192x8192 .bf16) (W : FVec F S8192x4096 .bf16) : FVec F S8192x4096 .f32 :=
  extf .f32 (truncf .bf16 (Host.dotGeneral dot_S8192x8192_S8192x4096_S8192x4096_1_0_0_1_n_n none (extf .f32 X bitsLt_bf16_f32)
    (extf .f32 W bitsLt_bf16_f32)) bitsLt_bf16_f32) bitsLt_bf16_f32

theorem main_eq (c : Dev nD) : main (F := F) c = seq ops := rfl

theorem out_eq (V : Valuation τ sig (Elt F)) :
    after ops V (main_v4 : DevRef τ sig) = prodV (V (main_arg0 : DevRef τ sig)) (V (main_arg1 : DevRef τ sig)) := by
  after_results
  rfl
theorem x_eq (V : Valuation τ sig (Elt F)) : after ops V (main_arg0 : DevRef τ sig) = V (main_arg0 : DevRef τ sig) := by
  after_results
theorem w_eq (V : Valuation τ sig (Elt F)) : after ops V (main_arg1 : DevRef τ sig) = V (main_arg1 : DevRef τ sig) := by
  after_results

theorem refs_none : (Finset.univ.filter fun b : Ref sig .tc => b.isScoped) = ∅ := by decide
theorem sems_none : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., binary_bufs_sub .., unary_bufs_sub .., unary_bufs_sub ..⟩

/-- The reference runs to its end, leaves its arguments as they were and computes their product; it has no semaphore. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v4) = prodV (m ((c.tc : Thread nD τ).loc main_arg0)) (m ((c.tc : Thread nD τ).loc main_arg1)))
      ∧ r.2.sem = fun _ => 0 :=
  (θ_run defs _ _).mono (fun r h => ⟨fun c => ⟨(h c main_arg0).trans (x_eq _), (h c main_arg1).trans (w_eq _),
      (h c main_v4).trans (out_eq _)⟩, sem_eq_zero_of_no_sems rfl r.2⟩)
    (run_seq refs_none sems_none defs main (fun _ => ops) main_eq (fun _ => ops_sub) m ρ)

end Cert.Whole

end
-- ==== Proof.Algebra.lean ====
/-
  The value, over the extended reals. A format change is the identity there, so a device's sum at its last step of the
  reduce-scatter is the sum of all sixteen devices' own products at one chunk, and the gathered chunk is that sum as another
  device made it. Each own product contracts the 512 columns of `x` and rows of `w` that the device holds; the sixteen
  together contract all 8192, which is the reference's product.
-/
module

public import proofs.«01_k».proof.Proof.Bufs
public import proofs.«01_k».proof.Proof.Ref
public import Idealize.ShloMosaic.Lib.Pointwise
public import Idealize.ShloMosaic.Lib.LayoutAt

@[expose] public section

noncomputable section

namespace Cert.Bidir

open Idealize.ShloMosaic Idealize.ShloMosaic.TcCoe Idealize.SL.Sem
open Cert.KernelIdeal Cert.KernelIdeal.Gen

/-! ## The ring's arithmetic -/

theorem chunk_back (d : Fin 2) (c : Dev nD) (j : ℕ) (hj : j < 16) : chunk d ((prv d)^[j] c) (15 - j) = chunk d c 15 := by
  have h : ∀ (d : Fin 2) (c : Dev nD) (j : Fin 16), chunk d ((prv d)^[j.val] c) (15 - j.val) = chunk d c 15 := by decide +kernel
  exact h d c ⟨j, hj⟩
theorem chunk_last (d : Fin 2) (c : Dev nD) (s : ℕ) (hs : s < 16) : chunk d ((prv d)^[s + 1] c) 15 = chunk d c s := by
  have h : ∀ (d : Fin 2) (c : Dev nD) (s : Fin 16), chunk d ((prv d)^[s.val + 1] c) 15 = chunk d c s.val := by decide +kernel
  exact h d c ⟨s, hs⟩
theorem prv_round (d : Fin 2) (c : Dev nD) : (prv d)^[16] c = c := by
  have h : ∀ (d : Fin 2) (c : Dev nD), (prv d)^[16] c = c := by decide +kernel
  exact h d c
theorem prv_inj (d : Fin 2) (c : Dev nD) (j k : Fin 16) (e : (prv d)^[j.val] c = (prv d)^[k.val] c) : j = k := by
  have h : ∀ (d : Fin 2) (c : Dev nD) (j k : Fin 16), (prv d)^[j.val] c = (prv d)^[k.val] c → j = k := by decide +kernel
  exact h d c j k e

/-- A sum along the ring is a sum over the devices. -/
theorem sum_ring (d : Fin 2) (c : Dev nD) (f : Dev nD → EReal) : ∑ j ∈ Finset.range 16, f ((prv d)^[j] c) = ∑ e : Dev nD, f e := by
  rw [Finset.sum_range fun j => f ((prv d)^[j] c)]
  refine Fintype.sum_bijective (fun j : Fin 16 => (prv d)^[j.val] c) ?_ _ _ fun _ => rfl
  exact (Fintype.bijective_iff_injective_and_card _).2 ⟨fun j k e => prv_inj d c j k e, rfl⟩

/-! ## One device's product -/

variable (X : FVec Ideal Cert.ReferenceIdeal.S8192x8192 .bf16) (W : FVec Ideal Cert.ReferenceIdeal.S8192x4096 .bf16)

/-- The share of an entry of the product that a device's columns and rows give. -/
def share (R : Fin 8192) (q : Fin 4096) (c : Dev nD) : EReal :=
  ∑ k : Fin 512, (X (ix2 R (Fin.ofNat 8192 (c.val * 512 + k.val))) * W (ix2 (Fin.ofNat 8192 (c.val * 512 + k.val)) q) : EReal)

/-- The row of the result that a row of a chunk is. -/
def row (d : Fin 2) (k : ℕ) (r : Fin 256) : Fin 8192 := Fin.ofNat 8192 (d.val * 4096 + k * 256 + r.val)

/-- The devices hold the blocks of the whole arrays. -/
def Cut (B : Blocks Ideal) : Prop :=
  ∀ c : Dev nD, B.x c = Layout.block ⟨2, ![8192, 512]⟩ ⟨2, ![8192, 8192]⟩ 1 16 c X
    ∧ B.w c = Layout.block ⟨2, ![512, 4096]⟩ ⟨2, ![8192, 4096]⟩ 0 16 c W

variable {X W} {B : Blocks Ideal}

theorem part_at (h : Cut X W B) (d : Fin 2) (s : ℕ) (hs : s < 16) (c : Dev nD) (i : S256x4096.Idx) :
    part B d s c i = share X W (row d (chunk d c s) (i 0)) (i 1) c := by
  have hk := chunk_lt d c s
  have hc : c.val < 16 := c.isLt
  have hd : d.val < 2 := d.isLt
  have hi : (i 0).val < 256 := (i 0).isLt
  unfold part
  rw [dif_pos hs]
  unfold dotV
  simp only [pointwise]
  unfold share
  refine (zero_add _).trans (Finset.sum_congr rfl fun k _ => ?_)
  have hkk : k.val < 512 := k.isLt
  rw [(h c).1, (h c).2]
  simp only [Layout.block_apply]
  refine congrArg₂ (fun a b : EReal => a * b) (congrArg X (Layout.idx_ext fun b => ?_)) (congrArg W (Layout.idx_ext fun b => ?_))
  · have e := xoff_eq c d s hs
    match b with
    | 0 =>
      refine (Layout.Tiles.idx_val_of_ne _ _ _ _ (by decide)).trans ?_
      show ((pars c).xoff d s) 0 + 1 * (i 0).val = (d.val * 4096 + chunk d c s * 256 + (i 0).val) % 8192
      rw [e]
      show d.val * 4096 + chunk d c s * 256 + 1 * (i 0).val = _
      omega
    | 1 =>
      refine (Layout.Tiles.idx_val_self _ _ _ _ (by decide)).trans ?_
      show c.val * 512 + (((pars c).xoff d s) 1 + 1 * k.val) = (c.val * 512 + k.val) % 8192
      rw [e]
      show c.val * 512 + (0 + 1 * k.val) = _
      omega
  · match b with
    | 0 =>
      refine (Layout.Tiles.idx_val_self _ _ _ _ (by decide)).trans ?_
      show c.val * 512 + (0 + 1 * k.val) = (c.val * 512 + k.val) % 8192
      omega
    | 1 =>
      refine (Layout.Tiles.idx_val_of_ne _ _ _ _ (by decide)).trans ?_
      show 0 + 1 * (i 1).val = (i 1).val
      omega

/-! ## The sum along the ring -/

theorem acc_at (d : Fin 2) (s : ℕ) : ∀ (c : Dev nD) (i : S256x4096.Idx),
    acc B d s c i = ∑ j ∈ Finset.range (s + 1), (part B d (s - j) ((prv d)^[j] c) i : EReal) := by
  induction s with
  | zero => intro c i; exact (Finset.sum_range_one (M := EReal) fun j => part B d (0 - j) ((prv d)^[j] c) i).symm
  | succ s ih =>
    intro c i
    rw [Finset.sum_range_succ', acc]
    simp only [pointwise]
    rw [ih (prv d c) i, add_comm]
    refine congrArg₂ (fun a b : EReal => a + b) (Finset.sum_congr rfl fun j _ => ?_) rfl
    rw [Function.iterate_succ_apply, Nat.add_sub_add_right]

theorem acc_last (h : Cut X W B) (d : Fin 2) (c : Dev nD) (i : S256x4096.Idx) :
    acc B d 15 c i = ∑ e : Dev nD, share X W (row d (chunk d c 15) (i 0)) (i 1) e := by
  rw [acc_at, ← sum_ring d c]
  refine Finset.sum_congr rfl fun j hj => ?_
  have hj' : j < 16 := Finset.mem_range.1 hj
  rw [part_at h d (15 - j) (by omega), chunk_back d c j hj']

theorem gat_eq (d : Fin 2) (s : ℕ) : ∀ c : Dev nD, gat B d s c = snd B d 15 ((prv d)^[s + 1] c) := by
  induction s with
  | zero => intro c; rfl
  | succ s ih => intro c; rw [gat, ih, ← Function.iterate_succ_apply]

theorem outV_at (h : Cut X W B) (d : Fin 2) (s : ℕ) (hs : s < 16) (c : Dev nD) (i : S256x4096.Idx) :
    outV B d s c i = ∑ e : Dev nD, share X W (row d (chunk d c s) (i 0)) (i 1) e := by
  unfold outV
  rw [← chunk_last d c s hs, ← acc_last h]
  split
  · next e => subst e; rw [show (prv d)^[15 + 1] c = c from prv_round d c]
  · rw [gat_eq]
    simp only [pointwise]

/-! ## The whole result -/

theorem prod_at (i : S8192x4096.Idx) : Cert.Whole.prodV X W i = ∑ e : Dev nD, share X W (i 0) (i 1) e := by
  unfold Cert.Whole.prodV
  simp only [pointwise]
  refine (zero_add _).trans ?_
  unfold share
  rw [← Fintype.sum_prod_type' fun (e : Dev nD) (k : Fin 512) =>
    (X (ix2 (i 0) (Fin.ofNat 8192 (e.val * 512 + k.val))) * W (ix2 (Fin.ofNat 8192 (e.val * 512 + k.val)) (i 1)) : EReal)]
  refine (Fintype.sum_equiv (finProdFinEquiv : Fin 16 × Fin 512 ≃ Fin (16 * 512)) _ _ fun p => ?_).symm
  have hp : Fin.ofNat 8192 (p.1.val * 512 + p.2.val) = (finProdFinEquiv p : Fin (16 * 512)) := by
    have h1 := p.1.isLt
    have h2 := p.2.isLt
    apply Fin.ext
    show (p.1.val * 512 + p.2.val) % 8192 = p.2.val + 512 * p.1.val
    omega
  rw [hp]

/-- Every device's result is the reference's. -/
theorem resV_eq (h : Cut X W B) (c : Dev nD) : resV B c = Cert.Whole.prodV X W := by
  funext i
  have h0 : (i 0).val < 8192 := (i 0).isLt
  have h1 : (i 1).val < 4096 := (i 1).isLt
  rw [prod_at]
  unfold resV
  rw [outV_at h _ _ (chunk_lt _ _ _), chunk_chunk _ _ _ (by omega)]
  refine Finset.sum_congr rfl fun e _ => ?_
  refine congrArg₂ (fun R q => share X W R q e) (Fin.ext ?_) (Fin.ext ?_)
  · show ((i 0).val / 4096 % 2 * 4096 + (i 0).val % 4096 / 256 * 256 + (i 0).val % 256 % 256) % 8192 = (i 0).val
    omega
  · show (i 1).val % 4096 = (i 1).val
    omega

end Cert.Bidir

end
-- ==== Proof.Same1.lean ====
/-
  The kernel and the idealized kernel have the same text. Here: their parts 1 to 22 are the same functions.
-/
module

public import proofs.«01_k».proof.Proof.Gen.Kernel
public import proofs.«01_k».proof.Proof.Gen.KernelIdeal

@[expose] public section

set_option maxRecDepth 1000000
set_option maxHeartbeats 40000000

noncomputable section

namespace Cert.Bidir

open Idealize.ShloMosaic

variable {F : FTy → Type} [FloatOps F]

theorem part1_same : Cert.Kernel.k0_part1 (F := F) = Cert.KernelIdeal.k0_part1 (F := F) := rfl
theorem part2_same : Cert.Kernel.k0_part2 (F := F) = Cert.KernelIdeal.k0_part2 (F := F) := rfl
theorem part3_same : Cert.Kernel.k0_part3 (F := F) = Cert.KernelIdeal.k0_part3 (F := F) := rfl
theorem part4_same : Cert.Kernel.k0_part4 (F := F) = Cert.KernelIdeal.k0_part4 (F := F) := rfl
theorem part5_same : Cert.Kernel.k0_part5 (F := F) = Cert.KernelIdeal.k0_part5 (F := F) := rfl
theorem part6_same : Cert.Kernel.k0_part6 (F := F) = Cert.KernelIdeal.k0_part6 (F := F) := rfl
theorem part7_same : Cert.Kernel.k0_part7 (F := F) = Cert.KernelIdeal.k0_part7 (F := F) := rfl
theorem part8_same : Cert.Kernel.k0_part8 (F := F) = Cert.KernelIdeal.k0_part8 (F := F) := rfl
theorem part9_same : Cert.Kernel.k0_part9 (F := F) = Cert.KernelIdeal.k0_part9 (F := F) := rfl
theorem part10_same : Cert.Kernel.k0_part10 (F := F) = Cert.KernelIdeal.k0_part10 (F := F) := rfl
theorem part11_same : Cert.Kernel.k0_part11 (F := F) = Cert.KernelIdeal.k0_part11 (F := F) := rfl
theorem part12_same : Cert.Kernel.k0_part12 (F := F) = Cert.KernelIdeal.k0_part12 (F := F) := rfl
theorem part13_same : Cert.Kernel.k0_part13 (F := F) = Cert.KernelIdeal.k0_part13 (F := F) := rfl
theorem part14_same : Cert.Kernel.k0_part14 (F := F) = Cert.KernelIdeal.k0_part14 (F := F) := rfl
theorem part15_same : Cert.Kernel.k0_part15 (F := F) = Cert.KernelIdeal.k0_part15 (F := F) := rfl
theorem part16_same : Cert.Kernel.k0_part16 (F := F) = Cert.KernelIdeal.k0_part16 (F := F) := rfl
theorem part17_same : Cert.Kernel.k0_part17 (F := F) = Cert.KernelIdeal.k0_part17 (F := F) := rfl
theorem part18_same : Cert.Kernel.k0_part18 (F := F) = Cert.KernelIdeal.k0_part18 (F := F) := rfl
theorem part19_same : Cert.Kernel.k0_part19 (F := F) = Cert.KernelIdeal.k0_part19 (F := F) := rfl
theorem part20_same : Cert.Kernel.k0_part20 (F := F) = Cert.KernelIdeal.k0_part20 (F := F) := rfl
theorem part21_same : Cert.Kernel.k0_part21 (F := F) = Cert.KernelIdeal.k0_part21 (F := F) := rfl
theorem part22_same : Cert.Kernel.k0_part22 (F := F) = Cert.KernelIdeal.k0_part22 (F := F) := rfl

end Cert.Bidir

end
-- ==== Proof.Same2.lean ====
/-
  The kernel and the idealized kernel have the same text. Here: their parts 23 to 44 are the same functions.
-/
module

public import proofs.«01_k».proof.Proof.Gen.Kernel
public import proofs.«01_k».proof.Proof.Gen.KernelIdeal

@[expose] public section

set_option maxRecDepth 1000000
set_option maxHeartbeats 40000000

noncomputable section

namespace Cert.Bidir

open Idealize.ShloMosaic

variable {F : FTy → Type} [FloatOps F]

theorem part23_same : Cert.Kernel.k0_part23 (F := F) = Cert.KernelIdeal.k0_part23 (F := F) := rfl
theorem part24_same : Cert.Kernel.k0_part24 (F := F) = Cert.KernelIdeal.k0_part24 (F := F) := rfl
theorem part25_same : Cert.Kernel.k0_part25 (F := F) = Cert.KernelIdeal.k0_part25 (F := F) := rfl
theorem part26_same : Cert.Kernel.k0_part26 (F := F) = Cert.KernelIdeal.k0_part26 (F := F) := rfl
theorem part27_same : Cert.Kernel.k0_part27 (F := F) = Cert.KernelIdeal.k0_part27 (F := F) := rfl
theorem part28_same : Cert.Kernel.k0_part28 (F := F) = Cert.KernelIdeal.k0_part28 (F := F) := rfl
theorem part29_same : Cert.Kernel.k0_part29 (F := F) = Cert.KernelIdeal.k0_part29 (F := F) := rfl
theorem part30_same : Cert.Kernel.k0_part30 (F := F) = Cert.KernelIdeal.k0_part30 (F := F) := rfl
theorem part31_same : Cert.Kernel.k0_part31 (F := F) = Cert.KernelIdeal.k0_part31 (F := F) := rfl
theorem part32_same : Cert.Kernel.k0_part32 (F := F) = Cert.KernelIdeal.k0_part32 (F := F) := rfl
theorem part33_same : Cert.Kernel.k0_part33 (F := F) = Cert.KernelIdeal.k0_part33 (F := F) := rfl
theorem part34_same : Cert.Kernel.k0_part34 (F := F) = Cert.KernelIdeal.k0_part34 (F := F) := rfl
theorem part35_same : Cert.Kernel.k0_part35 (F := F) = Cert.KernelIdeal.k0_part35 (F := F) := rfl
theorem part36_same : Cert.Kernel.k0_part36 (F := F) = Cert.KernelIdeal.k0_part36 (F := F) := rfl
theorem part37_same : Cert.Kernel.k0_part37 (F := F) = Cert.KernelIdeal.k0_part37 (F := F) := rfl
theorem part38_same : Cert.Kernel.k0_part38 (F := F) = Cert.KernelIdeal.k0_part38 (F := F) := rfl
theorem part39_same : Cert.Kernel.k0_part39 (F := F) = Cert.KernelIdeal.k0_part39 (F := F) := rfl
theorem part40_same : Cert.Kernel.k0_part40 (F := F) = Cert.KernelIdeal.k0_part40 (F := F) := rfl
theorem part41_same : Cert.Kernel.k0_part41 (F := F) = Cert.KernelIdeal.k0_part41 (F := F) := rfl
theorem part42_same : Cert.Kernel.k0_part42 (F := F) = Cert.KernelIdeal.k0_part42 (F := F) := rfl
theorem part43_same : Cert.Kernel.k0_part43 (F := F) = Cert.KernelIdeal.k0_part43 (F := F) := rfl
theorem part44_same : Cert.Kernel.k0_part44 (F := F) = Cert.KernelIdeal.k0_part44 (F := F) := rfl

end Cert.Bidir

end
-- ==== Proof.Same3.lean ====
/-
  The kernel and the idealized kernel have the same text. Here: their parts 45 to 66 are the same functions.
-/
module

public import proofs.«01_k».proof.Proof.Gen.Kernel
public import proofs.«01_k».proof.Proof.Gen.KernelIdeal

@[expose] public section

set_option maxRecDepth 1000000
set_option maxHeartbeats 40000000

noncomputable section

namespace Cert.Bidir

open Idealize.ShloMosaic

variable {F : FTy → Type} [FloatOps F]

theorem part45_same : Cert.Kernel.k0_part45 (F := F) = Cert.KernelIdeal.k0_part45 (F := F) := rfl
theorem part46_same : Cert.Kernel.k0_part46 (F := F) = Cert.KernelIdeal.k0_part46 (F := F) := rfl
theorem part47_same : Cert.Kernel.k0_part47 (F := F) = Cert.KernelIdeal.k0_part47 (F := F) := rfl
theorem part48_same : Cert.Kernel.k0_part48 (F := F) = Cert.KernelIdeal.k0_part48 (F := F) := rfl
theorem part49_same : Cert.Kernel.k0_part49 (F := F) = Cert.KernelIdeal.k0_part49 (F := F) := rfl
theorem part50_same : Cert.Kernel.k0_part50 (F := F) = Cert.KernelIdeal.k0_part50 (F := F) := rfl
theorem part51_same : Cert.Kernel.k0_part51 (F := F) = Cert.KernelIdeal.k0_part51 (F := F) := rfl
theorem part52_same : Cert.Kernel.k0_part52 (F := F) = Cert.KernelIdeal.k0_part52 (F := F) := rfl
theorem part53_same : Cert.Kernel.k0_part53 (F := F) = Cert.KernelIdeal.k0_part53 (F := F) := rfl
theorem part54_same : Cert.Kernel.k0_part54 (F := F) = Cert.KernelIdeal.k0_part54 (F := F) := rfl
theorem part55_same : Cert.Kernel.k0_part55 (F := F) = Cert.KernelIdeal.k0_part55 (F := F) := rfl
theorem part56_same : Cert.Kernel.k0_part56 (F := F) = Cert.KernelIdeal.k0_part56 (F := F) := rfl
theorem part57_same : Cert.Kernel.k0_part57 (F := F) = Cert.KernelIdeal.k0_part57 (F := F) := rfl
theorem part58_same : Cert.Kernel.k0_part58 (F := F) = Cert.KernelIdeal.k0_part58 (F := F) := rfl
theorem part59_same : Cert.Kernel.k0_part59 (F := F) = Cert.KernelIdeal.k0_part59 (F := F) := rfl
theorem part60_same : Cert.Kernel.k0_part60 (F := F) = Cert.KernelIdeal.k0_part60 (F := F) := rfl
theorem part61_same : Cert.Kernel.k0_part61 (F := F) = Cert.KernelIdeal.k0_part61 (F := F) := rfl
theorem part62_same : Cert.Kernel.k0_part62 (F := F) = Cert.KernelIdeal.k0_part62 (F := F) := rfl
theorem part63_same : Cert.Kernel.k0_part63 (F := F) = Cert.KernelIdeal.k0_part63 (F := F) := rfl
theorem part64_same : Cert.Kernel.k0_part64 (F := F) = Cert.KernelIdeal.k0_part64 (F := F) := rfl
theorem part65_same : Cert.Kernel.k0_part65 (F := F) = Cert.KernelIdeal.k0_part65 (F := F) := rfl
theorem part66_same : Cert.Kernel.k0_part66 (F := F) = Cert.KernelIdeal.k0_part66 (F := F) := rfl

end Cert.Bidir

end
-- ==== Proof.Same4.lean ====
/-
  The kernel and the idealized kernel have the same text. Here: their parts 67 to 88 are the same functions.
-/
module

public import proofs.«01_k».proof.Proof.Gen.Kernel
public import proofs.«01_k».proof.Proof.Gen.KernelIdeal

@[expose] public section

set_option maxRecDepth 1000000
set_option maxHeartbeats 40000000

noncomputable section

namespace Cert.Bidir

open Idealize.ShloMosaic

variable {F : FTy → Type} [FloatOps F]

theorem part67_same : Cert.Kernel.k0_part67 (F := F) = Cert.KernelIdeal.k0_part67 (F := F) := rfl
theorem part68_same : Cert.Kernel.k0_part68 (F := F) = Cert.KernelIdeal.k0_part68 (F := F) := rfl
theorem part69_same : Cert.Kernel.k0_part69 (F := F) = Cert.KernelIdeal.k0_part69 (F := F) := rfl
theorem part70_same : Cert.Kernel.k0_part70 (F := F) = Cert.KernelIdeal.k0_part70 (F := F) := rfl
theorem part71_same : Cert.Kernel.k0_part71 (F := F) = Cert.KernelIdeal.k0_part71 (F := F) := rfl
theorem part72_same : Cert.Kernel.k0_part72 (F := F) = Cert.KernelIdeal.k0_part72 (F := F) := rfl
theorem part73_same : Cert.Kernel.k0_part73 (F := F) = Cert.KernelIdeal.k0_part73 (F := F) := rfl
theorem part74_same : Cert.Kernel.k0_part74 (F := F) = Cert.KernelIdeal.k0_part74 (F := F) := rfl
theorem part75_same : Cert.Kernel.k0_part75 (F := F) = Cert.KernelIdeal.k0_part75 (F := F) := rfl
theorem part76_same : Cert.Kernel.k0_part76 (F := F) = Cert.KernelIdeal.k0_part76 (F := F) := rfl
theorem part77_same : Cert.Kernel.k0_part77 (F := F) = Cert.KernelIdeal.k0_part77 (F := F) := rfl
theorem part78_same : Cert.Kernel.k0_part78 (F := F) = Cert.KernelIdeal.k0_part78 (F := F) := rfl
theorem part79_same : Cert.Kernel.k0_part79 (F := F) = Cert.KernelIdeal.k0_part79 (F := F) := rfl
theorem part80_same : Cert.Kernel.k0_part80 (F := F) = Cert.KernelIdeal.k0_part80 (F := F) := rfl
theorem part81_same : Cert.Kernel.k0_part81 (F := F) = Cert.KernelIdeal.k0_part81 (F := F) := rfl
theorem part82_same : Cert.Kernel.k0_part82 (F := F) = Cert.KernelIdeal.k0_part82 (F := F) := rfl
theorem part83_same : Cert.Kernel.k0_part83 (F := F) = Cert.KernelIdeal.k0_part83 (F := F) := rfl
theorem part84_same : Cert.Kernel.k0_part84 (F := F) = Cert.KernelIdeal.k0_part84 (F := F) := rfl
theorem part85_same : Cert.Kernel.k0_part85 (F := F) = Cert.KernelIdeal.k0_part85 (F := F) := rfl
theorem part86_same : Cert.Kernel.k0_part86 (F := F) = Cert.KernelIdeal.k0_part86 (F := F) := rfl
theorem part87_same : Cert.Kernel.k0_part87 (F := F) = Cert.KernelIdeal.k0_part87 (F := F) := rfl
theorem part88_same : Cert.Kernel.k0_part88 (F := F) = Cert.KernelIdeal.k0_part88 (F := F) := rfl

end Cert.Bidir

end
-- ==== Proof.Same5.lean ====
/-
  The kernel and the idealized kernel have the same text. Here: their parts 89 to 110 are the same functions.
-/
module

public import proofs.«01_k».proof.Proof.Gen.Kernel
public import proofs.«01_k».proof.Proof.Gen.KernelIdeal

@[expose] public section

set_option maxRecDepth 1000000
set_option maxHeartbeats 40000000

noncomputable section

namespace Cert.Bidir

open Idealize.ShloMosaic

variable {F : FTy → Type} [FloatOps F]

theorem part89_same : Cert.Kernel.k0_part89 (F := F) = Cert.KernelIdeal.k0_part89 (F := F) := rfl
theorem part90_same : Cert.Kernel.k0_part90 (F := F) = Cert.KernelIdeal.k0_part90 (F := F) := rfl
theorem part91_same : Cert.Kernel.k0_part91 (F := F) = Cert.KernelIdeal.k0_part91 (F := F) := rfl
theorem part92_same : Cert.Kernel.k0_part92 (F := F) = Cert.KernelIdeal.k0_part92 (F := F) := rfl
theorem part93_same : Cert.Kernel.k0_part93 (F := F) = Cert.KernelIdeal.k0_part93 (F := F) := rfl
theorem part94_same : Cert.Kernel.k0_part94 (F := F) = Cert.KernelIdeal.k0_part94 (F := F) := rfl
theorem part95_same : Cert.Kernel.k0_part95 (F := F) = Cert.KernelIdeal.k0_part95 (F := F) := rfl
theorem part96_same : Cert.Kernel.k0_part96 (F := F) = Cert.KernelIdeal.k0_part96 (F := F) := rfl
theorem part97_same : Cert.Kernel.k0_part97 (F := F) = Cert.KernelIdeal.k0_part97 (F := F) := rfl
theorem part98_same : Cert.Kernel.k0_part98 (F := F) = Cert.KernelIdeal.k0_part98 (F := F) := rfl
theorem part99_same : Cert.Kernel.k0_part99 (F := F) = Cert.KernelIdeal.k0_part99 (F := F) := rfl
theorem part100_same : Cert.Kernel.k0_part100 (F := F) = Cert.KernelIdeal.k0_part100 (F := F) := rfl
theorem part101_same : Cert.Kernel.k0_part101 (F := F) = Cert.KernelIdeal.k0_part101 (F := F) := rfl
theorem part102_same : Cert.Kernel.k0_part102 (F := F) = Cert.KernelIdeal.k0_part102 (F := F) := rfl
theorem part103_same : Cert.Kernel.k0_part103 (F := F) = Cert.KernelIdeal.k0_part103 (F := F) := rfl
theorem part104_same : Cert.Kernel.k0_part104 (F := F) = Cert.KernelIdeal.k0_part104 (F := F) := rfl
theorem part105_same : Cert.Kernel.k0_part105 (F := F) = Cert.KernelIdeal.k0_part105 (F := F) := rfl
theorem part106_same : Cert.Kernel.k0_part106 (F := F) = Cert.KernelIdeal.k0_part106 (F := F) := rfl
theorem part107_same : Cert.Kernel.k0_part107 (F := F) = Cert.KernelIdeal.k0_part107 (F := F) := rfl
theorem part108_same : Cert.Kernel.k0_part108 (F := F) = Cert.KernelIdeal.k0_part108 (F := F) := rfl
theorem part109_same : Cert.Kernel.k0_part109 (F := F) = Cert.KernelIdeal.k0_part109 (F := F) := rfl
theorem part110_same : Cert.Kernel.k0_part110 (F := F) = Cert.KernelIdeal.k0_part110 (F := F) := rfl

end Cert.Bidir

end
-- ==== Proof.Same6.lean ====
/-
  The kernel and the idealized kernel have the same text. Here: their parts 111 to 132 are the same functions.
-/
module

public import proofs.«01_k».proof.Proof.Gen.Kernel
public import proofs.«01_k».proof.Proof.Gen.KernelIdeal

@[expose] public section

set_option maxRecDepth 1000000
set_option maxHeartbeats 40000000

noncomputable section

namespace Cert.Bidir

open Idealize.ShloMosaic

variable {F : FTy → Type} [FloatOps F]

theorem part111_same : Cert.Kernel.k0_part111 (F := F) = Cert.KernelIdeal.k0_part111 (F := F) := rfl
theorem part112_same : Cert.Kernel.k0_part112 (F := F) = Cert.KernelIdeal.k0_part112 (F := F) := rfl
theorem part113_same : Cert.Kernel.k0_part113 (F := F) = Cert.KernelIdeal.k0_part113 (F := F) := rfl
theorem part114_same : Cert.Kernel.k0_part114 (F := F) = Cert.KernelIdeal.k0_part114 (F := F) := rfl
theorem part115_same : Cert.Kernel.k0_part115 (F := F) = Cert.KernelIdeal.k0_part115 (F := F) := rfl
theorem part116_same : Cert.Kernel.k0_part116 (F := F) = Cert.KernelIdeal.k0_part116 (F := F) := rfl
theorem part117_same : Cert.Kernel.k0_part117 (F := F) = Cert.KernelIdeal.k0_part117 (F := F) := rfl
theorem part118_same : Cert.Kernel.k0_part118 (F := F) = Cert.KernelIdeal.k0_part118 (F := F) := rfl
theorem part119_same : Cert.Kernel.k0_part119 (F := F) = Cert.KernelIdeal.k0_part119 (F := F) := rfl
theorem part120_same : Cert.Kernel.k0_part120 (F := F) = Cert.KernelIdeal.k0_part120 (F := F) := rfl
theorem part121_same : Cert.Kernel.k0_part121 (F := F) = Cert.KernelIdeal.k0_part121 (F := F) := rfl
theorem part122_same : Cert.Kernel.k0_part122 (F := F) = Cert.KernelIdeal.k0_part122 (F := F) := rfl
theorem part123_same : Cert.Kernel.k0_part123 (F := F) = Cert.KernelIdeal.k0_part123 (F := F) := rfl
theorem part124_same : Cert.Kernel.k0_part124 (F := F) = Cert.KernelIdeal.k0_part124 (F := F) := rfl
theorem part125_same : Cert.Kernel.k0_part125 (F := F) = Cert.KernelIdeal.k0_part125 (F := F) := rfl
theorem part126_same : Cert.Kernel.k0_part126 (F := F) = Cert.KernelIdeal.k0_part126 (F := F) := rfl
theorem part127_same : Cert.Kernel.k0_part127 (F := F) = Cert.KernelIdeal.k0_part127 (F := F) := rfl
theorem part128_same : Cert.Kernel.k0_part128 (F := F) = Cert.KernelIdeal.k0_part128 (F := F) := rfl
theorem part129_same : Cert.Kernel.k0_part129 (F := F) = Cert.KernelIdeal.k0_part129 (F := F) := rfl
theorem part130_same : Cert.Kernel.k0_part130 (F := F) = Cert.KernelIdeal.k0_part130 (F := F) := rfl
theorem part131_same : Cert.Kernel.k0_part131 (F := F) = Cert.KernelIdeal.k0_part131 (F := F) := rfl
theorem part132_same : Cert.Kernel.k0_part132 (F := F) = Cert.KernelIdeal.k0_part132 (F := F) := rfl

end Cert.Bidir

end
-- ==== Proof.Same.lean ====
/-
  The kernel and the idealized kernel have the same text. Here: the three parts that call the others,
  the body, and the table of bodies.
-/
module

public import proofs.«01_k».proof.Proof.Same1
public import proofs.«01_k».proof.Proof.Same2
public import proofs.«01_k».proof.Proof.Same3
public import proofs.«01_k».proof.Proof.Same4
public import proofs.«01_k».proof.Proof.Same5
public import proofs.«01_k».proof.Proof.Same6

@[expose] public section

set_option maxRecDepth 1000000
set_option maxHeartbeats 40000000

noncomputable section

namespace Cert.Bidir

open Idealize.ShloMosaic

variable {F : FTy → Type} [FloatOps F]

theorem part133_same : Cert.Kernel.k0_part133 (F := F) = Cert.KernelIdeal.k0_part133 (F := F) := by
  delta Cert.Kernel.k0_part133 Cert.KernelIdeal.k0_part133
  simp only [part1_same, part2_same, part3_same, part4_same, part5_same, part6_same, part7_same, part8_same, part9_same,
    part10_same, part11_same, part12_same, part13_same, part14_same, part15_same, part16_same, part17_same, part18_same,
    part19_same, part20_same, part21_same, part22_same, part23_same, part24_same, part25_same, part26_same, part27_same,
    part28_same, part29_same, part30_same, part31_same, part32_same, part33_same, part34_same, part35_same, part36_same,
    part37_same, part38_same, part39_same, part40_same, part41_same, part42_same, part43_same, part44_same, part45_same,
    part46_same, part47_same, part48_same, part49_same, part50_same, part51_same, part52_same, part53_same, part54_same,
    part55_same, part56_same, part57_same, part58_same, part59_same, part60_same]
  rfl

theorem part134_same : Cert.Kernel.k0_part134 (F := F) = Cert.KernelIdeal.k0_part134 (F := F) := by
  delta Cert.Kernel.k0_part134 Cert.KernelIdeal.k0_part134
  simp only [part61_same, part62_same, part63_same, part64_same, part65_same, part66_same, part67_same, part68_same,
    part69_same, part70_same, part71_same, part72_same, part73_same, part74_same, part75_same, part76_same, part77_same,
    part78_same, part79_same, part80_same, part81_same, part82_same, part83_same, part84_same, part85_same, part86_same,
    part87_same, part88_same, part89_same, part90_same, part91_same, part92_same, part93_same, part94_same, part95_same,
    part96_same, part97_same, part98_same, part99_same, part100_same, part101_same, part102_same, part103_same, part104_same,
    part105_same, part106_same, part107_same, part108_same, part109_same, part110_same, part111_same, part112_same,
    part113_same, part114_same, part115_same, part116_same, part117_same, part118_same, part119_same, part120_same]
  rfl

theorem part135_same : Cert.Kernel.k0_part135 (F := F) = Cert.KernelIdeal.k0_part135 (F := F) := by
  delta Cert.Kernel.k0_part135 Cert.KernelIdeal.k0_part135
  simp only [part121_same, part122_same, part123_same, part124_same, part125_same, part126_same, part127_same, part128_same,
    part129_same, part130_same, part131_same, part132_same]
  rfl

/-- The bodies are one function. -/
theorem body_same : Cert.Kernel.cc0_body (F := F) = Cert.KernelIdeal.cc0_body (F := F) := by
  delta Cert.Kernel.cc0_body Cert.KernelIdeal.cc0_body
  simp only [part133_same, part134_same, part135_same]
  rfl

theorem defs₀_same : Cert.Kernel.defs₀ (F := F) = Cert.KernelIdeal.defs₀ (F := F) := by
  delta Cert.Kernel.defs₀ Cert.KernelIdeal.defs₀
  simp only [body_same]
  refine congrArg Defs.onTc (funext fun x => funext fun y => ?_)
  match x, y with
  | ⟨0, _⟩, (_, _) => rfl
  | ⟨_ + 1, h⟩, _ => exact absurd h (Nat.not_lt.2 (Nat.le_add_left _ _))

/-- So are the tables of bodies. -/
theorem defs_same : Cert.Kernel.defs (F := F) = Cert.KernelIdeal.defs (F := F) := by
  delta Cert.Kernel.defs Cert.KernelIdeal.defs
  simp only [defs₀_same]
  rfl

end Cert.Bidir

end
-- ==== Proof.SameMain.lean ====
/-
  The kernel and the idealized kernel have the same text. Here: the functions `main`.
-/
module

public import proofs.«01_k».proof.Proof.Gen.Kernel.Launch
public import proofs.«01_k».proof.Proof.Gen.KernelIdeal.Launch

@[expose] public section

set_option maxRecDepth 1000000
set_option maxHeartbeats 40000000

noncomputable section

namespace Cert.Bidir

open Idealize.ShloMosaic

variable {F : FTy → Type} [FloatOps F]

theorem ops0_same (c : Dev Cert.Kernel.nD) : Cert.Kernel.Gen.hostOps0 (F := F) c = Cert.KernelIdeal.Gen.hostOps0 c := rfl
theorem ops1_same : Cert.Kernel.Gen.hostOps0_1 (F := F) = Cert.KernelIdeal.Gen.hostOps0_1 := rfl
theorem ops2_same : Cert.Kernel.Gen.hostOps0_2 (F := F) = Cert.KernelIdeal.Gen.hostOps0_2 := rfl
theorem ops3_same : Cert.Kernel.Gen.hostOps0_3 (F := F) = Cert.KernelIdeal.Gen.hostOps0_3 := rfl
theorem ops4_same : Cert.Kernel.Gen.hostOps0_4 (F := F) = Cert.KernelIdeal.Gen.hostOps0_4 := rfl
theorem ops5_same : Cert.Kernel.Gen.hostOps0_5 (F := F) = Cert.KernelIdeal.Gen.hostOps0_5 := rfl
theorem ops6_same : Cert.Kernel.Gen.hostOps0_6 (F := F) = Cert.KernelIdeal.Gen.hostOps0_6 := rfl

theorem main_same : Cert.Kernel.main (F := F) = Cert.KernelIdeal.main (F := F) := by
  funext c
  refine (Cert.Kernel.Gen.main_chain c).trans (Eq.trans ?_ (Cert.KernelIdeal.Gen.main_chain c).symm)
  rw [ops0_same, ops1_same, ops2_same, ops3_same, ops4_same, ops5_same, ops6_same]

end Cert.Bidir

end
-- ==== Proof.Claims.lean ====
/-
  The claims.
-/
module

public import proofs.«01_k».proof.Defs
public import proofs.«01_k».proof.Proof.Launch
public import proofs.«01_k».proof.Proof.Words
public import proofs.«01_k».proof.Proof.Algebra
public import proofs.«01_k».proof.Proof.Same
public import proofs.«01_k».proof.Proof.SameMain

@[expose] public section

noncomputable section

namespace Cert.Bidir

open Idealize.ShloMosaic Idealize.ShloMosaic.TcCoe Idealize.SL.Sem
open Cert.KernelIdeal Cert.KernelIdeal.Gen

/-- The idealized kernel ends with its arguments as they were and every counter at zero. -/
theorem ends_kernelIdeal : Cert.quiescent_KernelIdeal (hKernelIdeal := Cert.KernelIdeal.Gen.facts) := fun m ρ _ =>
  (θ_run defs _ _).mono (fun _ h => ⟨fun c => (h.1 c).1, h.2⟩) (run_main m (meta_words m) ρ)

/-- The kernel's run, read in the idealized kernel's names. -/
theorem run_kernel {F : FTy → Type} [FloatOps F] (m : (ℓ : Loc nD τ sig) → Buf (Elt F) ℓ) (ρ : Dev nD → PrngReg) :
    θ_run Cert.Kernel.defs (onTc (τ := τ) (Cert.Kernel.main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) := by
  rw [defs_same, main_same]
  exact (θ_run defs _ _).mono (fun _ h => ⟨fun c => (h.1 c).1, h.2⟩) (run_main m (meta_words m) ρ)

/-- The kernel over words ends with its arguments as they were and every counter at zero. -/
theorem ends_kernel : Cert.quiescent_Kernel (hKernel := Cert.Kernel.Gen.facts) := fun m ρ _ => run_kernel m ρ

/-- The reference does too. -/
theorem ends_reference : Cert.quiescent_ReferenceIdeal (hReferenceIdeal := Cert.ReferenceIdeal.Gen.facts) := fun m ρ _ =>
  (θ_run Cert.ReferenceIdeal.defs _ _).mono (fun _ h => ⟨fun c => ⟨(h.1 c).1, (h.1 c).2.1⟩, h.2⟩) (Cert.Whole.run m ρ)

/-- The arguments of the launch are the blocks of the reference's. -/
theorem cut_of (m : (ℓ : Loc nD τ sig) → Buf (Elt Ideal) ℓ) (X : FVec Ideal Cert.ReferenceIdeal.S8192x8192 .bf16)
    (W : FVec Ideal Cert.ReferenceIdeal.S8192x4096 .bf16)
    (hx : ∀ c : Dev nD, m ((c.tc : Thread nD τ).loc main_arg0) = Layout.block ⟨2, ![8192, 512]⟩ ⟨2, ![8192, 8192]⟩ 1 16 c X)
    (hw : ∀ c : Dev nD, m ((c.tc : Thread nD τ).loc main_arg1) = Layout.block ⟨2, ![512, 4096]⟩ ⟨2, ![8192, 4096]⟩ 0 16 c W) :
    Cut X W (blocks m) := by
  intro c
  constructor
  · rw [← hx c]
    exact arg0_eq m c
  · rw [← hw c]
    exact arg1_eq m c

/-- On every device the idealized kernel's result is the reference's. -/
theorem same_value : Cert.algebraic_KernelIdeal_ReferenceIdeal (hKernelIdeal := Cert.KernelIdeal.Gen.facts)
    (hReferenceIdeal := Cert.ReferenceIdeal.Gen.facts) := fun m ρ m' ρ' _ h =>
  ⟨Cert.Whole.prodV (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run defs _ _).mono
      (fun _ r c => ⟨(r.1 c).2.trans (resV_eq (cut_of m _ _ (fun c => (h c).1) (fun c => (h c).2)) c), (r.1 c).1⟩)
      (run_main m (meta_words m) ρ),
    (θ_run Cert.ReferenceIdeal.defs _ _).mono (fun _ r => ⟨(r.1 0).2.2, (r.1 0).1, (r.1 0).2.1⟩) (Cert.Whole.run m' ρ')⟩

end Cert.Bidir

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The five claims. -/
theorem claim : Cert.Claim := ⟨Cert.Kernel.Gen.facts, Cert.KernelIdeal.Gen.facts, Cert.ReferenceIdeal.Gen.facts,
  Cert.Bidir.ends_kernel, Cert.Bidir.ends_kernelIdeal, Cert.Bidir.ends_reference, trivial, Cert.Bidir.same_value⟩

end Cert.Proof

end
